-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v1_0)) (v4 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v1_0) = v3 c
          ∧ r.2.mem ((c.tc : Thread Cert.Kernel2Ideal.nD Cert.Kernel2Ideal.τ).loc Cert.Kernel2Ideal.main_v1_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v46) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)

variable [Facts]

def fn {F : FTy → Type} [FloatOps F] (main_arg0 : FVec F S8192x8x192 .bf16) (main_arg1 : FVec F S8192x8x192 .bf16) (main_arg2 : FVec F S8192x8x128 .bf16) (main_arg3 : FVec F S8192x8x128 .bf16) : IVec S8192x8x192 1 × IVec S8192x8x192 1 × IVec S8192x8x128 1 × IVec S8192x8x128 1 :=
  let main_v0 : FVec F S8192x8x192 .bf16 := Host.absf main_arg0
  let main_cst : FVec F S_ .bf16 := constant S_ .bf16 0x7F80#16
  let main_v1 : FVec F S8192x8x192 .bf16 := broadcastInDim S8192x8x192 ![] bcast_S_S8192x8x192 main_cst
  let main_v2 : IVec S8192x8x192 1 := cmpf .olt main_v0 main_v1
  let main_v3 : FVec F S8192x8x192 .bf16 := Host.absf main_arg1
  let main_cst_0 : FVec F S_ .bf16 := constant S_ .bf16 0x7F80#16
  let main_v4 : FVec F S8192x8x192 .bf16 := broadcastInDim S8192x8x192 ![] bcast_S_S8192x8x192 main_cst_0
  let main_v5 : IVec S8192x8x192 1 := cmpf .olt main_v3 main_v4
  let main_v6 : FVec F S8192x8x128 .bf16 := Host.absf main_arg2
  let main_cst_1 : FVec F S_ .bf16 := constant S_ .bf16 0x7F80#16
  let main_v7 : FVec F S8192x8x128 .bf16 := broadcastInDim S8192x8x128 ![] bcast_S_S8192x8x128 main_cst_1
  let main_v8 : IVec S8192x8x128 1 := cmpf .olt main_v6 main_v7
  let main_v9 : FVec F S8192x8x128 .bf16 := Host.absf main_arg3
  let main_cst_2 : FVec F S_ .bf16 := constant S_ .bf16 0x7F80#16
  let main_v10 : FVec F S8192x8x128 .bf16 := broadcastInDim S8192x8x128 ![] bcast_S_S8192x8x128 main_cst_2
  let main_v11 : IVec S8192x8x128 1 := cmpf .olt main_v9 main_v10
  (main_v2, main_v5, main_v8, main_v11)
-- ==== Pre_finite2.lean ====
abbrev S8192x2048 : Shape := ⟨2, ![8192, 2048]⟩
abbrev S8x2x2048x704 : Shape := ⟨4, ![8, 2, 2048, 704]⟩
abbrev S8x2x704x2048 : Shape := ⟨4, ![8, 2, 704, 2048]⟩
abbrev S_ : Shape := ⟨0, ![]⟩

class Facts : Prop where
  bcast_S_S8192x2048 : S_.BroadcastsInDim S8192x2048 (![] : Fin 0 → Fin S8192x2048.rank)
  bcast_S_S8x2x2048x704 : S_.BroadcastsInDim S8x2x2048x704 (![] : Fin 0 → Fin S8x2x2048x704.rank)
  bcast_S_S8x2x704x2048 : S_.BroadcastsInDim S8x2x704x2048 (![] : Fin 0 → Fin S8x2x704x2048.rank)

variable [Facts]

def fn {F : FTy → Type} [FloatOps F] (main_arg0 : FVec F S8192x2048 .bf16) (main_arg1 : FVec F S8x2x2048x704 .bf16) (main_arg2 : FVec F S8x2x2048x704 .bf16) (main_arg3 : FVec F S8x2x704x2048 .bf16) (main_arg4 : FVec F S8192x2048 .bf16) : IVec S8192x2048 1 × IVec S8x2x2048x704 1 × IVec S8x2x2048x704 1 × IVec S8x2x704x2048 1 × IVec S8192x2048 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8x2x2048x704 .bf16 := Host.absf main_arg1
  let main_cst_0 : FVec F S_ .bf16 := constant S_ .bf16 0x7F80#16
  let main_v4 : FVec F S8x2x2048x704 .bf16 := broadcastInDim S8x2x2048x704 ![] bcast_S_S8x2x2048x704 main_cst_0
  let main_v5 : IVec S8x2x2048x704 1 := cmpf .olt main_v3 main_v4
  let main_v6 : FVec F S8x2x2048x704 .bf16 := Host.absf main_arg2
  let main_cst_1 : FVec F S_ .bf16 := constant S_ .bf16 0x7F80#16
  let main_v7 : FVec F S8x2x2048x704 .bf16 := broadcastInDim S8x2x2048x704 ![] bcast_S_S8x2x2048x704 main_cst_1
  let main_v8 : IVec S8x2x2048x704 1 := cmpf .olt main_v6 main_v7
  let main_v9 : FVec F S8x2x704x2048 .bf16 := Host.absf main_arg3
  let main_cst_2 : FVec F S_ .bf16 := constant S_ .bf16 0x7F80#16
  let main_v10 : FVec F S8x2x704x2048 .bf16 := broadcastInDim S8x2x704x2048 ![] bcast_S_S8x2x704x2048 main_cst_2
  let main_v11 : IVec S8x2x704x2048 1 := cmpf .olt main_v9 main_v10
  let main_v12 : FVec F S8192x2048 .bf16 := Host.absf main_arg4
  let main_cst_3 : FVec F S_ .bf16 := constant S_ .bf16 0x7F80#16
  let main_v13 : FVec F S8192x2048 .bf16 := broadcastInDim S8192x2048 ![] bcast_S_S8192x2048 main_cst_3
  let main_v14 : IVec S8192x2048 1 := cmpf .olt main_v12 main_v13
  (main_v2, main_v5, main_v8, main_v11, main_v14)
-- ==== Kernel.lean ====
abbrev S8192x8x192 : Shape := ⟨3, ![8192, 8, 192]⟩
abbrev S8192x8x128 : Shape := ⟨3, ![8192, 8, 128]⟩
abbrev S8x192x8192 : Shape := ⟨3, ![8, 192, 8192]⟩
abbrev S8x8192x192 : Shape := ⟨3, ![8, 8192, 192]⟩
abbrev S16x512x8x128 : Shape := ⟨4, ![16, 512, 8, 128]⟩
abbrev S8x16x128x512 : Shape := ⟨4, ![8, 16, 128, 512]⟩
abbrev S8x128x8192 : Shape := ⟨3, ![8, 128, 8192]⟩
abbrev S8x1x8192 : Shape := ⟨3, ![8, 1, 8192]⟩
abbrev S1x192x512 : Shape := ⟨3, ![1, 192, 512]⟩
abbrev S1x8192x192 : Shape := ⟨3, ![1, 8192, 192]⟩
abbrev S1x16x128x512 : Shape := ⟨4, ![1, 16, 128, 512]⟩
abbrev S1x128x512 : Shape := ⟨3, ![1, 128, 512]⟩
abbrev S1x1x512 : Shape := ⟨3, ![1, 1, 512]⟩
abbrev S1x512 : Shape := ⟨2, ![1, 512]⟩
abbrev S128x512 : Shape := ⟨2, ![128, 512]⟩
abbrev S192x512 : Shape := ⟨2, ![192, 512]⟩
abbrev S1x512x192 : Shape := ⟨3, ![1, 512, 192]⟩
abbrev S512x192 : Shape := ⟨2, ![512, 192]⟩
abbrev S512x512 : Shape := ⟨2, ![512, 512]⟩
abbrev S512 : Shape := ⟨1, ![512]⟩
abbrev S1x1x128x512 : Shape := ⟨4, ![1, 1, 128, 512]⟩
abbrev S8x128x1024 : Shape := ⟨3, ![8, 128, 1024]⟩
abbrev S8x1x1024 : Shape := ⟨3, ![8, 1, 1024]⟩
abbrev S8x1024 : Shape := ⟨2, ![8, 1024]⟩
abbrev S8x8192x1 : Shape := ⟨3, ![8, 8192, 1]⟩
abbrev S16x512x8x192 : Shape := ⟨4, ![16, 512, 8, 192]⟩
abbrev S8x16x192x512 : Shape := ⟨4, ![8, 16, 192, 512]⟩
abbrev S8x8192x128 : Shape := ⟨3, ![8, 8192, 128]⟩
abbrev S1x16x192x512 : Shape := ⟨4, ![1, 16, 192, 512]⟩
abbrev S1x512x128 : Shape := ⟨3, ![1, 512, 128]⟩
abbrev S1x512x1 : Shape := ⟨3, ![1, 512, 1]⟩
abbrev S16x192x512 : Shape := ⟨3, ![16, 192, 512]⟩
abbrev S16x128x512 : Shape := ⟨3, ![16, 128, 512]⟩
abbrev S1x1x192x512 : Shape := ⟨4, ![1, 1, 192, 512]⟩
abbrev S512x1 : Shape := ⟨2, ![512, 1]⟩
abbrev S512x128 : Shape := ⟨2, ![512, 128]⟩

abbrev nBuf : Space → Nat
  | .hbm => 21
  | .vmem => 38
  | .smem => 0
  | _ => 0

abbrev bufTy : (tb : Table) → Fin (tcTables nBuf tb) → BufTy
  | .hbm, ⟨0, _⟩ => ⟨S8192x8x192, .bf16⟩
  | .hbm, ⟨1, _⟩ => ⟨S8192x8x192, .bf16⟩
  | .hbm, ⟨2, _⟩ => ⟨S8192x8x128, .bf16⟩
  | .hbm, ⟨3, _⟩ => ⟨S8192x8x128, .bf16⟩
  | .hbm, ⟨4, _⟩ => ⟨S8x192x8192, .bf16⟩
  | .hbm, ⟨5, _⟩ => ⟨S8x8192x192, .bf16⟩
  | .hbm, ⟨6, _⟩ => ⟨S16x512x8x128, .bf16⟩
  | .hbm, ⟨7, _⟩ => ⟨S8x16x128x512, .bf16⟩
  | .hbm, ⟨8, _⟩ => ⟨S8x128x8192, .bf16⟩
  | .hbm, ⟨9, _⟩ => ⟨S8x128x8192, .bf16⟩
  | .hbm, ⟨10, _⟩ => ⟨S8x1x8192, .f32⟩
  | .hbm, ⟨11, _⟩ => ⟨S8x1x8192, .f32⟩
  | .hbm, ⟨12, _⟩ => ⟨S8x8192x1, .f32⟩
  | .hbm, ⟨13, _⟩ => ⟨S8x8192x192, .bf16⟩
  | .hbm, ⟨14, _⟩ => ⟨S16x512x8x192, .bf16⟩
  | .hbm, ⟨15, _⟩ => ⟨S8x16x192x512, .bf16⟩
  | .hbm, ⟨16, _⟩ => ⟨S8x8192x128, .bf16⟩
  | .hbm, ⟨17, _⟩ => ⟨S8x8192x1, .f32⟩
  | .hbm, ⟨18, _⟩ => ⟨S8x8192x192, .f32⟩
  | .hbm, ⟨19, _⟩ => ⟨S8x16x192x512, .f32⟩
  | .hbm, ⟨20, _⟩ => ⟨S8x16x128x512, .f32⟩
  | .local _ .vmem, ⟨0, _⟩ => ⟨S1x192x512, .bf16⟩
  | .local _ .vmem, ⟨1, _⟩ => ⟨S1x192x512, .bf16⟩
  | .local _ .vmem, ⟨2, _⟩ => ⟨S1x8192x192, .bf16⟩
  | .local _ .vmem, ⟨3, _⟩ => ⟨S1x16x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S8x128x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S8x128x1024, .bf16⟩
  | .local _ .vmem, ⟨15, _⟩ => ⟨S8x1x1024, .f32⟩
  | .local _ .vmem, ⟨16, _⟩ => ⟨S8x1x1024, .f32⟩
  | .local _ .vmem, ⟨17, _⟩ => ⟨S1x16x128x512, .bf16⟩
  | .local _ .vmem, ⟨18, _⟩ => ⟨S1x8192x192, .bf16⟩
  | .local _ .vmem, ⟨19, _⟩ => ⟨S1x16x192x512, .bf16⟩
  | .local _ .vmem, ⟨20, _⟩ => ⟨S1x512x192, .bf16⟩
  | .local _ .vmem, ⟨21, _⟩ => ⟨S1x512x192, .bf16⟩
  | .local _ .vmem, ⟨22, _⟩ => ⟨S1x192x512, .bf16⟩
  | .local _ .vmem, ⟨23, _⟩ => ⟨S1x192x512, .bf16⟩
  | .local _ .vmem, ⟨24, _⟩ => ⟨S1x512x128, .bf16⟩
  | .local _ .vmem, ⟨25, _⟩ => ⟨S1x512x128, .bf16⟩
  | .local _ .vmem, ⟨26, _⟩ => ⟨S1x128x512, .bf16⟩
  | .local _ .vmem, ⟨27, _⟩ => ⟨S1x128x512, .bf16⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S1x512x192, .f32⟩
  | .local _ .vmem, ⟨33, _⟩ => ⟨S1x512x192, .f32⟩
  | .local _ .vmem, ⟨34, _⟩ => ⟨S1x16x192x512, .f32⟩
  | .local _ .vmem, ⟨35, _⟩ => ⟨S1x16x192x512, .f32⟩
  | .local _ .vmem, ⟨36, _⟩ => ⟨S1x16x128x512, .f32⟩
  | .local _ .vmem, ⟨37, _⟩ => ⟨S1x16x128x512, .f32⟩
  | _, _ => ⟨S8192x8x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc2_stg10_0 : Ref sig .tc := ⟨.vmem, 34, rfl⟩
abbrev cc2_stg10_1 : Ref sig .tc := ⟨.vmem, 35, rfl⟩
abbrev cc2_stg11_0 : Ref sig .tc := ⟨.vmem, 36, rfl⟩
abbrev cc2_stg11_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32
abbrev cc2_sem11_0 : DmaSem sig := 33
abbrev cc2_sem11_1 : DmaSem sig := 34

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_18 : BitVec 32 := 1#32
  ⟨c0_i32_16, v39, c1_i32_18⟩
def k0_mult1 (i : grid0.Coords) (k0_t1 : Fin (k0_t1_loop i).trips) : BitVec 32 :=
  let c2_i32_51 : BitVec 32 := 2#32
  let c0_i32_16 : BitVec 32 := 0#32
  let c1_i32_18 : BitVec 32 := 1#32
  let arg10 : BitVec 32 := Scf.iv c0_i32_16 c1_i32_18 k0_t1
  let v83 : BitVec 32 := Scalar.muli c2_i32_51 arg10
  let c512_i32 : BitVec 32 := 512#32
  let v86 : BitVec 32 := Scalar.muli v83 c512_i32
  v86
def k0_off1 (i : grid0.Coords) (k0_t1 : Fin (k0_t1_loop i).trips) : Fin 3 → Nat :=
  let c0_54 : Index := 0#32
  let c2_i32_51 : BitVec 32 := 2#32
  let c0_i32_16 : BitVec 32 := 0#32
  let c1_i32_18 : BitVec 32 := 1#32
  let arg10 : BitVec 32 := Scf.iv c0_i32_16 c1_i32_18 k0_t1
  let v83 : BitVec 32 := Scalar.muli c2_i32_51 arg10
  let c512_i32 : BitVec 32 := 512#32
  let v86 : BitVec 32 := Scalar.muli v83 c512_i32
  let v87 : BitVec 32 := v86
  let v88 : Index := Scalar.indexCast v87
  let c0_55 : Index := 0#32
  ![0, v88.toNat, 0]
def k0_mult2 (i : grid0.Coords) (k0_t1 : Fin (k0_t1_loop i).trips) : BitVec 32 :=
  let c2_i32_52 : BitVec 32 := 2#32
  let c0_i32_16 : BitVec 32 := 0#32
  let c1_i32_18 : BitVec 32 := 1#32
  let arg10 : BitVec 32 := Scf.iv c0_i32_16 c1_i32_18 k0_t1
  let v84 : BitVec 32 := Scalar.muli c2_i32_52 arg10
  let c1_i32_53 : BitVec 32 := 1#32
  let v85 : BitVec 32 := Scalar.addi v84 c1_i32_53
  let c512_i32_57 : BitVec 32 := 512#32
  let v92 : BitVec 32 := Scalar.muli v85 c512_i32_57
  v92
def k0_off2 (i : grid0.Coords) (k0_t1 : Fin (k0_t1_loop i).trips) : Fin 3 → Nat :=
  let c0_58 : Index := 0#32
  let c2_i32_52 : BitVec 32 := 2#32
  let c0_i32_16 : BitVec 32 := 0#32
  let c1_i32_18 : BitVec 32 := 1#32
  let arg10 : BitVec 32 := Scf.iv c0_i32_16 c1_i32_18 k0_t1
  let v84 : BitVec 32 := Scalar.muli c2_i32_52 arg10
  let c1_i32_53 : BitVec 32 := 1#32
  let v85 : BitVec 32 := Scalar.addi v84 c1_i32_53
  let c512_i32_57 : BitVec 32 := 512#32
  let v92 : BitVec 32 := Scalar.muli v85 c512_i32_57
  let v93 : BitVec 32 := v92
  let v94 : Index := Scalar.indexCast v93
  let c0_59 : Index := 0#32
  ![0, v94.toNat, 0]
def k0_off3 (i : grid0.Coords) (k0_t1 : Fin (k0_t1_loop i).trips) : Fin 4 → Nat :=
  let c0_70 : Index := 0#32
  let c2_i32_51 : BitVec 32 := 2#32
  let c0_i32_16 : BitVec 32 := 0#32
  let c1_i32_18 : BitVec 32 := 1#32
  let arg10 : BitVec 32 := Scf.iv c0_i32_16 c1_i32_18 k0_t1
  let v83 : BitVec 32 := Scalar.muli c2_i32_51 arg10
  let v118 : Index := Scalar.indexCast v83
  let c0_71 : Index := 0#32
  let c0_72 : Index := 0#32
  ![0, v118.toNat, 0, 0]
def k0_off4 (i : grid0.Coords) (k0_t1 : Fin (k0_t1_loop i).trips) : Fin 4 → Nat :=
  let c0_75 : Index := 0#32
  let c2_i32_52 : BitVec 32 := 2#32
  let c0_i32_16 : BitVec 32 := 0#32
  let c1_i32_18 : BitVec 32 := 1#32
  let arg10 : BitVec 32 := Scf.iv c0_i32_16 c1_i32_18 k0_t1
  let v84 : BitVec 32 := Scalar.muli c2_i32_52 arg10
  let c1_i32_53 : BitVec 32 := 1#32
  let v85 : BitVec 32 := Scalar.addi v84 c1_i32_53
  let v130 : Index := Scalar.indexCast v85
  let c0_76 : Index := 0#32
  let c0_77 : Index := 0#32
  ![0, v130.toNat, 0, 0]
@[reducible] def k0_t2_loop (i : grid0.Coords) : Scf.Loop 32 :=
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let v36 : BitVec 32 := Scalar.addi c0_i32_16 v35
  let c1_i32_19 : BitVec 32 := 1#32
  ⟨v39, v36, c1_i32_19⟩
def k0_mult3 (i : grid0.Coords) (k0_t2 : Fin (k0_t2_loop i).trips) : BitVec 32 :=
  let c2_i32_51 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v83 : BitVec 32 := Scalar.muli c2_i32_51 arg10
  let c512_i32 : BitVec 32 := 512#32
  let v86 : BitVec 32 := Scalar.muli v83 c512_i32
  v86
def k0_off5 (i : grid0.Coords) (k0_t2 : Fin (k0_t2_loop i).trips) : Fin 3 → Nat :=
  let c0_54 : Index := 0#32
  let c2_i32_51 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v83 : BitVec 32 := Scalar.muli c2_i32_51 arg10
  let c512_i32 : BitVec 32 := 512#32
  let v86 : BitVec 32 := Scalar.muli v83 c512_i32
  let v87 : BitVec 32 := v86
  let v88 : Index := Scalar.indexCast v87
  let c0_55 : Index := 0#32
  ![0, v88.toNat, 0]
def k0_mult4 (i : grid0.Coords) (k0_t2 : Fin (k0_t2_loop i).trips) : BitVec 32 :=
  let c2_i32_52 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v84 : BitVec 32 := Scalar.muli c2_i32_52 arg10
  let c1_i32_53 : BitVec 32 := 1#32
  let v85 : BitVec 32 := Scalar.addi v84 c1_i32_53
  let c512_i32_57 : BitVec 32 := 512#32
  let v92 : BitVec 32 := Scalar.muli v85 c512_i32_57
  v92
def k0_off6 (i : grid0.Coords) (k0_t2 : Fin (k0_t2_loop i).trips) : Fin 3 → Nat :=
  let c0_58 : Index := 0#32
  let c2_i32_52 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v84 : BitVec 32 := Scalar.muli c2_i32_52 arg10
  let c1_i32_53 : BitVec 32 := 1#32
  let v85 : BitVec 32 := Scalar.addi v84 c1_i32_53
  let c512_i32_57 : BitVec 32 := 512#32
  let v92 : BitVec 32 := Scalar.muli v85 c512_i32_57
  let v93 : BitVec 32 := v92
  let v94 : Index := Scalar.indexCast v93
  let c0_59 : Index := 0#32
  ![0, v94.toNat, 0]
def k0_off7 (i : grid0.Coords) (k0_t2 : Fin (k0_t2_loop i).trips) : Fin 4 → Nat :=
  let c0_70 : Index := 0#32
  let c2_i32_51 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v83 : BitVec 32 := Scalar.muli c2_i32_51 arg10
  let v118 : Index := Scalar.indexCast v83
  let c0_71 : Index := 0#32
  let c0_72 : Index := 0#32
  ![0, v118.toNat, 0, 0]
def k0_off8 (i : grid0.Coords) (k0_t2 : Fin (k0_t2_loop i).trips) : Fin 4 → Nat :=
  let c0_75 : Index := 0#32
  let c2_i32_52 : BitVec 32 := 2#32
  let c0_i32_16 : BitVec 32 := 0#32
  let arg1 : BitVec 32 := BitVec.ofNat 32 (i 1).val
  let c0_i32 : BitVec 32 := 0#32
  let v19 : BitVec 1 := Scalar.cmpi .sgt arg1 c0_i32
  let v20 : BitVec 32 := Scalar.extui v19
  let c0_i32_11 : BitVec 32 := 0#32
  let v21 : BitVec 1 := Scalar.cmpi .slt arg1 c0_i32_11
  let v22 : BitVec 32 := Scalar.extui v21
  let v23 : BitVec 32 := Scalar.subi v20 v22
  let c2_i32 : BitVec 32 := 2#32
  let c0_i32_12 : BitVec 32 := 0#32
  let v24 : BitVec 1 := Scalar.cmpi .sgt c2_i32 c0_i32_12
  let v25 : BitVec 32 := Scalar.extui v24
  let c0_i32_13 : BitVec 32 := 0#32
  let v26 : BitVec 1 := Scalar.cmpi .slt c2_i32 c0_i32_13
  let v27 : BitVec 32 := Scalar.extui v26
  let v28 : BitVec 32 := Scalar.subi v25 v27
  let v29 : BitVec 1 := Scalar.cmpi .ne v23 v28
  let v30 : BitVec 32 := Scalar.remsi arg1 c2_i32
  let c0_i32_14 : BitVec 32 := 0#32
  let v31 : BitVec 1 := Scalar.cmpi .ne v30 c0_i32_14
  let v32 : BitVec 1 := Scalar.andi v29 v31
  let v18 : BitVec 32 := Scalar.divsi arg1 c2_i32
  let c1_i32 : BitVec 32 := 1#32
  let v33 : BitVec 32 := Scalar.subi v18 c1_i32
  let v34 : BitVec 32 := Scalar.select v32 v33 v18
  let v35 : BitVec 32 := Scalar.subi v34 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let v84 : BitVec 32 := Scalar.muli c2_i32_52 arg10
  let c1_i32_53 : BitVec 32 := 1#32
  let v85 : BitVec 32 := Scalar.addi v84 c1_i32_53
  let v130 : Index := Scalar.indexCast v85
  let c0_76 : Index := 0#32
  let c0_77 : Index := 0#32
  ![0, v130.toNat, 0, 0]
def k0_cond1 (i : grid0.Coords) : BitVec 1 :=
  let arg1 : BitVec 32 := BitVec.ofNat 32 (i 1).val
  let c2_i32_20 : BitVec 32 := 2#32
  let c0_i32_21 : BitVec 32 := 0#32
  let v40 : BitVec 1 := Scalar.cmpi .eq c2_i32_20 c0_i32_21
  let c1_i32_22 : BitVec 32 := 1#32
  let v41 : BitVec 32 := Scalar.select v40 c1_i32_22 c2_i32_20
  let v42 : BitVec 32 := Scalar.remsi arg1 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c1_i32_26 : BitVec 32 := 1#32
  let v50 : BitVec 1 := Scalar.cmpi .eq v49 c1_i32_26
  let v51 : BitVec 32 := Scalar.extui v50
  let c0_i32_27 : BitVec 32 := 0#32
  let v52 : BitVec 1 := Scalar.cmpi .ne v51 c0_i32_27
  v52

def k0_mult5 (i : grid0.Coords) : BitVec 32 :=
  let arg1 : BitVec 32 := BitVec.ofNat 32 (i 1).val
  let c1_i32_51 : BitVec 32 := 1#32
  let v83 : BitVec 32 := Scalar.subi arg1 c1_i32_51
  let c512_i32 : BitVec 32 := 512#32
  let v84 : BitVec 32 := Scalar.muli v83 c512_i32
  v84
def k0_off9 (i : grid0.Coords) : Fin 3 → Nat :=
  let c0_52 : Index := 0#32
  let arg1 : BitVec 32 := BitVec.ofNat 32 (i 1).val
  let c1_i32_51 : BitVec 32 := 1#32
  let v83 : BitVec 32 := Scalar.subi arg1 c1_i32_51
  let c512_i32 : BitVec 32 := 512#32
  let v84 : BitVec 32 := Scalar.muli v83 c512_i32
  let v85 : BitVec 32 := v84
  let v86 : Index := Scalar.indexCast v85
  let c0_53 : Index := 0#32
  ![0, v86.toNat, 0]
def k0_mult6 (i : grid0.Coords) : BitVec 32 :=
  let arg1 : BitVec 32 := BitVec.ofNat 32 (i 1).val
  let c512_i32_55 : BitVec 32 := 512#32
  let v90 : BitVec 32 := Scalar.muli arg1 c512_i32_55
  v90
def k0_off10 (i : grid0.Coords) : Fin 3 → Nat :=
  let c0_56 : Index := 0#32
  let arg1 : BitVec 32 := BitVec.ofNat 32 (i 1).val
  let c512_i32_55 : BitVec 32 := 512#32
  let v90 : BitVec 32 := Scalar.muli arg1 c512_i32_55
  let v91 : BitVec 32 := v90
  let v92 : Index := Scalar.indexCast v91
  let c0_57 : Index := 0#32
  ![0, v92.toNat, 0]
def k0_off11 (i : grid0.Coords) : Fin 4 → Nat :=
  let c0_71 : Index := 0#32
  let arg1 : BitVec 32 := BitVec.ofNat 32 (i 1).val
  let c1_i32_51 : BitVec 32 := 1#32
  let v83 : BitVec 32 := Scalar.subi arg1 c1_i32_51
  let v127 : Index := Scalar.indexCast v83
  let c0_72 : Index := 0#32
  let c0_73 : Index := 0#32
  ![0, v127.toNat, 0, 0]
def k0_off12 (i : grid0.Coords) : Fin 4 → Nat :=
  let c0_76 : Index := 0#32
  let arg1 : BitVec 32 := BitVec.ofNat 32 (i 1).val
  let v139 : Index := Scalar.indexCast arg1
  let c0_77 : Index := 0#32
  let c0_78 : Index := 0#32
  ![0, v139.toNat, 0, 0]
def k0_cond2 (i : grid0.Coords) : BitVec 1 :=
  let arg1 : BitVec 32 := BitVec.ofNat 32 (i 1).val
  let c2_i32_28 : BitVec 32 := 2#32
  let c0_i32_29 : BitVec 32 := 0#32
  let v53 : BitVec 1 := Scalar.cmpi .eq c2_i32_28 c0_i32_29
  let c1_i32_30 : BitVec 32 := 1#32
  let v54 : BitVec 32 := Scalar.select v53 c1_i32_30 c2_i32_28
  let v55 : BitVec 32 := Scalar.remsi arg1 v54
  let c0_i32_32 : BitVec 32 := 0#32
  let v57 : BitVec 1 := Scalar.cmpi .slt v55 c0_i32_32
  let c0_i32_33 : BitVec 32 := 0#32
  let v58 : BitVec 1 := Scalar.cmpi .slt v54 c0_i32_33
  let v59 : BitVec 1 := Scalar.xori v57 v58
  let c0_i32_31 : BitVec 32 := 0#32
  let v56 : BitVec 1 := Scalar.cmpi .ne v55 c0_i32_31
  let v60 : BitVec 1 := Scalar.andi v59 v56
  let v61 : BitVec 32 := Scalar.addi v55 v54
  let v62 : BitVec 32 := Scalar.select v60 v61 v55
  let c0_i32_34 : BitVec 32 := 0#32
  let v63 : BitVec 1 := Scalar.cmpi .eq v62 c0_i32_34
  let v64 : BitVec 32 := Scalar.extui v63
  let c0_i32_35 : BitVec 32 := 0#32
  let v65 : BitVec 1 := Scalar.cmpi .ne v64 c0_i32_35
  v65

def k0_mult7 (i : grid0.Coords) : BitVec 32 :=
  let arg1 : BitVec 32 := BitVec.ofNat 32 (i 1).val
  let c512_i32 : BitVec 32 := 512#32
  let v83 : BitVec 32 := Scalar.muli arg1 c512_i32
  v83
def k0_off13 (i : grid0.Coords) : Fin 3 → Nat :=
  let c0_51 : Index := 0#32
  let arg1 : BitVec 32 := BitVec.ofNat 32 (i 1).val
  let c512_i32 : BitVec 32 := 512#32
  let v83 : BitVec 32 := Scalar.muli arg1 c512_i32
  let v84 : BitVec 32 := v83
  let v85 : Index := Scalar.indexCast v84
  let c0_52 : Index := 0#32
  ![0, v85.toNat, 0]
def k0_off14 (i : grid0.Coords) : Fin 4 → Nat :=
  let c0_65 : Index := 0#32
  let arg1 : BitVec 32 := BitVec.ofNat 32 (i 1).val
  let v117 : Index := Scalar.indexCast arg1
  let c0_66 : Index := 0#32
  let c0_67 : Index := 0#32
  ![0, v117.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

@[reducible] def k2_t1_loop (i : grid2.Coords) : Scf.Loop 32 :=
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_9 : BitVec 32 := 1#32
  ⟨c0_i32_8, v17, c1_i32_9⟩
def k2_off1 (i : grid2.Coords) (k2_t1 : Fin (k2_t1_loop i).trips) : Fin 4 → Nat :=
  let c0_68 : Index := 0#32
  let c0_i32_8 : BitVec 32 := 0#32
  let c1_i32_9 : BitVec 32 := 1#32
  let arg14 : BitVec 32 := Scf.iv c0_i32_8 c1_i32_9 k2_t1
  let v94 : Index := Scalar.indexCast arg14
  let c0_69 : Index := 0#32
  let c0_70 : Index := 0#32
  ![0, v94.toNat, 0, 0]
def k2_off2 (i : grid2.Coords) (k2_t1 : Fin (k2_t1_loop i).trips) : Fin 4 → Nat :=
  let c0_75 : Index := 0#32
  let c0_i32_8 : BitVec 32 := 0#32
  let c1_i32_9 : BitVec 32 := 1#32
  let arg14 : BitVec 32 := Scf.iv c0_i32_8 c1_i32_9 k2_t1
  let v104 : Index := Scalar.indexCast arg14
  let c0_76 : Index := 0#32
  let c0_77 : Index := 0#32
  ![0, v104.toNat, 0, 0]
def k2_mult1 (i : grid2.Coords) (k2_t1 : Fin (k2_t1_loop i).trips) : BitVec 32 :=
  let c0_i32_8 : BitVec 32 := 0#32
  let c1_i32_9 : BitVec 32 := 1#32
  let arg14 : BitVec 32 := Scf.iv c0_i32_8 c1_i32_9 k2_t1
  let c512_i32_95 : BitVec 32 := 512#32
  let v127 : BitVec 32 := Scalar.muli arg14 c512_i32_95
  v127
def k2_off3 (i : grid2.Coords) (k2_t1 : Fin (k2_t1_loop i).trips) : Fin 3 → Nat :=
  let c0_99 : Index := 0#32
  let c0_i32_8 : BitVec 32 := 0#32
  let c1_i32_9 : BitVec 32 := 1#32
  let arg14 : BitVec 32 := Scf.iv c0_i32_8 c1_i32_9 k2_t1
  let c512_i32_95 : BitVec 32 := 512#32
  let v127 : BitVec 32 := Scalar.muli arg14 c512_i32_95
  let v128 : BitVec 32 := v127
  let v131 : Index := Scalar.indexCast v128
  let c0_100 : Index := 0#32
  ![0, v131.toNat, 0]
@[reducible] def k2_t2_loop (i : grid2.Coords) : Scf.Loop 32 :=
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let v14 : BitVec 32 := Scalar.addi c0_i32_8 v13
  let c1_i32_10 : BitVec 32 := 1#32
  ⟨v17, v14, c1_i32_10⟩
def k2_off4 (i : grid2.Coords) (k2_t2 : Fin (k2_t2_loop i).trips) : Fin 4 → Nat :=
  let c0_68 : Index := 0#32
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg14 : BitVec 32 := Scf.iv v17 c1_i32_10 k2_t2
  let v94 : Index := Scalar.indexCast arg14
  let c0_69 : Index := 0#32
  let c0_70 : Index := 0#32
  ![0, v94.toNat, 0, 0]
def k2_off5 (i : grid2.Coords) (k2_t2 : Fin (k2_t2_loop i).trips) : Fin 4 → Nat :=
  let c0_75 : Index := 0#32
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg14 : BitVec 32 := Scf.iv v17 c1_i32_10 k2_t2
  let v104 : Index := Scalar.indexCast arg14
  let c0_76 : Index := 0#32
  let c0_77 : Index := 0#32
  ![0, v104.toNat, 0, 0]
def k2_mult2 (i : grid2.Coords) (k2_t2 : Fin (k2_t2_loop i).trips) : BitVec 32 :=
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg14 : BitVec 32 := Scf.iv v17 c1_i32_10 k2_t2
  let c512_i32_95 : BitVec 32 := 512#32
  let v127 : BitVec 32 := Scalar.muli arg14 c512_i32_95
  v127
def k2_off6 (i : grid2.Coords) (k2_t2 : Fin (k2_t2_loop i).trips) : Fin 3 → Nat :=
  let c0_99 : Index := 0#32
  let c0_i32_8 : BitVec 32 := 0#32
  let arg1 : BitVec 32 := BitVec.ofNat 32 (i 1).val
  let v13 : BitVec 32 := Scalar.subi arg1 c0_i32_8
  let c1_i32 : BitVec 32 := 1#32
  let v15 : BitVec 32 := Scalar.divsi v13 c1_i32
  let v16 : BitVec 32 := Scalar.muli v15 c1_i32
  let v17 : BitVec 32 := Scalar.addi c0_i32_8 v16
  let c1_i32_10 : BitVec 32 := 1#32
  let arg14 : BitVec 32 := Scf.iv v17 c1_i32_10 k2_t2
  let c512_i32_95 : BitVec 32 := 512#32
  let v127 : BitVec 32 := Scalar.muli arg14 c512_i32_95
  let v128 : BitVec 32 := v127
  let v131 : Index := Scalar.indexCast v128
  let c0_100 : Index := 0#32
  ![0, v131.toNat, 0]
def k2_off7 (i : grid2.Coords) : Fin 4 → Nat :=
  let c0_11 : Index := 0#32
  let arg1 : BitVec 32 := BitVec.ofNat 32 (i 1).val
  let v18 : Index := Scalar.indexCast arg1
  let c0_12 : Index := 0#32
  let c0_13 : Index := 0#32
  ![0, v18.toNat, 0, 0]
def k2_off8 (i : grid2.Coords) : Fin 4 → Nat :=
  let c0_20 : Index := 0#32
  let arg1 : BitVec 32 := BitVec.ofNat 32 (i 1).val
  let v39 : Index := Scalar.indexCast arg1
  let c0_21 : Index := 0#32
  let c0_22 : Index := 0#32
  ![0, v39.toNat, 0, 0]
def k2_mult3 (i : grid2.Coords) : BitVec 32 :=
  let arg1 : BitVec 32 := BitVec.ofNat 32 (i 1).val
  let c512_i32_40 : BitVec 32 := 512#32
  let v62 : BitVec 32 := Scalar.muli arg1 c512_i32_40
  v62
def k2_off9 (i : grid2.Coords) : Fin 3 → Nat :=
  let c0_44 : Index := 0#32
  let arg1 : BitVec 32 := BitVec.ofNat 32 (i 1).val
  let c512_i32_40 : BitVec 32 := 512#32
  let v62 : BitVec 32 := Scalar.muli arg1 c512_i32_40
  let v63 : BitVec 32 := v62
  let v66 : Index := Scalar.indexCast v63
  let c0_45 : Index := 0#32
  ![0, v66.toNat, 0]
def cc2_transform_0 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_11 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .vmem S1x16x128x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S1x8192x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x16x192x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1x512x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x192x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x128x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x512x192 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x16x192x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S1x16x128x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S16x512x8x192 : Shape := ⟨4, ![16, 512, 8, 192]⟩
abbrev S8x16x192x512 : Shape := ⟨4, ![8, 16, 192, 512]⟩
abbrev S16x512x8x128 : Shape := ⟨4, ![16, 512, 8, 128]⟩
abbrev S8x16x128x512 : Shape := ⟨4, ![8, 16, 128, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x8x192, .bf16⟩
  | .hbm, ⟨1, _⟩ => ⟨S8192x8x192, .bf16⟩
  | .hbm, ⟨2, _⟩ => ⟨S8192x8x128, .bf16⟩
  | .hbm, ⟨3, _⟩ => ⟨S8192x8x128, .bf16⟩
  | .hbm, ⟨4, _⟩ => ⟨S8192x8x192, .f32⟩
  | .hbm, ⟨5, _⟩ => ⟨S8192x8x192, .f32⟩
  | .hbm, ⟨6, _⟩ => ⟨S8x8192x8192, .f32⟩
  | .hbm, ⟨7, _⟩ => ⟨S8x8192x8192, .bf16⟩
  | .hbm, ⟨8, _⟩ => ⟨S8x8192x8192, .f32⟩
  | .hbm, ⟨9, _⟩ => ⟨S_, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .i1⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S8x8192x8192, .f32⟩
  | .hbm, ⟨60, _⟩ => ⟨S8x8192x8192, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x8192, .bf16⟩
  | .hbm, ⟨66, _⟩ => ⟨S8x8192x8192, .f32⟩
  | .hbm, ⟨67, _⟩ => ⟨S8192x8x128, .f32⟩
  | .hbm, ⟨68, _⟩ => ⟨S8x128x8192, .f32⟩
  | .hbm, ⟨69, _⟩ => ⟨S8192x8x128, .f32⟩
  | .hbm, ⟨70, _⟩ => ⟨S8192x8x128, .bf16⟩
  | .hbm, ⟨71, _⟩ => ⟨S8192x8x128, .f32⟩
  | .hbm, ⟨72, _⟩ => ⟨S8x128x8192, .f32⟩
  | .hbm, ⟨73, _⟩ => ⟨S8x8192x8192, .f32⟩
  | .hbm, ⟨74, _⟩ => ⟨S8x128x8192, .f32⟩
  | .hbm, ⟨75, _⟩ => ⟨S8192x8x128, .f32⟩
  | .hbm, ⟨76, _⟩ => ⟨S8192x8x128, .bf16⟩
  | .hbm, ⟨77, _⟩ => ⟨S8x8192x8192, .bf16⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x1, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S8x8192x8192, .f32⟩
  | .hbm, ⟨98, _⟩ => ⟨S8x8192x8192, .bf16⟩
  | .hbm, ⟨99, _⟩ => ⟨S8x8192x8192, .f32⟩
  | .hbm, ⟨100, _⟩ => ⟨S8x8192x192, .f32⟩
  | .hbm, ⟨101, _⟩ => ⟨S8192x8x192, .f32⟩
  | .hbm, ⟨102, _⟩ => ⟨S8x8192x192, .f32⟩
  | .hbm, ⟨103, _⟩ => ⟨S8192x8x192, .f32⟩
  | .hbm, ⟨104, _⟩ => ⟨S8192x8x192, .bf16⟩
  | .hbm, ⟨105, _⟩ => ⟨S8192x8x192, .bf16⟩
  | .hbm, ⟨106, _⟩ => ⟨S8192x8x192, .f32⟩
  | .hbm, ⟨107, _⟩ => ⟨S8x8192x192, .f32⟩
  | .hbm, ⟨108, _⟩ => ⟨S8192x8x192, .f32⟩
  | .hbm, ⟨109, _⟩ => ⟨S16x512x8x192, .f32⟩
  | .hbm, ⟨110, _⟩ => ⟨S8x16x192x512, .f32⟩
  | .hbm, ⟨111, _⟩ => ⟨S8192x8x128, .f32⟩
  | .hbm, ⟨112, _⟩ => ⟨S16x512x8x128, .f32⟩
  | .hbm, ⟨113, _⟩ => ⟨S8x16x128x512, .f32⟩
  | .hbm, ⟨114, _⟩ => ⟨S8x128x8192, .bf16⟩
  | _, _ => ⟨S8192x8x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel2.lean ====
abbrev S8192x2048 : Shape := ⟨2, ![8192, 2048]⟩
abbrev S8x2x2048x704 : Shape := ⟨4, ![8, 2, 2048, 704]⟩
abbrev S8x2x704x2048 : Shape := ⟨4, ![8, 2, 704, 2048]⟩
abbrev S8x8192x704 : Shape := ⟨3, ![8, 8192, 704]⟩
abbrev S512x2048 : Shape := ⟨2, ![512, 2048]⟩
abbrev S1x1x2048x704 : Shape := ⟨4, ![1, 1, 2048, 704]⟩
abbrev S1x512x704 : Shape := ⟨3, ![1, 512, 704]⟩
abbrev S2048x704 : Shape := ⟨2, ![2048, 704]⟩
abbrev S512x704 : Shape := ⟨2, ![512, 704]⟩
abbrev S1x1x704x2048 : Shape := ⟨4, ![1, 1, 704, 2048]⟩
abbrev S704x2048 : Shape := ⟨2, ![704, 2048]⟩

abbrev nBuf : Space → Nat
  | .hbm => 10
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8x2x2048x704, .bf16⟩
  | .hbm, ⟨2, _⟩ => ⟨S8x2x2048x704, .bf16⟩
  | .hbm, ⟨3, _⟩ => ⟨S8x2x704x2048, .bf16⟩
  | .hbm, ⟨4, _⟩ => ⟨S8192x2048, .bf16⟩
  | .hbm, ⟨5, _⟩ => ⟨S8x8192x704, .bf16⟩
  | .hbm, ⟨6, _⟩ => ⟨S8x8192x704, .bf16⟩
  | .hbm, ⟨7, _⟩ => ⟨S8x8192x704, .bf16⟩
  | .hbm, ⟨8, _⟩ => ⟨S8x8192x704, .bf16⟩
  | .hbm, ⟨9, _⟩ => ⟨S8x8192x704, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S512x2048, .bf16⟩
  | .local _ .vmem, ⟨13, _⟩ => ⟨S512x2048, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x1x704x2048, .bf16⟩
  | .local _ .vmem, ⟨19, _⟩ => ⟨S1x1x704x2048, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x512x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x704x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference2Ideal.lean ====
abbrev S8192x2048 : Shape := ⟨2, ![8192, 2048]⟩
abbrev S8x2x2048x704 : Shape := ⟨4, ![8, 2, 2048, 704]⟩
abbrev S8x2x704x2048 : Shape := ⟨4, ![8, 2, 704, 2048]⟩
abbrev S8x1x2048x704 : Shape := ⟨4, ![8, 1, 2048, 704]⟩
abbrev S8x2048x704 : Shape := ⟨3, ![8, 2048, 704]⟩
abbrev S2048x8x704 : Shape := ⟨3, ![2048, 8, 704]⟩
abbrev S2048x5632 : Shape := ⟨2, ![2048, 5632]⟩
abbrev S8x1x704x2048 : Shape := ⟨4, ![8, 1, 704, 2048]⟩
abbrev S8x704x2048 : Shape := ⟨3, ![8, 704, 2048]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2x2048x704, .bf16⟩
  | .hbm, ⟨2, _⟩ => ⟨S8x2x2048x704, .bf16⟩
  | .hbm, ⟨3, _⟩ => ⟨S8x2x704x2048, .bf16⟩
  | .hbm, ⟨4, _⟩ => ⟨S8192x2048, .bf16⟩
  | .hbm, ⟨5, _⟩ => ⟨S8x1x2048x704, .bf16⟩
  | .hbm, ⟨6, _⟩ => ⟨S8x2048x704, .bf16⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S8x1x2048x704, .bf16⟩
  | .hbm, ⟨11, _⟩ => ⟨S8x2048x704, .bf16⟩
  | .hbm, ⟨12, _⟩ => ⟨S8x2048x704, .f32⟩
  | .hbm, ⟨13, _⟩ => ⟨S2048x8x704, .f32⟩
  | .hbm, ⟨14, _⟩ => ⟨S2048x5632, .f32⟩
  | .hbm, ⟨15, _⟩ => ⟨S8x1x704x2048, .bf16⟩
  | .hbm, ⟨16, _⟩ => ⟨S8x704x2048, .bf16⟩
  | .hbm, ⟨17, _⟩ => ⟨S8x704x2048, .f32⟩
  | .hbm, ⟨18, _⟩ => ⟨S5632x2048, .f32⟩
  | .hbm, ⟨19, _⟩ => ⟨S8192x2048, .f32⟩
  | .hbm, ⟨20, _⟩ => ⟨S8192x5632, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x8x704, .f32⟩
  | .hbm, ⟨53, _⟩ => ⟨S8x8192x704, .f32⟩
  | .hbm, ⟨54, _⟩ => ⟨S8x8192x704, .bf16⟩
  | .hbm, ⟨55, _⟩ => ⟨S8192x8x704, .f32⟩
  | .hbm, ⟨56, _⟩ => ⟨S8x8192x704, .f32⟩
  | .hbm, ⟨57, _⟩ => ⟨S8x8192x704, .bf16⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x8x704, .f32⟩
  | .hbm, ⟨69, _⟩ => ⟨S8x8192x704, .f32⟩
  | .hbm, ⟨70, _⟩ => ⟨S8x8192x704, .bf16⟩
  | .hbm, ⟨71, _⟩ => ⟨S8192x8x704, .f32⟩
  | .hbm, ⟨72, _⟩ => ⟨S8x8192x704, .f32⟩
  | .hbm, ⟨73, _⟩ => ⟨S8x8192x704, .bf16⟩
  | .hbm, ⟨74, _⟩ => ⟨S8192x8x704, .f32⟩
  | .hbm, ⟨75, _⟩ => ⟨S8x8192x704, .f32⟩
  | .hbm, ⟨76, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v18_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v18_1 : Ref sig .tc := ⟨.hbm, 34, rfl⟩
abbrev main_v18_0 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]
-- ==== Kernel3.lean ====
abbrev S8x8192x704 : Shape := ⟨3, ![8, 8192, 704]⟩
abbrev S8x2x2048x704 : Shape := ⟨4, ![8, 2, 2048, 704]⟩
abbrev S8192x2048 : Shape := ⟨2, ![8192, 2048]⟩
abbrev S1x1024x704 : Shape := ⟨3, ![1, 1024, 704]⟩
abbrev S1x1x2048x704 : Shape := ⟨4, ![1, 1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 5
  | .vmem => 11
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2x2048x704, .bf16⟩
  | .hbm, ⟨3, _⟩ => ⟨S8x2x2048x704, .bf16⟩
  | .hbm, ⟨4, _⟩ => ⟨S8192x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S1x1x2048x704, .bf16⟩
  | .local _ .vmem, ⟨7, _⟩ => ⟨S1x1x2048x704, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_19 : BitVec 32 := 0#32
  let v21 : BitVec 1 := Scalar.cmpi .ne v20 c0_i32_19
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8x8192x704 : Shape := ⟨3, ![8, 8192, 704]⟩
abbrev S8x2x2048x704 : Shape := ⟨4, ![8, 2, 2048, 704]⟩
abbrev S8x1x2048x704 : Shape := ⟨4, ![8, 1, 2048, 704]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S8192x2048 : Shape := ⟨2, ![8192, 2048]⟩
abbrev S8192x5632 : Shape := ⟨2, ![8192, 5632]⟩
abbrev S8192x8x704 : Shape := ⟨3, ![8192, 8, 704]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2x2048x704, .bf16⟩
  | .hbm, ⟨3, _⟩ => ⟨S8x2x2048x704, .bf16⟩
  | .hbm, ⟨4, _⟩ => ⟨S8x1x2048x704, .bf16⟩
  | .hbm, ⟨5, _⟩ => ⟨S8x2048x704, .bf16⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S8x1x2048x704, .bf16⟩
  | .hbm, ⟨10, _⟩ => ⟨S8x2048x704, .bf16⟩
  | .hbm, ⟨11, _⟩ => ⟨S8x2048x704, .f32⟩
  | .hbm, ⟨12, _⟩ => ⟨S2048x8x704, .f32⟩
  | .hbm, ⟨13, _⟩ => ⟨S2048x5632, .f32⟩
  | .hbm, ⟨14, _⟩ => ⟨S_, .f32⟩
  | .hbm, ⟨15, _⟩ => ⟨S8192x2048, .f32⟩
  | .hbm, ⟨16, _⟩ => ⟨S8192x5632, .f32⟩
  | .hbm, ⟨17, _⟩ => ⟨S8192x5632, .f32⟩
  | .hbm, ⟨18, _⟩ => ⟨S8x8192x704, .f32⟩
  | .hbm, ⟨19, _⟩ => ⟨S8192x8x704, .f32⟩
  | .hbm, ⟨20, _⟩ => ⟨S8192x5632, .f32⟩
  | .hbm, ⟨21, _⟩ => ⟨S8x8192x704, .f32⟩
  | .hbm, ⟨22, _⟩ => ⟨S8192x8x704, .f32⟩
  | .hbm, ⟨23, _⟩ => ⟨S8192x5632, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel4.lean ====
abbrev S8192x2048 : Shape := ⟨2, ![8192, 2048]⟩
abbrev S8x8192x704 : Shape := ⟨3, ![8, 8192, 704]⟩
abbrev S8x2x2048x704 : Shape := ⟨4, ![8, 2, 2048, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩
abbrev S8x1x2048x704 : Shape := ⟨4, ![8, 1, 2048, 704]⟩
abbrev S8x2048x704 : Shape := ⟨3, ![8, 2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8x8192x704, .bf16⟩
  | .hbm, ⟨3, _⟩ => ⟨S8x2x2048x704, .bf16⟩
  | .hbm, ⟨4, _⟩ => ⟨S8x2x2048x704, .bf16⟩
  | .hbm, ⟨5, _⟩ => ⟨S8x1x2048x704, .bf16⟩
  | .hbm, ⟨6, _⟩ => ⟨S8x2048x704, .bf16⟩
  | .hbm, ⟨7, _⟩ => ⟨S8x1x2048x704, .bf16⟩
  | .hbm, ⟨8, _⟩ => ⟨S8x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1x1024x704, .bf16⟩
  | .local _ .vmem, ⟨7, _⟩ => ⟨S1x1x1024x704, .bf16⟩
  | .local _ .vmem, ⟨8, _⟩ => ⟨S1x1x1024x704, .bf16⟩
  | .local _ .vmem, ⟨9, _⟩ => ⟨S1x1x1024x704, .bf16⟩
  | .local _ .vmem, ⟨10, _⟩ => ⟨S1024x704, .f32⟩
  | .local _ .vmem, ⟨11, _⟩ => ⟨S1024x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x2048 : Shape := ⟨2, ![8192, 2048]⟩
abbrev S8x8192x704 : Shape := ⟨3, ![8, 8192, 704]⟩
abbrev S_ : Shape := ⟨0, ![]⟩
abbrev S2048x5632 : Shape := ⟨2, ![2048, 5632]⟩
abbrev S8192x5632 : Shape := ⟨2, ![8192, 5632]⟩
abbrev S8192x8x704 : Shape := ⟨3, ![8192, 8, 704]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8x8192x704, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x5632, .f32⟩
  | .hbm, ⟨9, _⟩ => ⟨S8x8192x704, .f32⟩
  | .hbm, ⟨10, _⟩ => ⟨S8192x8x704, .f32⟩
  | .hbm, ⟨11, _⟩ => ⟨S8192x5632, .f32⟩
  | .hbm, ⟨12, _⟩ => ⟨S8x8192x704, .f32⟩
  | .hbm, ⟨13, _⟩ => ⟨S8192x8x704, .f32⟩
  | .hbm, ⟨14, _⟩ => ⟨S8192x5632, .f32⟩
  | .hbm, ⟨15, _⟩ => ⟨S5632x2048, .f32⟩
  | .hbm, ⟨16, _⟩ => ⟨S2048x5632, .f32⟩
  | .hbm, ⟨17, _⟩ => ⟨S5632x2048, .f32⟩
  | .hbm, ⟨18, _⟩ => ⟨S2048x5632, .f32⟩
  | .hbm, ⟨19, _⟩ => ⟨S2048x8x704, .f32⟩
  | .hbm, ⟨20, _⟩ => ⟨S8x2048x704, .f32⟩
  | .hbm, ⟨21, _⟩ => ⟨S8x2048x704, .bf16⟩
  | .hbm, ⟨22, _⟩ => ⟨S2048x8x704, .f32⟩
  | .hbm, ⟨23, _⟩ => ⟨S8x2048x704, .f32⟩
  | .hbm, ⟨24, _⟩ => ⟨S8x2048x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel5.lean ====
abbrev S8x8192x704 : Shape := ⟨3, ![8, 8192, 704]⟩
abbrev S8192x2048 : Shape := ⟨2, ![8192, 2048]⟩
abbrev S8x2x704x2048 : Shape := ⟨4, ![8, 2, 704, 2048]⟩
abbrev S1x1024x704 : Shape := ⟨3, ![1, 1024, 704]⟩
abbrev S1024x2048 : Shape := ⟨2, ![1024, 2048]⟩
abbrev S1x1x704x2048 : Shape := ⟨4, ![1, 1, 704, 2048]⟩
abbrev S704x2048 : Shape := ⟨2, ![704, 2048]⟩
abbrev S1024x704 : Shape := ⟨2, ![1024, 704]⟩
abbrev S8x1x704x2048 : Shape := ⟨4, ![8, 1, 704, 2048]⟩
abbrev S8x704x2048 : Shape := ⟨3, ![8, 704, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x2x704x2048, .bf16⟩
  | .hbm, ⟨3, _⟩ => ⟨S8x1x704x2048, .bf16⟩
  | .hbm, ⟨4, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x1x704x2048, .bf16⟩
  | .local _ .vmem, ⟨5, _⟩ => ⟨S1x1x704x2048, .bf16⟩
  | .local _ .vmem, ⟨6, _⟩ => ⟨S704x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8x8192x704 : Shape := ⟨3, ![8, 8192, 704]⟩
abbrev S8192x2048 : Shape := ⟨2, ![8192, 2048]⟩
abbrev S_ : Shape := ⟨0, ![]⟩
abbrev S5632x2048 : Shape := ⟨2, ![5632, 2048]⟩
abbrev S8192x8x704 : Shape := ⟨3, ![8192, 8, 704]⟩
abbrev S8192x5632 : Shape := ⟨2, ![8192, 5632]⟩
abbrev S2048x5632 : Shape := ⟨2, ![2048, 5632]⟩
abbrev S8x704x2048 : Shape := ⟨3, ![8, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8x8192x704, .f32⟩
  | .hbm, ⟨5, _⟩ => ⟨S8192x8x704, .f32⟩
  | .hbm, ⟨6, _⟩ => ⟨S8192x5632, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S2048x5632, .f32⟩
  | .hbm, ⟨16, _⟩ => ⟨S5632x2048, .f32⟩
  | .hbm, ⟨17, _⟩ => ⟨S8x704x2048, .f32⟩
  | .hbm, ⟨18, _⟩ => ⟨S8x704x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S8x8192x704 : Shape := ⟨3, ![8, 8192, 704]⟩
abbrev S8x2x704x2048 : Shape := ⟨4, ![8, 2, 704, 2048]⟩
abbrev S8192x2048 : Shape := ⟨2, ![8192, 2048]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8x8192x704, .bf16⟩
  | .hbm, ⟨1, _⟩ => ⟨S8x2x704x2048, .bf16⟩
  | .hbm, ⟨2, _⟩ => ⟨S8192x2048, .f32⟩
  | .hbm, ⟨3, _⟩ => ⟨S8192x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8x8192x704 : Shape := ⟨3, ![8, 8192, 704]⟩
abbrev S8x2x704x2048 : Shape := ⟨4, ![8, 2, 704, 2048]⟩
abbrev S8192x2048 : Shape := ⟨2, ![8192, 2048]⟩
abbrev S8192x8x704 : Shape := ⟨3, ![8192, 8, 704]⟩
abbrev S8192x5632 : Shape := ⟨2, ![8192, 5632]⟩
abbrev S8x1x704x2048 : Shape := ⟨4, ![8, 1, 704, 2048]⟩
abbrev S8x704x2048 : Shape := ⟨3, ![8, 704, 2048]⟩
abbrev S5632x2048 : Shape := ⟨2, ![5632, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x2x704x2048, .bf16⟩
  | .hbm, ⟨2, _⟩ => ⟨S8192x2048, .f32⟩
  | .hbm, ⟨3, _⟩ => ⟨S8x8192x704, .f32⟩
  | .hbm, ⟨4, _⟩ => ⟨S8192x8x704, .f32⟩
  | .hbm, ⟨5, _⟩ => ⟨S8192x5632, .f32⟩
  | .hbm, ⟨6, _⟩ => ⟨S8x1x704x2048, .bf16⟩
  | .hbm, ⟨7, _⟩ => ⟨S8x704x2048, .bf16⟩
  | .hbm, ⟨8, _⟩ => ⟨S8x704x2048, .f32⟩
  | .hbm, ⟨9, _⟩ => ⟨S5632x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Spec.lean ====
/- One head of causal attention over the reals, and the gradients that its backward pass computes. Rows are natural
   numbers (0 to 8191, sixteen tiles of 512), so that row `c` of tile `j` is `512 * j + c`. Nothing here mentions a
   program: the kernel's arrays and the reference's arrays are each shown to be these functions elsewhere. -/
module

public import Mathlib.Analysis.SpecialFunctions.Pow.Real
public import Mathlib.Analysis.SpecialFunctions.Log.Basic
public import Mathlib.Data.EReal.Operations

@[expose] public section

noncomputable section

namespace Cert.Attn

open Finset

/-- The factor on a score: one over the root of the head's width. -/
def sc : ℝ := (Real.sqrt 192)⁻¹

/-- The rows of queries, keys, values and output cotangents of one head. -/
structure Head where
  q : ℕ → Fin 192 → ℝ
  k : ℕ → Fin 192 → ℝ
  v : ℕ → Fin 128 → ℝ
  g : ℕ → Fin 128 → ℝ

variable (H : Head)

namespace Head

/-- The scaled score of query row `i` against key row `j`. -/
def S (i j : ℕ) : ℝ := (∑ d, H.q i d * H.k j d) * sc

/-- The exponential of a score that the causal mask lets through, `0` of one that it hides. -/
def E (i j : ℕ) : ℝ := if j ≤ i then Real.exp (H.S i j) else 0

/-- The sum of a row's exponentials. -/
def W (i : ℕ) : ℝ := ∑ j ∈ range 8192, H.E i j

/-- The attention weight of key row `j` for query row `i`. -/
def P (i j : ℕ) : ℝ := H.E i j / H.W i

/-- A row's log-sum-exp, in base two. -/
def L (i : ℕ) : ℝ := Real.log (H.W i) / Real.log 2

/-- The attention's output. -/
def O (i : ℕ) (e : Fin 128) : ℝ := ∑ j ∈ range 8192, H.P i j * H.v j e

/-- The gradient that reaches the weight of key row `j`. -/
def dP (i j : ℕ) : ℝ := ∑ e, H.g i e * H.v j e

/-- A row's correction: the output against its cotangent. -/
def D (i : ℕ) : ℝ := ∑ e, H.g i e * H.O i e

/-- The gradient of the score of query row `i` against key row `j`. -/
def dS (i j : ℕ) : ℝ := H.P i j * (H.dP i j - H.D i)

/-- The gradient of the queries. -/
def dQ (i : ℕ) (d : Fin 192) : ℝ := (∑ j ∈ range 8192, H.dS i j * H.k j d) * sc

/-- The gradient of the keys. -/
def dK (j : ℕ) (d : Fin 192) : ℝ := ∑ i ∈ range 8192, sc * (H.q i d * H.dS i j)

/-- The gradient of the values. -/
def dV (j : ℕ) (e : Fin 128) : ℝ := ∑ i ∈ range 8192, H.g i e * H.P i j

theorem E_nonneg (i j : ℕ) : 0 ≤ H.E i j := by
  unfold E; split_ifs
  · exact (Real.exp_pos _).le
  · exact le_rfl

/-- A row's sum is positive: the row's own key is never hidden. -/
theorem W_pos {i : ℕ} (hi : i < 8192) : 0 < H.W i := by
  refine lt_of_lt_of_le (Real.exp_pos (H.S i i)) ?_
  have h : H.E i i = Real.exp (H.S i i) := by simp [E]
  rw [← h]
  exact single_le_sum (f := H.E i) (fun j _ => H.E_nonneg i j) (mem_range.2 hi)

theorem E_of_lt {i j : ℕ} (h : i < j) : H.E i j = 0 := by simp [E, Nat.not_le.2 h]
theorem P_of_lt {i j : ℕ} (h : i < j) : H.P i j = 0 := by simp [P, H.E_of_lt h]
theorem dS_of_lt {i j : ℕ} (h : i < j) : H.dS i j = 0 := by simp [dS, H.P_of_lt h]

/-- The correction of a row is the mean of its weights' gradients. -/
theorem D_eq (i : ℕ) : H.D i = ∑ j ∈ range 8192, H.P i j * H.dP i j := by
  simp only [D, O, dP, mul_sum]
  rw [sum_comm]
  exact sum_congr rfl fun j _ => sum_congr rfl fun e _ => by ring

/-- A weight from its score and the row's log-sum-exp, both in base two. -/
theorem P_eq_two_pow {i j : ℕ} (hi : i < 8192) (h : j ≤ i) :
    (2 : ℝ) ^ (H.S i j * (Real.log 2)⁻¹ - H.L i) = H.P i j := by
  have hW := H.W_pos hi
  have h2 : Real.log 2 ≠ 0 := (Real.log_pos one_lt_two).ne'
  rw [Real.rpow_def_of_pos two_pos, L, P, E, if_pos h]
  have : Real.log 2 * (H.S i j * (Real.log 2)⁻¹ - Real.log (H.W i) / Real.log 2) = H.S i j - Real.log (H.W i) := by
    field_simp
  rw [this, Real.exp_sub, Real.exp_log hW]

end Head

/-- A sum over tiles of 512 rows is the sum over the rows. -/
theorem sum_tiles (n : ℕ) (f : ℕ → ℝ) :
    ∑ j ∈ range n, ∑ c : Fin 512, f (512 * j + c.val) = ∑ x ∈ range (512 * n), f x := by
  induction n with
  | zero => simp
  | succ n ih =>
    rw [sum_range_succ, ih, Nat.mul_succ, Finset.sum_range_add, ← Finset.sum_range (fun c => f (512 * n + c))]

/-- A sum over all rows of a function that vanishes after the first `n` tiles. -/
theorem sum_tiles_of_zero {n : ℕ} (hn : n ≤ 16) (f : ℕ → ℝ) (h : ∀ x, 512 * n ≤ x → f x = 0) :
    ∑ j ∈ range n, ∑ c : Fin 512, f (512 * j + c.val) = ∑ x ∈ range 8192, f x := by
  rw [sum_tiles]
  refine sum_subset (fun x hx => ?_) (fun x _ hx => h x ?_)
  · simp only [mem_range] at *; omega
  · simpa using hx

/-- A sum over all rows of a function that vanishes before tile `n`, from its tiles onwards. -/
theorem sum_tiles_from {n : ℕ} (f : ℕ → ℝ) (h : ∀ x, x < 512 * n → f x = 0) :
    ∑ j ∈ (range 16).filter (n ≤ ·), ∑ c : Fin 512, f (512 * j + c.val) = ∑ x ∈ range 8192, f x := by
  rw [show (8192 : ℕ) = 512 * 16 from rfl, ← sum_tiles 16 f, sum_filter]
  refine sum_congr rfl fun j _ => ?_
  split_ifs with hj
  · rfl
  · exact (sum_eq_zero fun c _ => h _ (by have := c.isLt; omega)).symm

end Cert.Attn

end
-- ==== Proof.Args.lean ====
/- What the four argument arrays hold when every entry is a real number: the rows of the eight heads. Both programs take
   these arrays, indexed by row, head and column. -/
module

public import proofs.«01_k».proof.Proof.Spec
public import Idealize.ShloMosaic.PureOps
public import Idealize.ShloMosaic.Lib.Pointwise

@[expose] public section

noncomputable section

namespace Cert.Attn

open Idealize.ShloMosaic Idealize.ShloMosaic.Pointwise

/-- The four arguments hold real numbers: the rows of the eight heads. -/
structure Args (HH : Fin 8 → Head) (A0 A1 : Vec Ideal ⟨3, ![8192, 8, 192]⟩ .bf16) (A2 A3 : Vec Ideal ⟨3, ![8192, 8, 128]⟩ .bf16) : Prop where
  q : ∀ (r : Fin 8192) h d, A0 (ix3 r h d) = (((HH h).q r.val d : ℝ) : EReal)
  k : ∀ (r : Fin 8192) h d, A1 (ix3 r h d) = (((HH h).k r.val d : ℝ) : EReal)
  v : ∀ (r : Fin 8192) h e, A2 (ix3 r h e) = (((HH h).v r.val e : ℝ) : EReal)
  g : ∀ (r : Fin 8192) h e, A3 (ix3 r h e) = (((HH h).g r.val e : ℝ) : EReal)

end Cert.Attn

end
-- ==== Proof.BwdTile.lean ====
/- What one tile of the attention backward kernel computes, over the reals: each value that the kernel's body stores,
   read at an index, when what it loads is real numbers. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Init

@[expose] public section

noncomputable section

namespace Cert.Attn

open Idealize.ShloMosaic Cert.KernelIdeal Cert.KernelIdeal.Gen Idealize.ShloMosaic.Pointwise

/-- A sum of real numbers is a real number. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The named factor on a score, in base two. -/
theorem named_scale_log2e : Named.named (F := Ideal) (φ := .f32) Cert.KernelIdeal.κ "scale_log2e" 0x3DD53B95#32 = ((sc * (Real.log 2)⁻¹ : ℝ) : EReal) :=
  IdealRules.named_const.ideal_named_scalar _ _ _ _ rfl
/-- The named factor on a score. -/
theorem named_scale : Named.named (F := Ideal) (φ := .f32) Cert.KernelIdeal.κ "scale" 0x3D93CD3A#32 = ((sc : ℝ) : EReal) :=
  IdealRules.named_const.ideal_named_scalar _ _ _ _ rfl

/-- The causal comparison of a column with a row of the diagonal tile, both as 32-bit words. -/
theorem causal_select {α : Type} {n : ℕ} (hn : n < 16) (r c : Fin 512) (x y : α) :
    Scalar.select (IntOp.cmpi .sle (IntOp.addi (Scalar.muli (BitVec.ofNat 32 n) 512#32) (BitVec.ofNat 32 c.val))
      (IntOp.addi (Scalar.muli (BitVec.ofNat 32 n) 512#32) (BitVec.ofNat 32 r.val))) x y = if c ≤ r then x else y := by
  have h (a : Fin 512) : IntOp.addi (Scalar.muli (BitVec.ofNat 32 n) 512#32) (BitVec.ofNat 32 a.val) = BitVec.ofNat 32 (n * 512 + a.val) := by
    show BitVec.ofNat 32 n * BitVec.ofNat 32 512 + _ = _
    rw [← BitVec.ofNat_mul, ← BitVec.ofNat_add]
  have hc := c.isLt
  have hr := r.isLt
  rw [h, h, WordCmp.cmpi_sle_eq, WordCmp.toInt_ofNat_of_lt (by omega), WordCmp.toInt_ofNat_of_lt (by omega)]
  by_cases hcr : c ≤ r
  · have : (n * 512 + c.val : ℤ) ≤ n * 512 + r.val := by have : c.val ≤ r.val := hcr; omega
    simp [Scalar.select, hcr, this]
  · have : ¬ (n * 512 + c.val : ℤ) ≤ n * 512 + r.val := by have : ¬ c.val ≤ r.val := hcr; omega
    simp [Scalar.select, hcr]

/-- The scaled queries of a tile, in base two. -/
theorem pay12_apply (v : Vec Ideal S1x512x192 .bf16) (q : Fin 512 → Fin 192 → ℝ) (hq : ∀ r d, v (ix3 0 r d) = ((q r d : ℝ) : EReal))
    (r : Fin 512) (d : Fin 192) : k2_pay12 v (ix2 r d) = ((q r d * (sc * (Real.log 2)⁻¹) : ℝ) : EReal) := by
  pointwise [k2_pay12]
  rw [hq, named_scale_log2e, ← EReal.coe_mul]

/-- A tile's weights: two to the power of the score, less the row's log-sum-exp. -/
theorem pay4_apply (v : FVec Ideal S512x192 .bf16) (kt : Vec Ideal S1x1x192x512 .bf16) (l : Vec Ideal S1x512x1 .f32)
    (q : Fin 512 → Fin 192 → ℝ) (k : Fin 512 → Fin 192 → ℝ) (L : Fin 512 → ℝ)
    (hq : ∀ r d, v (ix2 r d) = ((q r d : ℝ) : EReal)) (hk : ∀ d c, kt (ix4 0 0 d c) = ((k c d : ℝ) : EReal))
    (hl : ∀ r, l (ix3 0 r 0) = ((L r : ℝ) : EReal)) (r c : Fin 512) :
    k2_pay4 v kt l (ix2 r c) = (((2 : ℝ) ^ (∑ d, q r d * k c d - L r) : ℝ) : EReal) := by
  pointwise [k2_pay4]
  simp only [hq, hk, hl, ← EReal.coe_mul, coe_sum, ← EReal.coe_sub]
  exact Ideal.exp2_coe _

/-- A tile's piece of the gradient of the values, added to what was there. -/
theorem pay5_apply (v8 : FVec Ideal S512x192 .bf16) (v95 : Vec Ideal S1x1x192x512 .bf16) (v98 : Vec Ideal S1x512x1 .f32)
    (a : Vec Ideal S1x1x128x512 .f32) (gt : Vec Ideal S1x128x512 .bf16) (p : Fin 512 → Fin 512 → ℝ) (g : Fin 512 → Fin 128 → ℝ)
    (A : Fin 128 → Fin 512 → ℝ) (hp : ∀ r c, k2_pay4 v8 v95 v98 (ix2 r c) = ((p r c : ℝ) : EReal))
    (ha : ∀ e c, a (ix4 0 0 e c) = ((A e c : ℝ) : EReal)) (hg : ∀ e r, gt (ix3 0 e r) = ((g r e : ℝ) : EReal))
    (e : Fin 128) (c : Fin 512) : k2_pay5 v8 v95 v98 a gt (ix4 0 0 e c) = ((A e c + ∑ r, g r e * p r c : ℝ) : EReal) := by
  pointwise [k2_pay5]
  simp only [hp, ha, hg, ← EReal.coe_mul, coe_sum, ← EReal.coe_add]

/-- The gradient of a tile's weights, less the row's correction. -/
theorem pay6_apply (g : Vec Ideal S1x512x128 .bf16) (v : Vec Ideal S1x1x128x512 .bf16) (dl : Vec Ideal S1x512x1 .f32)
    (G : Fin 512 → Fin 128 → ℝ) (V : Fin 512 → Fin 128 → ℝ) (D : Fin 512 → ℝ) (hg : ∀ r e, g (ix3 0 r e) = ((G r e : ℝ) : EReal))
    (hv : ∀ e c, v (ix4 0 0 e c) = ((V c e : ℝ) : EReal)) (hd : ∀ r, dl (ix3 0 r 0) = ((D r : ℝ) : EReal)) (r c : Fin 512) :
    k2_pay6 g v dl (ix2 r c) = ((∑ e, G r e * V c e - D r : ℝ) : EReal) := by
  pointwise [k2_pay6]
  simp only [hg, hv, hd, ← EReal.coe_mul, coe_sum, ← EReal.coe_sub]

/-- A tile's piece of the gradient of the queries (before the factor), added to what was there. -/
theorem pay15_apply (v102 v124 : FVec Ideal S512x512 .f32) (a : Vec Ideal S1x512x192 .f32) (k : Vec Ideal S1x512x192 .bf16)
    (p w : Fin 512 → Fin 512 → ℝ) (A : Fin 512 → Fin 192 → ℝ) (K : Fin 512 → Fin 192 → ℝ)
    (hp : ∀ r c, v102 (ix2 r c) = ((p r c : ℝ) : EReal)) (hw : ∀ r c, v124 (ix2 r c) = ((w r c : ℝ) : EReal))
    (ha : ∀ r d, a (ix3 0 r d) = ((A r d : ℝ) : EReal)) (hk : ∀ c d, k (ix3 0 c d) = ((K c d : ℝ) : EReal)) (r : Fin 512) (d : Fin 192) :
    k2_pay15 v102 v124 a k (ix3 0 r d) = ((A r d + ∑ c, p r c * w r c * K c d : ℝ) : EReal) := by
  pointwise [k2_pay15, k2_pay14]
  simp only [hp, hw, ha, hk, ← EReal.coe_mul, coe_sum, ← EReal.coe_add]

/-- A tile's piece of the gradient of the keys, added to what was there. -/
theorem pay16_apply (v102 v124 : FVec Ideal S512x512 .f32) (a : Vec Ideal S1x1x192x512 .f32) (qt : Vec Ideal S1x192x512 .bf16)
    (p w : Fin 512 → Fin 512 → ℝ) (A : Fin 192 → Fin 512 → ℝ) (Q : Fin 512 → Fin 192 → ℝ)
    (hp : ∀ r c, v102 (ix2 r c) = ((p r c : ℝ) : EReal)) (hw : ∀ r c, v124 (ix2 r c) = ((w r c : ℝ) : EReal))
    (ha : ∀ d c, a (ix4 0 0 d c) = ((A d c : ℝ) : EReal)) (hq : ∀ d r, qt (ix3 0 d r) = ((Q r d : ℝ) : EReal)) (d : Fin 192) (c : Fin 512) :
    k2_pay16 v102 v124 a qt (ix4 0 0 d c) = ((A d c + sc * ∑ r, Q r d * (p r c * w r c) : ℝ) : EReal) := by
  pointwise [k2_pay16, k2_pay14]
  simp only [hp, hw, ha, hq, named_scale, ← EReal.coe_mul, coe_sum, ← EReal.coe_add]

/-- The diagonal tile's weights before the mask. -/
theorem pay20_apply (v3 : Vec Ideal S1x512x192 .bf16) (kt : Vec Ideal S1x1x192x512 .bf16) (l : Vec Ideal S1x512x1 .f32)
    (q : Fin 512 → Fin 192 → ℝ) (k : Fin 512 → Fin 192 → ℝ) (L : Fin 512 → ℝ)
    (hq : ∀ r d, k2_pay12 v3 (ix2 r d) = ((q r d : ℝ) : EReal)) (hk : ∀ d c, kt (ix4 0 0 d c) = ((k c d : ℝ) : EReal))
    (hl : ∀ r, l (ix3 0 r 0) = ((L r : ℝ) : EReal)) (r c : Fin 512) :
    k2_pay20 v3 kt l (ix2 r c) = (((2 : ℝ) ^ (∑ d, q r d * k c d - L r) : ℝ) : EReal) := by
  pointwise [k2_pay20]
  simp only [hq, hk, hl, ← EReal.coe_mul, coe_sum, ← EReal.coe_sub]
  exact Ideal.exp2_coe _

/-- The diagonal tile's weights: the mask keeps the columns up to the row. -/
theorem pay22_apply (i : grid2.Coords) (v26 : FVec Ideal S512x512 .f32) (p : Fin 512 → Fin 512 → ℝ)
    (hp : ∀ r c, v26 (ix2 r c) = ((p r c : ℝ) : EReal)) (r c : Fin 512) :
    k2_pay22 (BitVec.ofNat 32 (i 1).val) v26 (k2_pay21 i) (ix2 r c) = ((if c ≤ r then p r c else 0 : ℝ) : EReal) := by
  pointwise [k2_pay22, k2_pay21]
  rw [hp, causal_select (i 1).isLt]
  split_ifs <;> rfl

/-- The diagonal tile's piece of the gradient of the values, added to what was there. -/
theorem pay23_apply (n : BitVec 32) (v26 : FVec Ideal S512x512 .f32) (v30 : IVec S512x512 32) (a : Vec Ideal S1x1x128x512 .f32)
    (gt : Vec Ideal S1x128x512 .bf16) (p : Fin 512 → Fin 512 → ℝ) (g : Fin 512 → Fin 128 → ℝ)
    (A : Fin 128 → Fin 512 → ℝ) (hp : ∀ r c, k2_pay22 n v26 v30 (ix2 r c) = ((p r c : ℝ) : EReal))
    (ha : ∀ e c, a (ix4 0 0 e c) = ((A e c : ℝ) : EReal)) (hg : ∀ e r, gt (ix3 0 e r) = ((g r e : ℝ) : EReal))
    (e : Fin 128) (c : Fin 512) : k2_pay23 n v26 v30 a gt (ix4 0 0 e c) = ((A e c + ∑ r, g r e * p r c : ℝ) : EReal) := by
  pointwise [k2_pay23]
  simp only [hp, ha, hg, ← EReal.coe_mul, coe_sum, ← EReal.coe_add]

/-- The gradient of the diagonal tile's scores. -/
theorem pay24_apply (n : BitVec 32) (v26 : FVec Ideal S512x512 .f32) (v30 : IVec S512x512 32) (g : Vec Ideal S1x512x128 .bf16)
    (v : Vec Ideal S1x1x128x512 .bf16) (dl : Vec Ideal S1x512x1 .f32) (p : Fin 512 → Fin 512 → ℝ)
    (G : Fin 512 → Fin 128 → ℝ) (V : Fin 512 → Fin 128 → ℝ) (D : Fin 512 → ℝ) (hp : ∀ r c, k2_pay22 n v26 v30 (ix2 r c) = ((p r c : ℝ) : EReal))
    (hg : ∀ r e, g (ix3 0 r e) = ((G r e : ℝ) : EReal)) (hv : ∀ e c, v (ix4 0 0 e c) = ((V c e : ℝ) : EReal))
    (hd : ∀ r, dl (ix3 0 r 0) = ((D r : ℝ) : EReal)) (r c : Fin 512) :
    k2_pay24 n v26 v30 g v dl (ix2 r c) = ((p r c * (∑ e, G r e * V c e - D r) : ℝ) : EReal) := by
  pointwise [k2_pay24]
  simp only [hp, hg, hv, hd, ← EReal.coe_mul, coe_sum, ← EReal.coe_sub]

/-- The diagonal tile's piece of the gradient of the queries (before the factor), added to what was there. -/
theorem pay1_apply (s : FVec Ideal S512x512 .bf16) (a : Vec Ideal S1x512x192 .f32) (k : Vec Ideal S1x512x192 .bf16)
    (w : Fin 512 → Fin 512 → ℝ) (A : Fin 512 → Fin 192 → ℝ) (K : Fin 512 → Fin 192 → ℝ)
    (hw : ∀ r c, s (ix2 r c) = ((w r c : ℝ) : EReal)) (ha : ∀ r d, a (ix3 0 r d) = ((A r d : ℝ) : EReal))
    (hk : ∀ c d, k (ix3 0 c d) = ((K c d : ℝ) : EReal)) (r : Fin 512) (d : Fin 192) :
    k2_pay1 s a k (ix3 0 r d) = ((A r d + ∑ c, w r c * K c d : ℝ) : EReal) := by
  pointwise [k2_pay1]
  simp only [hw, ha, hk, ← EReal.coe_mul, coe_sum, ← EReal.coe_add]

/-- The diagonal tile's piece of the gradient of the keys, added to what was there. -/
theorem pay2_apply (s : FVec Ideal S512x512 .bf16) (a : Vec Ideal S1x1x192x512 .f32) (qt : Vec Ideal S1x192x512 .bf16)
    (w : Fin 512 → Fin 512 → ℝ) (A : Fin 192 → Fin 512 → ℝ) (Q : Fin 512 → Fin 192 → ℝ)
    (hw : ∀ r c, s (ix2 r c) = ((w r c : ℝ) : EReal)) (ha : ∀ d c, a (ix4 0 0 d c) = ((A d c : ℝ) : EReal))
    (hq : ∀ d r, qt (ix3 0 d r) = ((Q r d : ℝ) : EReal)) (d : Fin 192) (c : Fin 512) :
    k2_pay2 s a qt (ix4 0 0 d c) = ((A d c + sc * ∑ r, Q r d * w r c : ℝ) : EReal) := by
  pointwise [k2_pay2]
  simp only [hw, ha, hq, named_scale, ← EReal.coe_mul, coe_sum, ← EReal.coe_add]

/-- The factor on the gradient of the queries. -/
theorem pay3_apply (a : Vec Ideal S1x512x192 .f32) (A : Fin 512 → Fin 192 → ℝ) (ha : ∀ r d, a (ix3 0 r d) = ((A r d : ℝ) : EReal))
    (r : Fin 512) (d : Fin 192) : k2_pay3 a (ix3 0 r d) = ((A r d * sc : ℝ) : EReal) := by
  pointwise [k2_pay3]
  simp only [ha, named_scale, ← EReal.coe_mul]

theorem pay10_apply (j : Fin 16) (d : Fin 192) (c : Fin 512) : k2_pay10 (F := Ideal) (ix4 0 j d c) = ((0 : ℝ) : EReal) := by
  pointwise [k2_pay10]
  rfl
theorem pay11_apply (j : Fin 16) (d : Fin 128) (c : Fin 512) : k2_pay11 (F := Ideal) (ix4 0 j d c) = ((0 : ℝ) : EReal) := by
  pointwise [k2_pay11]
  rfl
theorem pay13_apply (r : Fin 512) (d : Fin 192) : k2_pay13 (F := Ideal) (ix3 0 r d) = ((0 : ℝ) : EReal) := by
  pointwise [k2_pay13]
  rfl

end Cert.Attn

end
-- ==== Proof.BwdLoop.lean ====
/- The attention backward kernel's loop over the key tiles before the diagonal: what one trip stores, and what the
   trips together leave in the three output buffers, over the reals. -/
module

public import proofs.«01_k».proof.Proof.Gen.KernelIdeal.Loops
public import proofs.«01_k».proof.Proof.BwdTile
public import Idealize.ShloMosaic.Lib.WritesUnit
public import Idealize.ShloMosaic.Lib.Pipeline.ValueKit.Tiles

@[expose] public section

noncomputable section

namespace Cert.Attn

open Idealize.ShloMosaic Cert.KernelIdeal Cert.KernelIdeal.Gen Idealize.ShloMosaic.Pointwise

theorem fin3 {P : Fin 3 → Prop} (h0 : P 0) (h1 : P 1) (h2 : P 2) : ∀ a, P a
  | 0 => h0 | 1 => h1 | 2 => h2
theorem fin4 {P : Fin 4 → Prop} (h0 : P 0) (h1 : P 1) (h2 : P 2) (h3 : P 3) : ∀ a, P a
  | 0 => h0 | 1 => h1 | 2 => h2 | 3 => h3

/-- A load of a rectangle, read at an index, is the view's element that far from the rectangle's corner. -/
theorem readAt_apply {sig : RefSig} {κ : Kind} {sp : Space} {s : Shape} {e : EltTy} {Val : EltTy → Type} (v : View sig κ sp s e)
    (f : v.ty.Contents Val) {off off' size : Fin s.rank → ℕ} (inb : ∀ a, off a + size a ≤ s.size a) (heq : off = off')
    (x : (Rect.unit off size inb).shape.Idx) (i : s.Idx) (hi : ∀ a, (i a : ℕ) = off' a + x a) :
    v.readAt Val (Rect.unit off size inb).toLoadRect f x = v.read Val f i := by
  subst heq
  exact View.ld_unit_apply_of (v.read Val f) off size inb x i hi

/-- What the backward kernel's nine input blocks hold at query tile `n` of a head: real numbers, the rows of the head. -/
structure BwdIn (H : Head) (n : ℕ) (x0 : Vec Ideal S1x16x128x512 .bf16) (x1 : Vec Ideal S1x8192x192 .bf16) (x2 : Vec Ideal S1x16x192x512 .bf16)
    (x3 : Vec Ideal S1x512x192 .bf16) (x4 : Vec Ideal S1x192x512 .bf16) (x5 : Vec Ideal S1x512x128 .bf16) (x6 : Vec Ideal S1x128x512 .bf16)
    (x7 : Vec Ideal S1x512x1 .f32) (x8 : Vec Ideal S1x512x1 .f32) : Prop where
  v : ∀ (j : Fin 16) e (c : Fin 512), x0 (ix4 0 j e c) = ((H.v (512 * j.val + c.val) e : ℝ) : EReal)
  k : ∀ (r : Fin 8192) d, x1 (ix3 0 r d) = ((H.k r.val d : ℝ) : EReal)
  kt : ∀ (j : Fin 16) d (c : Fin 512), x2 (ix4 0 j d c) = ((H.k (512 * j.val + c.val) d : ℝ) : EReal)
  q : ∀ (r : Fin 512) d, x3 (ix3 0 r d) = ((H.q (512 * n + r.val) d : ℝ) : EReal)
  qt : ∀ d (r : Fin 512), x4 (ix3 0 d r) = ((H.q (512 * n + r.val) d : ℝ) : EReal)
  g : ∀ (r : Fin 512) e, x5 (ix3 0 r e) = ((H.g (512 * n + r.val) e : ℝ) : EReal)
  gt : ∀ e (r : Fin 512), x6 (ix3 0 e r) = ((H.g (512 * n + r.val) e : ℝ) : EReal)
  l : ∀ (r : Fin 512), x7 (ix3 0 r 0) = ((H.L (512 * n + r.val) : ℝ) : EReal)
  dl : ∀ (r : Fin 512), x8 (ix3 0 r 0) = ((H.D (512 * n + r.val) : ℝ) : EReal)

/-- A score in base two, summed from scaled queries. -/
theorem sum_scaled (H : Head) (i j : ℕ) : ∑ d, H.q i d * (sc * (Real.log 2)⁻¹) * H.k j d = H.S i j * (Real.log 2)⁻¹ := by
  unfold Head.S
  rw [Finset.sum_mul, Finset.sum_mul]
  exact Finset.sum_congr rfl fun d _ => by ring

/-- The first loop runs over the key tiles before the query tile. -/
theorem trips_eq (n : Fin 16) : Scf.trips (0#32) (Scalar.addi (0#32) (Scalar.muli (Scalar.divsi (Scalar.subi (BitVec.ofNat 32 n.val) 0#32) 1#32) 1#32)) 1#32 = n.val := by
  revert n; decide

/-- The second loop's bounds meet. -/
theorem trips_tail (n : Fin 16) : Scf.trips (Scalar.addi (0#32) (Scalar.muli (Scalar.divsi (Scalar.subi (BitVec.ofNat 32 n.val) 0#32) 1#32) 1#32)) (Scalar.addi (0#32) (Scalar.subi (BitVec.ofNat 32 n.val) 0#32)) 1#32 = 0 := by
  revert n; decide

section

variable (𝒱 : Variants) (c : Dev nD) (bd : Option 𝒱.V) (i : grid2.Coords)
  (arg2 : Memref sig .tc .vmem S1x16x128x512 .bf16) (harg2 : arg2.IsWhole)
  (arg3 : Memref sig .tc .vmem S1x8192x192 .bf16) (harg3 : arg3.IsWhole)
  (arg4 : Memref sig .tc .vmem S1x16x192x512 .bf16) (harg4 : arg4.IsWhole)
  (arg5 : Memref sig .tc .vmem S1x512x192 .bf16) (harg5 : arg5.IsWhole)
  (arg6 : Memref sig .tc .vmem S1x192x512 .bf16) (harg6 : arg6.IsWhole)
  (arg7 : Memref sig .tc .vmem S1x512x128 .bf16) (harg7 : arg7.IsWhole)
  (arg8 : Memref sig .tc .vmem S1x128x512 .bf16) (harg8 : arg8.IsWhole)
  (arg9 : Memref sig .tc .vmem S1x512x1 .f32) (harg9 : arg9.IsWhole)
  (arg10 : Memref sig .tc .vmem S1x512x1 .f32) (harg10 : arg10.IsWhole)
  (arg11 : Memref sig .tc .vmem S1x512x192 .f32) (harg11 : arg11.IsWhole)
  (arg12 : Memref sig .tc .vmem S1x16x192x512 .f32) (harg12 : arg12.IsWhole)
  (arg13 : Memref sig .tc .vmem S1x16x128x512 .f32) (harg13 : arg13.IsWhole)
  (x0 : Vec Ideal S1x16x128x512 .bf16) (x1 : Vec Ideal S1x8192x192 .bf16) (x2 : Vec Ideal S1x16x192x512 .bf16)
  (x3 : Vec Ideal S1x512x192 .bf16) (x4 : Vec Ideal S1x192x512 .bf16) (x5 : Vec Ideal S1x512x128 .bf16) (x6 : Vec Ideal S1x128x512 .bf16)
  (x7 : Vec Ideal S1x512x1 .f32) (x8 : Vec Ideal S1x512x1 .f32)

/-- The pieces that trip `k` writes, at the input blocks. -/
abbrev trip2 (k : Fin (k2_t1_loop i).trips) (f11 : BufTy.Contents (Elt Ideal) arg11.view.ty) (f12 : BufTy.Contents (Elt Ideal) arg12.view.ty)
    (f13 : BufTy.Contents (Elt Ideal) arg13.view.ty) :=
  tripL_k2_t1 (F := Ideal) 𝒱 c bd i arg2 harg2 arg3 harg3 arg4 harg4 arg5 harg5 arg6 harg6 arg7 harg7 arg8 harg8 arg9 harg9 arg10 harg10 arg11 harg11 arg12 harg12 arg13 harg13
      x3 (harg2.unread x0) (harg3.unread x1) (harg4.unread x2) (harg6.unread x4) (harg7.unread x5)
      (harg8.unread x6) (harg9.unread x7) (harg10.unread x8) k f11 f12 f13

variable {x0 x1 x2 x3 x4 x5 x6 x7 x8} {H : Head} (hin : BwdIn H (i 1).val x0 x1 x2 x3 x4 x5 x6 x7 x8)

include hin in
/-- What one trip leaves in the three output buffers. -/
theorem trip2_reads (k : Fin (k2_t1_loop i).trips) (hk : k.val < (i 1).val) (f11 : BufTy.Contents (Elt Ideal) arg11.view.ty)
    (f12 : BufTy.Contents (Elt Ideal) arg12.view.ty) (f13 : BufTy.Contents (Elt Ideal) arg13.view.ty) (A : Fin 512 → Fin 192 → ℝ)
    (B : ℕ → Fin 192 → Fin 512 → ℝ) (C : ℕ → Fin 128 → Fin 512 → ℝ)
    (hA : ∀ r d, arg11.view.read (Elt Ideal) f11 (ix3 0 r d) = ((A r d : ℝ) : EReal))
    (hB : ∀ (j : Fin 16) d c, arg12.view.read (Elt Ideal) f12 (ix4 0 j d c) = ((B j.val d c : ℝ) : EReal))
    (hC : ∀ (j : Fin 16) e c, arg13.view.read (Elt Ideal) f13 (ix4 0 j e c) = ((C j.val e c : ℝ) : EReal)) :
    (∀ r d, arg11.view.read (Elt Ideal) (arg11.view.writes (Elt Ideal) f11 (trip2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13).1) (ix3 0 r d)
        = ((A r d + ∑ x : Fin 512, H.dS (512 * (i 1).val + r.val) (512 * k.val + x.val) * H.k (512 * k.val + x.val) d : ℝ) : EReal))
    ∧ (∀ (j : Fin 16) d y, arg12.view.read (Elt Ideal) (arg12.view.writes (Elt Ideal) f12 (trip2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13).2.1) (ix4 0 j d y)
        = ((if j.val = k.val then B j.val d y + sc * ∑ x : Fin 512, H.q (512 * (i 1).val + x.val) d * H.dS (512 * (i 1).val + x.val) (512 * j.val + y.val) else B j.val d y : ℝ) : EReal))
    ∧ (∀ (j : Fin 16) e y, arg13.view.read (Elt Ideal) (arg13.view.writes (Elt Ideal) f13 (trip2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 k f11 f12 f13).2.2) (ix4 0 j e y)
        = ((if j.val = k.val then C j.val e y + ∑ x : Fin 512, H.g (512 * (i 1).val + x.val) e * H.P (512 * (i 1).val + x.val) (512 * j.val + y.val) else C j.val e y : ℝ) : EReal)) := by
  have hi : (i 1).val < 16 := (i 1).isLt
  have hkv : k.val < 16 := by omega
  unfold trip2 tripL_k2_t1 trip_k2_t1
  dsimp only
  have hKT (d : Fin 192) (y : Fin 512) : View.readAt (Elt Ideal) arg4.view (Rect.unit (s := S1x16x192x512) (k2_off1 i k) S1x1x192x512.size (k2_off1_inb i k)).toLoadRect (harg4.unread x2) (ix4 0 0 d y) = ((H.k (512 * k.val + y.val) d : ℝ) : EReal) :=
    (readAt_apply _ _ _ (k2_off1_eq i k) _ (ix4 0 ⟨k.val, hkv⟩ d y) (fin4 rfl rfl (Nat.zero_add _).symm (Nat.zero_add _).symm)).trans
      ((congrFun (harg4.read_unread x2) _).trans (hin.kt ⟨k.val, hkv⟩ d y))
  have hV (e : Fin 128) (y : Fin 512) : View.readAt (Elt Ideal) arg2.view (Rect.unit (s := S1x16x128x512) (k2_off2 i k) S1x1x128x512.size (k2_off2_inb i k)).toLoadRect (harg2.unread x0) (ix4 0 0 e y) = ((H.v (512 * k.val + y.val) e : ℝ) : EReal) :=
    (readAt_apply _ _ _ (k2_off2_eq i k) _ (ix4 0 ⟨k.val, hkv⟩ e y) (fin4 rfl rfl (Nat.zero_add _).symm (Nat.zero_add _).symm)).trans
      ((congrFun (harg2.read_unread x0) _).trans (hin.v ⟨k.val, hkv⟩ e y))
  have hK (y : Fin 512) (d : Fin 192) : View.readAt (Elt Ideal) arg3.view (Rect.unit (s := S1x8192x192) (k2_off3 i k) S1x512x192.size (k2_off3_inb i k)).toLoadRect (harg3.unread x1) (ix3 0 y d) = ((H.k (512 * k.val + y.val) d : ℝ) : EReal) :=
    (readAt_apply _ _ (k2_off3_inb i k) (k2_off3_eq i k) (ix3 0 y d) (ix3 0 ⟨512 * k.val + y.val, by have := y.isLt; omega⟩ d) (fin3 rfl rfl (Nat.zero_add _).symm)).trans
      ((congrFun (harg3.read_unread x1) _).trans (hin.k ⟨512 * k.val + y.val, by have := y.isLt; omega⟩ d))
  have hQt (d : Fin 192) (r : Fin 512) : View.readAt (Elt Ideal) arg6.view (Rect.unit ![0, 0, 0] S1x192x512.size inb_S1x192x512_S1x192x512_0_0_0).toLoadRect (harg6.unread x4) (ix3 0 d r) = ((H.q (512 * (i 1).val + r.val) d : ℝ) : EReal) :=
    (readAt_apply _ _ _ rfl _ (ix3 0 d r) (fin3 rfl (Nat.zero_add _).symm (Nat.zero_add _).symm)).trans
      ((congrFun (harg6.read_unread x4) _).trans (hin.qt d r))
  have hG (r : Fin 512) (e : Fin 128) : View.readAt (Elt Ideal) arg7.view (Rect.unit ![0, 0, 0] S1x512x128.size inb_S1x512x128_S1x512x128_0_0_0).toLoadRect (harg7.unread x5) (ix3 0 r e) = ((H.g (512 * (i 1).val + r.val) e : ℝ) : EReal) :=
    (readAt_apply _ _ _ rfl _ (ix3 0 r e) (fin3 rfl (Nat.zero_add _).symm (Nat.zero_add _).symm)).trans
      ((congrFun (harg7.read_unread x5) _).trans (hin.g r e))
  have hGt (e : Fin 128) (r : Fin 512) : View.readAt (Elt Ideal) arg8.view (Rect.unit ![0, 0, 0] S1x128x512.size inb_S1x128x512_S1x128x512_0_0_0).toLoadRect (harg8.unread x6) (ix3 0 e r) = ((H.g (512 * (i 1).val + r.val) e : ℝ) : EReal) :=
    (readAt_apply _ _ _ rfl _ (ix3 0 e r) (fin3 rfl (Nat.zero_add _).symm (Nat.zero_add _).symm)).trans
      ((congrFun (harg8.read_unread x6) _).trans (hin.gt e r))
  have hL (r : Fin 512) : View.readAt (Elt Ideal) arg9.view (Rect.unit ![0, 0, 0] S1x512x1.size inb_S1x512x1_S1x512x1_0_0_0).toLoadRect (harg9.unread x7) (ix3 0 r 0) = ((H.L (512 * (i 1).val + r.val) : ℝ) : EReal) :=
    (readAt_apply _ _ _ rfl _ (ix3 0 r 0) (fin3 rfl (Nat.zero_add _).symm rfl)).trans
      ((congrFun (harg9.read_unread x7) _).trans (hin.l r))
  have hD (r : Fin 512) : View.readAt (Elt Ideal) arg10.view (Rect.unit ![0, 0, 0] S1x512x1.size inb_S1x512x1_S1x512x1_0_0_0).toLoadRect (harg10.unread x8) (ix3 0 r 0) = ((H.D (512 * (i 1).val + r.val) : ℝ) : EReal) :=
    (readAt_apply _ _ _ rfl _ (ix3 0 r 0) (fin3 rfl (Nat.zero_add _).symm rfl)).trans
      ((congrFun (harg10.read_unread x8) _).trans (hin.dl r))
  have hA' (r : Fin 512) (d : Fin 192) : View.readAt (Elt Ideal) arg11.view (Rect.unit ![0, 0, 0] S1x512x192.size inb_S1x512x192_S1x512x192_0_0_0).toLoadRect f11 (ix3 0 r d) = ((A r d : ℝ) : EReal) :=
    (readAt_apply _ _ _ rfl _ (ix3 0 r d) (fin3 rfl (Nat.zero_add _).symm (Nat.zero_add _).symm)).trans (hA r d)
  have hB' (d : Fin 192) (y : Fin 512) : View.readAt (Elt Ideal) arg12.view (Rect.unit (s := S1x16x192x512) (k2_off1 i k) S1x1x192x512.size (k2_off1_inb i k)).toLoadRect f12 (ix4 0 0 d y) = ((B k.val d y : ℝ) : EReal) :=
    (readAt_apply _ _ _ (k2_off1_eq i k) _ (ix4 0 ⟨k.val, hkv⟩ d y) (fin4 rfl rfl (Nat.zero_add _).symm (Nat.zero_add _).symm)).trans (hB ⟨k.val, hkv⟩ d y)
  have hC' (e : Fin 128) (y : Fin 512) : View.readAt (Elt Ideal) arg13.view (Rect.unit (s := S1x16x128x512) (k2_off2 i k) S1x1x128x512.size (k2_off2_inb i k)).toLoadRect f13 (ix4 0 0 e y) = ((C k.val e y : ℝ) : EReal) :=
    (readAt_apply _ _ _ (k2_off2_eq i k) _ (ix4 0 ⟨k.val, hkv⟩ e y) (fin4 rfl rfl (Nat.zero_add _).symm (Nat.zero_add _).symm)).trans (hC ⟨k.val, hkv⟩ e y)
  have hP := pay4_apply _ _ _ _ _ _ (pay12_apply x3 _ hin.q) hKT hL
  have hW := pay6_apply _ _ _ _ _ _ hG hV hD
  have hPe (r y : Fin 512) : (2 : ℝ) ^ (∑ d, H.q (512 * (i 1).val + r.val) d * (sc * (Real.log 2)⁻¹) * H.k (512 * k.val + y.val) d - H.L (512 * (i 1).val + r.val))
      = H.P (512 * (i 1).val + r.val) (512 * k.val + y.val) := by
    have := r.isLt
    have := y.isLt
    rw [sum_scaled, H.P_eq_two_pow (by omega) (by omega)]
  simp only [hPe] at hP
  refine ⟨fun r d => ?_, fun j d y => ?_, fun j e y => ?_⟩
  · refine (View.read_writes_cons_unit_of_mem _ _ _ _ _ _ (ix3 0 r d) rfl ?_).trans ?_
    · exact fin3 rfl (Nat.zero_add _).symm (Nat.zero_add _).symm
    unfold trip_k2_t1.sl.v102 trip_k2_t1.sl.v124
    exact pay15_apply _ _ _ _ _ _ _ _ hP hW hA' hK r d
  · by_cases hj : j.val = k.val
    · rw [if_pos hj]
      refine (View.read_writes_cons_unit_of_mem _ _ _ _ _ _ (ix4 0 0 d y) (k2_off1_eq i k) ?_).trans ?_
      · exact fin4 rfl hj (Nat.zero_add _).symm (Nat.zero_add _).symm
      rw [hj]
      unfold trip_k2_t1.sl.v102 trip_k2_t1.sl.v124
      exact pay16_apply _ _ _ _ _ _ _ _ hP hW hB' hQt d y
    · rw [if_neg hj]
      refine (View.read_writes_cons_unit_of_not_mem _ _ _ _ _ _ (k2_off1_eq i k) (1 : Fin 4) ?_).trans (hB j d y)
      show j.val < k.val ∨ k.val + 1 ≤ j.val
      omega
  · by_cases hj : j.val = k.val
    · rw [if_pos hj]
      refine (View.read_writes_cons_unit_of_mem _ _ _ _ _ _ (ix4 0 0 e y) (k2_off2_eq i k) ?_).trans ?_
      · exact fin4 rfl hj (Nat.zero_add _).symm (Nat.zero_add _).symm
      rw [hj]
      exact pay5_apply _ _ _ _ _ _ _ _ hP hC' hGt e y
    · rw [if_neg hj]
      refine (View.read_writes_cons_unit_of_not_mem _ _ _ _ _ _ (k2_off2_eq i k) (1 : Fin 4) ?_).trans (hC j e y)
      show j.val < k.val ∨ k.val + 1 ≤ j.val
      omega

/-- The pieces that the first loop writes in its first `m` trips, at the input blocks. -/
abbrev loop2 (x0 : Vec Ideal S1x16x128x512 .bf16) (x1 : Vec Ideal S1x8192x192 .bf16) (x2 : Vec Ideal S1x16x192x512 .bf16)
    (x3 : Vec Ideal S1x512x192 .bf16) (x4 : Vec Ideal S1x192x512 .bf16) (x5 : Vec Ideal S1x512x128 .bf16) (x6 : Vec Ideal S1x128x512 .bf16)
    (x7 : Vec Ideal S1x512x1 .f32) (x8 : Vec Ideal S1x512x1 .f32) (f11 : BufTy.Contents (Elt Ideal) arg11.view.ty)
    (f12 : BufTy.Contents (Elt Ideal) arg12.view.ty) (f13 : BufTy.Contents (Elt Ideal) arg13.view.ty) (m : ℕ) :=
  pb_k2_t1 (F := Ideal) 𝒱 c bd i arg2 harg2 arg3 harg3 arg4 harg4 arg5 harg5 arg6 harg6 arg7 harg7 arg8 harg8 arg9 harg9 arg10 harg10 arg11 harg11 arg12 harg12 arg13 harg13
      x3 (harg2.unread x0) (harg3.unread x1) (harg4.unread x2) (harg6.unread x4) (harg7.unread x5)
      (harg8.unread x6) (harg9.unread x7) (harg10.unread x8) f11 f12 f13 m

include hin in
/-- What the first `m` trips leave in the three output buffers. -/
theorem loop2_reads (f11 : BufTy.Contents (Elt Ideal) arg11.view.ty)
    (f12 : BufTy.Contents (Elt Ideal) arg12.view.ty) (f13 : BufTy.Contents (Elt Ideal) arg13.view.ty) (A : Fin 512 → Fin 192 → ℝ)
    (B : ℕ → Fin 192 → Fin 512 → ℝ) (C : ℕ → Fin 128 → Fin 512 → ℝ)
    (hA : ∀ r d, arg11.view.read (Elt Ideal) f11 (ix3 0 r d) = ((A r d : ℝ) : EReal))
    (hB : ∀ (j : Fin 16) d c, arg12.view.read (Elt Ideal) f12 (ix4 0 j d c) = ((B j.val d c : ℝ) : EReal))
    (hC : ∀ (j : Fin 16) e c, arg13.view.read (Elt Ideal) f13 (ix4 0 j e c) = ((C j.val e c : ℝ) : EReal)) (m : ℕ) (hm : m ≤ (i 1).val) :
    (∀ r d, arg11.view.read (Elt Ideal) (arg11.view.writes (Elt Ideal) f11 (loop2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f12 f13 m).1) (ix3 0 r d)
        = ((A r d + ∑ j ∈ Finset.range m, ∑ x : Fin 512, H.dS (512 * (i 1).val + r.val) (512 * j + x.val) * H.k (512 * j + x.val) d : ℝ) : EReal))
    ∧ (∀ (j : Fin 16) d y, arg12.view.read (Elt Ideal) (arg12.view.writes (Elt Ideal) f12 (loop2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f12 f13 m).2.1) (ix4 0 j d y)
        = ((if j.val < m then B j.val d y + sc * ∑ x : Fin 512, H.q (512 * (i 1).val + x.val) d * H.dS (512 * (i 1).val + x.val) (512 * j.val + y.val) else B j.val d y : ℝ) : EReal))
    ∧ (∀ (j : Fin 16) e y, arg13.view.read (Elt Ideal) (arg13.view.writes (Elt Ideal) f13 (loop2 𝒱 c bd i arg2 harg2 arg3 harg3 arg4 harg4 arg5 harg5 arg6 harg6 arg7 harg7 arg8 harg8 arg9 harg9 arg10 harg10 arg11 harg11 arg12 harg12 arg13 harg13 x0 x1 x2 x3 x4 x5 x6 x7 x8 f11 f12 f13 m).2.2) (ix4 0 j e y)
        = ((if j.val < m then C j.val e y + ∑ x : Fin 512, H.g (512 * (i 1).val + x.val) e * H.P (512 * (i 1).val + x.val) (512 * j.val + y.val) else C j.val e y : ℝ) : EReal)) := by
  induction m with
  | zero =>
    refine ⟨fun r d => ?_, fun j d y => ?_, fun j e y => ?_⟩
    · rw [Finset.sum_range_zero, add_zero]; exact hA r d
    · rw [if_neg (Nat.not_lt_zero _)]; exact hB j d y
    · rw [if_neg (Nat.not_lt_zero _)]; exact hC j e y
  | succ m ih =>
    obtain ⟨iA, iB, iC⟩ := ih (Nat.le_of_succ_le hm)
    have hm' : m < (k2_t1_loop i).trips := lt_of_lt_of_eq (Nat.lt_of_succ_le hm) (trips_eq (i 1)).symm
    obtain ⟨tA, tB, tC⟩ := trip2_reads 𝒱 c bd i arg2 harg2 arg3 harg3 arg4 harg4 arg5 harg5 arg6 harg6 arg7 harg7 arg8 harg8 arg9 harg9 arg10 harg10 arg11 harg11 arg12 harg12 arg13 harg13 hin ⟨m, hm'⟩ (Nat.lt_of_succ_le hm) _ _ _ _
      (fun j d y => if j < m then B j d y + sc * ∑ x : Fin 512, H.q (512 * (i 1).val + x.val) d * H.dS (512 * (i 1).val + x.val) (512 * j + y.val) else B j d y)
      (fun j e y => if j < m then C j e y + ∑ x : Fin 512, H.g (512 * (i 1).val + x.val) e * H.P (512 * (i 1).val + x.val) (512 * j + y.val) else C j e y)
      iA iB iC
    have e := pb_k2_t1_succ (F := Ideal) 𝒱 c bd i arg2 harg2 arg3 harg3 arg4 harg4 arg5 harg5 arg6 harg6 arg7 harg7 arg8 harg8 arg9 harg9 arg10 harg10 arg11 harg11 arg12 harg12 arg13 harg13 x3 (harg2.unread x0) (harg3.unread x1) (harg4.unread x2) (harg6.unread x4) (harg7.unread x5)
      (harg8.unread x6) (harg9.unread x7) (harg10.unread x8) f11 f12 f13 ⟨m, hm'⟩
    unfold loop2
    rw [e]
    dsimp only
    rw [View.writes_append, View.writes_append, View.writes_append]
    refine ⟨fun r d => (tA r d).trans ?_, fun j d y => (tB j d y).trans ?_, fun j e y => (tC j e y).trans ?_⟩
    · rw [Finset.sum_range_succ, add_assoc]
    · dsimp only
      congr 1
      split_ifs <;> first | rfl | omega
    · dsimp only
      congr 1
      split_ifs <;> first | rfl | omega

/-- The second loop, over key tiles past the diagonal, makes no trip. -/
theorem loop2_tail (v3 : Vec Ideal S1x512x192 .bf16) (w : BitVec 32) (y0 y1 y2 y4 y5 y6 y7 y8) (f11 f12 f13) :
    pb_k2_t2 (F := Ideal) 𝒱 c bd i arg2 harg2 arg3 harg3 arg4 harg4 arg5 harg5 arg6 harg6 arg7 harg7 arg8 harg8 arg9 harg9 arg10 harg10 arg11 harg11 arg12 harg12 arg13 harg13 v3 w y0 y1 y2 y4 y5 y6 y7 y8 f11 f12 f13
      (Scf.trips (Scalar.addi (0#32) (Scalar.muli (Scalar.divsi (Scalar.subi (BitVec.ofNat 32 (i 1).val) 0#32) 1#32) 1#32))
        (Scalar.addi (0#32) (Scalar.subi (BitVec.ofNat 32 (i 1).val) 0#32)) 1#32) = ([], [], []) := by
  rw [trips_tail (i 1)]
  rfl

end

end Cert.Attn

end
-- ==== Proof.FwdTile.lean ====
/- One row of the attention forward kernel's running softmax, over the reals: what the running maximum, sum and
   weighted sum stand for after some key tiles, how a tile (or two at once) moves them, and what the row's output and
   log-sum-exp are at the end. Then each value that the forward kernel's body computes, read at an index. -/
module

public import proofs.«01_k».proof.Proof.BwdTile

@[expose] public section

noncomputable section

namespace Cert.Attn

open Idealize.ShloMosaic Cert.KernelIdeal Cert.KernelIdeal.Gen Idealize.ShloMosaic.Pointwise Finset

/-- A score in base two. -/
def Head.x (H : Head) (i j : ℕ) : ℝ := H.S i j * (Real.log 2)⁻¹

/-- What a key row weighs against a bound `r` on the row's scores: nothing, if the causal mask hides it. -/
def Head.wt (H : Head) (i : ℕ) (r : ℝ) (j : ℕ) : ℝ := if j ≤ i then (2 : ℝ) ^ (H.x i j - r) else 0

/-- A score in base two as the kernel has it: minus infinity where the causal mask hides the key row. -/
def Head.xm (H : Head) (i j : ℕ) : EReal := if j ≤ i then ((H.x i j : ℝ) : EReal) else ⊥

/-- The running maximum, sum and weighted sum of query row `i` after `t` key tiles: either nothing was seen yet, or the sums are
    taken against a real bound. -/
def Online (H : Head) (i t : ℕ) (m l : EReal) (acc : Fin 128 → EReal) : Prop :=
  (t = 0 ∧ m = ⊥ ∧ l = 0 ∧ ∀ e, acc e = 0)
  ∨ ∃ r : ℝ, m = ((r : ℝ) : EReal) ∧ l = ((∑ j ∈ range (512 * t), H.wt i r j : ℝ) : EReal)
      ∧ ∀ e, acc e = ((∑ j ∈ range (512 * t), H.v j e * H.wt i r j : ℝ) : EReal)

variable {H : Head} {i t : ℕ} {m l : EReal} {acc : Fin 128 → EReal}

theorem wt_rescale (r r' : ℝ) (j : ℕ) : (2 : ℝ) ^ (r - r') * H.wt i r j = H.wt i r' j := by
  unfold Head.wt
  split_ifs
  · rw [← Real.rpow_add two_pos]; congr 1; ring
  · exact mul_zero _

/-- The weights of a masked score against a real bound. -/
theorem exp2_xm (r : ℝ) (j : ℕ) : FloatOps.exp2 (F := Ideal) (φ := .f32) (H.xm i j - (r : EReal)) = ((H.wt i r j : ℝ) : EReal) := by
  unfold Head.xm Head.wt
  split_ifs
  · rw [← EReal.coe_sub]; exact Ideal.exp2_coe _
  · rw [EReal.bot_sub]; exact Ideal.exp2_bot

/-- Moving the sums to another bound. -/
theorem Online.rescale (h : Online H i t m l acc) (r : ℝ) :
    FloatOps.exp2 (F := Ideal) (φ := .f32) (m - (r : EReal)) * l = ((∑ j ∈ range (512 * t), H.wt i r j : ℝ) : EReal)
    ∧ ∀ e, FloatOps.exp2 (F := Ideal) (φ := .f32) (m - (r : EReal)) * acc e = ((∑ j ∈ range (512 * t), H.v j e * H.wt i r j : ℝ) : EReal) := by
  obtain ⟨rfl, rfl, rfl, ha⟩ | ⟨s, rfl, rfl, ha⟩ := h
  · refine ⟨by simp, fun e => by rw [ha]; simp⟩
  · have e : FloatOps.exp2 (F := Ideal) (φ := .f32) ((s : EReal) - (r : EReal)) = (((2 : ℝ) ^ (s - r) : ℝ) : EReal) := by
      rw [← EReal.coe_sub]; exact Ideal.exp2_coe _
    rw [e]
    refine ⟨?_, fun e => ?_⟩
    · rw [← EReal.coe_mul, mul_sum]
      simp only [wt_rescale]
    · rw [ha, ← EReal.coe_mul, mul_sum]
      refine congrArg (fun x : ℝ => (x : EReal)) (sum_congr rfl fun j _ => ?_)
      rw [mul_left_comm, wt_rescale]

theorem Online.ne_top (h : Online H i t m l acc) : m ≠ ⊤ := by
  obtain ⟨-, rfl, -⟩ | ⟨s, rfl, -⟩ := h
  · exact bot_ne_top
  · exact EReal.coe_ne_top _

theorem xm_ne_top (j : ℕ) : H.xm i j ≠ ⊤ := by
  unfold Head.xm; split_ifs
  · exact EReal.coe_ne_top _
  · exact bot_ne_top

theorem ofBits_ninf : Ideal.ofBits FTy.f32 4286578688#32 = ⊥ := by simp [Ideal.ofBits, Ideal.ieee]

/-- A maximum over some extended reals, none of them plus infinity. -/
theorem fold_max_ne_top (s : Fin 512 → EReal) (hs : ∀ x, s x ≠ ⊤) : Finset.fold max (Ideal.ofBits FTy.f32 4286578688#32) s univ ≠ ⊤ := by
  rw [ofBits_ninf]
  exact ((Finset.fold_max_lt _).mpr ⟨bot_lt_top, fun x _ => lt_top_iff_ne_top.mpr (hs x)⟩).ne

/-- A maximum over some extended reals, one of them not minus infinity. -/
theorem fold_max_ne_bot (s : Fin 512 → EReal) (h0 : s 0 ≠ ⊥) : Finset.fold max (Ideal.ofBits FTy.f32 4286578688#32) s univ ≠ ⊥ := by
  exact ((Finset.lt_fold_max _).mpr (.inr ⟨0, mem_univ _, bot_lt_iff_ne_bot.mpr h0⟩)).ne'

theorem max_ne_top {a b : EReal} (ha : a ≠ ⊤) (hb : b ≠ ⊤) : max a b ≠ ⊤ := by
  rcases max_choice a b with h | h <;> rw [h] <;> assumption

/-- The sum over some whole tiles and the next one. -/
theorem sum_range_tile (f : ℕ → ℝ) (t : ℕ) : ∑ j ∈ range (512 * t), f j + ∑ c : Fin 512, f (512 * t + c.val) = ∑ j ∈ range (512 * (t + 1)), f j := by
  rw [Nat.mul_succ, sum_range_add, Fin.sum_univ_eq_sum_range (fun c => f (512 * t + c))]

/-- One key tile more. -/
theorem Online.one (h : Online H i t m l acc) (ht : 512 * t ≤ i) {s : Fin 512 → EReal} (hs : ∀ c, s c = H.xm i (512 * t + c.val))
    {v : Fin 128 → Fin 512 → EReal} (hv : ∀ e c, v e c = ((H.v (512 * t + c.val) e : ℝ) : EReal)) (m' : EReal)
    (hm : m' = max m (Finset.fold max (Ideal.ofBits FTy.f32 4286578688#32) s univ)) :
    Online H i (t + 1) m' (FloatOps.exp2 (F := Ideal) (φ := .f32) (m - m') * l + ∑ c, FloatOps.exp2 (F := Ideal) (φ := .f32) (s c - m'))
      (fun e => FloatOps.exp2 (F := Ideal) (φ := .f32) (m - m') * acc e + ∑ c, v e c * FloatOps.exp2 (F := Ideal) (φ := .f32) (s c - m')) := by
  obtain ⟨r, hr⟩ : ∃ r : ℝ, m' = ((r : ℝ) : EReal) := by
    have h1 : m' ≠ ⊤ := hm ▸ max_ne_top h.ne_top (fold_max_ne_top s fun c => hs c ▸ xm_ne_top _)
    have h2 : m' ≠ ⊥ := by
      have := fold_max_ne_bot s (by rw [hs 0]; unfold Head.xm; rw [if_pos (by simpa using ht)]; exact EReal.coe_ne_bot _)
      exact fun hb => this (le_bot_iff.mp (hb ▸ hm ▸ le_max_right _ _))
    exact ⟨m'.toReal, (EReal.coe_toReal h1 h2).symm⟩
  subst hr
  obtain ⟨hl, ha⟩ := h.rescale r
  refine .inr ⟨r, rfl, ?_, fun e => ?_⟩
  · simp only [hl, hs, exp2_xm, coe_sum, ← EReal.coe_add, sum_range_tile]
  · simp only [ha, hs, hv, exp2_xm, ← EReal.coe_mul, coe_sum, ← EReal.coe_add, sum_range_tile fun j => H.v j e * H.wt i r j]

/-- Two key tiles more, against one bound for both. -/
theorem Online.two (h : Online H i t m l acc) (ht : 512 * t ≤ i) {s s' : Fin 512 → EReal} (hs : ∀ c, s c = H.xm i (512 * t + c.val))
    (hs' : ∀ c, s' c = H.xm i (512 * (t + 1) + c.val))
    {v v' : Fin 128 → Fin 512 → EReal} (hv : ∀ e c, v e c = ((H.v (512 * t + c.val) e : ℝ) : EReal))
    (hv' : ∀ e c, v' e c = ((H.v (512 * (t + 1) + c.val) e : ℝ) : EReal)) (m' : EReal)
    (hm : m' = max (max m (Finset.fold max (Ideal.ofBits FTy.f32 4286578688#32) s univ)) (Finset.fold max (Ideal.ofBits FTy.f32 4286578688#32) s' univ)) :
    Online H i (t + 2) m' (FloatOps.exp2 (F := Ideal) (φ := .f32) (m - m') * l + ∑ c, FloatOps.exp2 (F := Ideal) (φ := .f32) (s c - m') + ∑ c, FloatOps.exp2 (F := Ideal) (φ := .f32) (s' c - m'))
      (fun e => FloatOps.exp2 (F := Ideal) (φ := .f32) (m - m') * acc e + ∑ c, v e c * FloatOps.exp2 (F := Ideal) (φ := .f32) (s c - m')
        + ∑ c, v' e c * FloatOps.exp2 (F := Ideal) (φ := .f32) (s' c - m')) := by
  obtain ⟨r, hr⟩ : ∃ r : ℝ, m' = ((r : ℝ) : EReal) := by
    have h1 : m' ≠ ⊤ := hm ▸ max_ne_top (max_ne_top h.ne_top (fold_max_ne_top s fun c => hs c ▸ xm_ne_top _)) (fold_max_ne_top s' fun c => hs' c ▸ xm_ne_top _)
    have h2 : m' ≠ ⊥ := by
      have := fold_max_ne_bot s (by rw [hs 0]; unfold Head.xm; rw [if_pos (by simpa using ht)]; exact EReal.coe_ne_bot _)
      exact fun hb => this (le_bot_iff.mp (hb ▸ hm ▸ (le_max_right _ _).trans (le_max_left _ _)))
    exact ⟨m'.toReal, (EReal.coe_toReal h1 h2).symm⟩
  subst hr
  obtain ⟨hl, ha⟩ := h.rescale r
  refine .inr ⟨r, rfl, ?_, fun e => ?_⟩
  · simp only [hl, hs, hs', exp2_xm, coe_sum, ← EReal.coe_add, sum_range_tile]
  · simp only [ha, hs, hs', hv, hv', exp2_xm, ← EReal.coe_mul, coe_sum, ← EReal.coe_add, sum_range_tile fun j => H.v j e * H.wt i r j]

/-- Before any key tile. -/
theorem Online.zero (hm : m = ⊥) (hl : l = 0) (ha : ∀ e, acc e = 0) : Online H i 0 m l acc := .inl ⟨rfl, hm, hl, ha⟩

theorem two_pow_x (i j : ℕ) : (2 : ℝ) ^ (H.x i j) = Real.exp (H.S i j) := by
  unfold Head.x
  rw [Real.rpow_def_of_pos two_pos]
  congr 1
  have : Real.log 2 ≠ 0 := (Real.log_pos one_lt_two).ne'
  field_simp

/-- A row's weights against a bound are its exponentials, scaled by the bound. -/
theorem wt_eq (r : ℝ) (j : ℕ) : H.wt i r j = H.E i j * (2 : ℝ) ^ (-r) := by
  unfold Head.wt Head.E
  split_ifs
  · rw [sub_eq_add_neg, Real.rpow_add two_pos, two_pow_x]
  · exact (zero_mul _).symm

theorem sum_wt (hi : i < 512 * t) (ht : t ≤ 16) (r : ℝ) (f : ℕ → ℝ) :
    ∑ j ∈ range (512 * t), f j * H.wt i r j = (∑ j ∈ range 8192, f j * H.E i j) * (2 : ℝ) ^ (-r) := by
  rw [sum_mul]
  have : ∑ j ∈ range (512 * t), f j * H.wt i r j = ∑ j ∈ range 8192, f j * H.wt i r j := by
    refine sum_subset (range_subset_range.mpr (by omega)) fun j _ hj => ?_
    have : ¬ j ≤ i := by have := mem_range.not.mp hj; omega
    unfold Head.wt
    rw [if_neg this, mul_zero]
  rw [this]
  exact sum_congr rfl fun j _ => by rw [wt_eq, mul_assoc]

/-- The row's output and log-sum-exp, when every key row that the mask lets through was seen. -/
theorem Online.final (h : Online H i t m l acc) (hi : i < 512 * t) (ht : t ≤ 16) :
    (∀ e, Ideal.div (acc e) l = ((H.O i e : ℝ) : EReal)) ∧ m + Ideal.log l * (((Real.log 2)⁻¹ : ℝ) : EReal) = ((H.L i : ℝ) : EReal) := by
  obtain ⟨rfl, -⟩ | ⟨r, rfl, rfl, ha⟩ := h
  · exact absurd hi (by omega)
  have hr : (0 : ℝ) < (2 : ℝ) ^ (-r) := Real.rpow_pos_of_pos two_pos _
  have hW := H.W_pos (i := i) (by omega)
  have hl : ∑ j ∈ range (512 * t), H.wt i r j = H.W i * (2 : ℝ) ^ (-r) := by
    have := sum_wt (H := H) hi ht r fun _ => 1
    simp only [one_mul] at this
    exact this
  rw [hl]
  refine ⟨fun e => ?_, ?_⟩
  · rw [ha, sum_wt hi ht r fun j => H.v j e, Ideal.div_coe (mul_pos hW hr).ne', ← EReal.coe_mul]
    refine congrArg (fun x : ℝ => (x : EReal)) ?_
    unfold Head.O Head.P
    rw [show (∑ j ∈ range 8192, H.E i j / H.W i * H.v j e) = (∑ j ∈ range 8192, H.v j e * H.E i j) * (H.W i)⁻¹ by
      rw [sum_mul]; exact sum_congr rfl fun j _ => by ring]
    field_simp
  · rw [Ideal.log_coe, if_neg (not_le.mpr (mul_pos hW hr)), ← EReal.coe_mul, ← EReal.coe_add]
    refine congrArg (fun x : ℝ => (x : EReal)) ?_
    unfold Head.L
    have h2 : Real.log 2 ≠ 0 := (Real.log_pos one_lt_two).ne'
    rw [Real.log_mul hW.ne' hr.ne', Real.log_rpow two_pos]
    field_simp
    ring

/-! ### The forward kernel's values -/

/-- The named factor from the natural logarithm to the one in base two. -/
theorem named_log2e : Named.named (F := Ideal) (φ := .f32) Cert.KernelIdeal.κ "log2e" 0x3FB8AA3B#32 = (((Real.log 2)⁻¹ : ℝ) : EReal) :=
  IdealRules.named_const.ideal_named_scalar _ _ _ _ rfl
/-- The named value under the mask. -/
theorem named_mask : Named.named (F := Ideal) (φ := .f32) Cert.KernelIdeal.κ "mask" 0xF149F2CA#32 = (⊥ : EReal) :=
  IdealRules.named_const.ideal_named_scalar _ _ _ _ rfl

/-- The scaled queries of a tile, in base two. -/
theorem fpay30_apply {x : Vec Ideal S1x192x512 .bf16} {q : Fin 512 → Fin 192 → ℝ} (hq : ∀ d r, x (ix3 0 d r) = ((q r d : ℝ) : EReal))
    (d : Fin 192) (r : Fin 512) : k0_pay30 x (ix2 d r) = ((q r d * (sc * (Real.log 2)⁻¹) : ℝ) : EReal) := by
  pointwise [k0_pay30]
  rw [hq, named_scale_log2e, ← EReal.coe_mul]

theorem x_eq (i j : ℕ) : ∑ d, H.k j d * (H.q i d * (sc * (Real.log 2)⁻¹)) = H.x i j := by
  unfold Head.x Head.S
  rw [sum_mul, sum_mul]
  exact sum_congr rfl fun d _ => by ring

section Pays

variable {n : ℕ} {v5 : FVec Ideal S192x512 .bf16} (hq : ∀ d (r : Fin 512), v5 (ix2 d r) = ((H.q (512 * n + r.val) d * (sc * (Real.log 2)⁻¹) : ℝ) : EReal))
  {k0 k1 : Vec Ideal S1x512x192 .bf16}
  (hk0 : ∀ (c : Fin 512) d, k0 (ix3 0 c d) = ((H.k (512 * t + c.val) d : ℝ) : EReal))
  (hk1 : ∀ (c : Fin 512) d, k1 (ix3 0 c d) = ((H.k (512 * (t + 1) + c.val) d : ℝ) : EReal))

include hq hk0 in
/-- The scores of a tile before the diagonal. -/
theorem fpay3_apply (ht : t < n) (c r : Fin 512) : k0_pay3 v5 k0 (ix2 c r) = H.xm (512 * n + r.val) (512 * t + c.val) := by
  have := c.isLt
  unfold Head.xm
  rw [if_pos (by omega)]
  pointwise [k0_pay3]
  simp only [hq, hk0, ← EReal.coe_mul, coe_sum, x_eq]

include hq hk0 in
/-- The scores of the diagonal tile, under the mask. -/
theorem fpay24_apply (hn : n < 16) (ht : t = n) (c r : Fin 512) :
    k0_pay24 (BitVec.ofNat 32 n) v5 k0 (ix2 c r) = H.xm (512 * n + r.val) (512 * t + c.val) := by
  subst ht
  pointwise [k0_pay24]
  rw [causal_select hn]
  simp only [hq, hk0, ← EReal.coe_mul, coe_sum, x_eq, named_mask]
  unfold Head.xm
  refine if_congr ?_ rfl rfl
  rw [Nat.add_le_add_iff_left]
  rfl

variable {vm vl : Vec Ideal S1x512 .f32} {va : Vec Ideal S128x512 .f32} {w0 w1 : Vec Ideal S1x1x128x512 .bf16}
  (hw0 : ∀ e (c : Fin 512), w0 (ix4 0 0 e c) = ((H.v (512 * t + c.val) e : ℝ) : EReal))
  (hw1 : ∀ e (c : Fin 512), w1 (ix4 0 0 e c) = ((H.v (512 * (t + 1) + c.val) e : ℝ) : EReal))

include hq hk0 hk1 hw0 hw1 in
/-- The loop's two tiles, both before the diagonal. -/
theorem step_loop (ht : t + 1 < n) (r : Fin 512)
    (h : Online H (512 * n + r.val) t (vm (ix2 0 r)) (vl (ix2 0 r)) fun e => va (ix2 e r)) :
    Online H (512 * n + r.val) (t + 2) (k0_pay37 (k0_pay5 v5 k0 k1 vm) (ix2 0 r))
      (k0_pay35 (k0_pay4 v5 k1) (k0_pay5 v5 k0 k1 vm) (k0_pay9 v5 k0 k1 vm vl) (ix2 0 r))
      fun e => k0_pay36 (k0_pay4 v5 k1) (k0_pay5 v5 k0 k1 vm) (k0_pay7 v5 k0 k1 vm va) (k0_pay8 v5 k0 k1 vm) w0 w1 (ix2 e r) := by
  have := h.two (by omega) (fun c => fpay3_apply hq hk0 (by omega) c r) (fun c => fpay3_apply hq hk1 (by omega) c r) hw0 hw1
    (k0_pay5 v5 k0 k1 vm (ix2 0 r)) (by pointwise [k0_pay5]; rfl)
  have e1 : k0_pay37 (k0_pay5 v5 k0 k1 vm) (ix2 0 r) = k0_pay5 v5 k0 k1 vm (ix2 0 r) := by pointwise [k0_pay37]
  have e2 : k0_pay35 (k0_pay4 v5 k1) (k0_pay5 v5 k0 k1 vm) (k0_pay9 v5 k0 k1 vm vl) (ix2 0 r)
      = FloatOps.exp2 (F := Ideal) (φ := .f32) (vm (ix2 0 r) - k0_pay5 v5 k0 k1 vm (ix2 0 r)) * vl (ix2 0 r)
        + ∑ c, FloatOps.exp2 (F := Ideal) (φ := .f32) (k0_pay3 v5 k0 (ix2 c r) - k0_pay5 v5 k0 k1 vm (ix2 0 r))
        + ∑ c, FloatOps.exp2 (F := Ideal) (φ := .f32) (k0_pay3 v5 k1 (ix2 c r) - k0_pay5 v5 k0 k1 vm (ix2 0 r)) := by
    pointwise [k0_pay35, k0_pay34, k0_pay9, k0_pay6, k0_pay8]
    rfl
  have e3 (e : Fin 128) : k0_pay36 (k0_pay4 v5 k1) (k0_pay5 v5 k0 k1 vm) (k0_pay7 v5 k0 k1 vm va) (k0_pay8 v5 k0 k1 vm) w0 w1 (ix2 e r)
      = FloatOps.exp2 (F := Ideal) (φ := .f32) (vm (ix2 0 r) - k0_pay5 v5 k0 k1 vm (ix2 0 r)) * va (ix2 e r)
        + ∑ c, w0 (ix4 0 0 e c) * FloatOps.exp2 (F := Ideal) (φ := .f32) (k0_pay3 v5 k0 (ix2 c r) - k0_pay5 v5 k0 k1 vm (ix2 0 r))
        + ∑ c, w1 (ix4 0 0 e c) * FloatOps.exp2 (F := Ideal) (φ := .f32) (k0_pay3 v5 k1 (ix2 c r) - k0_pay5 v5 k0 k1 vm (ix2 0 r)) := by
    pointwise [k0_pay36, k0_pay34, k0_pay7, k0_pay6, k0_pay8]
    rfl
  simp only [e1, e2, e3]
  exact this

include hq hk0 hk1 hw0 hw1 in
/-- The last two tiles of an odd query tile: the one before the diagonal and the diagonal one. -/
theorem step_odd (hn : n < 16) (ht : t + 1 = n) (r : Fin 512)
    (h : Online H (512 * n + r.val) t (vm (ix2 0 r)) (vl (ix2 0 r)) fun e => va (ix2 e r)) :
    Online H (512 * n + r.val) (t + 2) (k0_pay46 (k0_pay19 (BitVec.ofNat 32 n) v5 k0 k1 vm) (ix2 0 r))
      (k0_pay44 (k0_pay18 (BitVec.ofNat 32 n) v5 k1) (k0_pay19 (BitVec.ofNat 32 n) v5 k0 k1 vm) (k0_pay21 (BitVec.ofNat 32 n) v5 k0 k1 vm vl)
        (k0_pay23 (BitVec.ofNat 32 n) v5 k0 k1 vm) (ix2 0 r))
      fun e => k0_pay45 (k0_pay18 (BitVec.ofNat 32 n) v5 k1) (k0_pay19 (BitVec.ofNat 32 n) v5 k0 k1 vm) (k0_pay22 (BitVec.ofNat 32 n) v5 k0 k1 vm va)
        (k0_pay23 (BitVec.ofNat 32 n) v5 k0 k1 vm) w0 w1 (ix2 e r) := by
  generalize ha : (BitVec.ofNat 32 n) = a
  have := h.two (by omega) (fun c => fpay3_apply hq hk0 (by omega) c r) (fun c => ha ▸ fpay24_apply hq hk1 hn ht c r) hw0 hw1
    (k0_pay19 a v5 k0 k1 vm (ix2 0 r)) (by pointwise [k0_pay19]; rfl)
  have e1 : k0_pay46 (k0_pay19 a v5 k0 k1 vm) (ix2 0 r) = k0_pay19 a v5 k0 k1 vm (ix2 0 r) := by pointwise [k0_pay46]
  have e2 : k0_pay44 (k0_pay18 a v5 k1) (k0_pay19 a v5 k0 k1 vm) (k0_pay21 a v5 k0 k1 vm vl) (k0_pay23 a v5 k0 k1 vm) (ix2 0 r)
      = FloatOps.exp2 (F := Ideal) (φ := .f32) (vm (ix2 0 r) - k0_pay19 a v5 k0 k1 vm (ix2 0 r)) * vl (ix2 0 r)
        + ∑ c, FloatOps.exp2 (F := Ideal) (φ := .f32) (k0_pay3 v5 k0 (ix2 c r) - k0_pay19 a v5 k0 k1 vm (ix2 0 r))
        + ∑ c, FloatOps.exp2 (F := Ideal) (φ := .f32) (k0_pay24 a v5 k1 (ix2 c r) - k0_pay19 a v5 k0 k1 vm (ix2 0 r)) := by
    pointwise [k0_pay44, k0_pay42, k0_pay43, k0_pay21, k0_pay20, k0_pay23]
    rfl
  have e3 (e : Fin 128) : k0_pay45 (k0_pay18 a v5 k1) (k0_pay19 a v5 k0 k1 vm) (k0_pay22 a v5 k0 k1 vm va) (k0_pay23 a v5 k0 k1 vm) w0 w1 (ix2 e r)
      = FloatOps.exp2 (F := Ideal) (φ := .f32) (vm (ix2 0 r) - k0_pay19 a v5 k0 k1 vm (ix2 0 r)) * va (ix2 e r)
        + ∑ c, w0 (ix4 0 0 e c) * FloatOps.exp2 (F := Ideal) (φ := .f32) (k0_pay3 v5 k0 (ix2 c r) - k0_pay19 a v5 k0 k1 vm (ix2 0 r))
        + ∑ c, w1 (ix4 0 0 e c) * FloatOps.exp2 (F := Ideal) (φ := .f32) (k0_pay24 a v5 k1 (ix2 c r) - k0_pay19 a v5 k0 k1 vm (ix2 0 r)) := by
    pointwise [k0_pay45, k0_pay42, k0_pay43, k0_pay22, k0_pay20, k0_pay23]
    rfl
  simp only [e1, e2, e3]
  exact this

include hq hk0 hw0 in
/-- The last tile of an even query tile: the diagonal one. -/
theorem step_even (hn : n < 16) (ht : t = n) (r : Fin 512)
    (h : Online H (512 * n + r.val) t (vm (ix2 0 r)) (vl (ix2 0 r)) fun e => va (ix2 e r)) :
    Online H (512 * n + r.val) (t + 1) (k0_pay49 (k0_pay25 (BitVec.ofNat 32 n) v5 k0 vm) (ix2 0 r))
      (k0_pay47 (k0_pay28 (BitVec.ofNat 32 n) v5 k0 vm vl) (ix2 0 r))
      fun e => k0_pay48 (k0_pay29 (BitVec.ofNat 32 n) v5 k0 vm va w0) (ix2 e r) := by
  generalize ha : (BitVec.ofNat 32 n) = a
  have := h.one (by omega) (fun c => ha ▸ fpay24_apply hq hk0 hn ht c r) hw0
    (k0_pay25 a v5 k0 vm (ix2 0 r)) (by pointwise [k0_pay25])
  have e1 : k0_pay49 (k0_pay25 a v5 k0 vm) (ix2 0 r) = k0_pay25 a v5 k0 vm (ix2 0 r) := by pointwise [k0_pay49]
  have e2 : k0_pay47 (k0_pay28 a v5 k0 vm vl) (ix2 0 r)
      = FloatOps.exp2 (F := Ideal) (φ := .f32) (vm (ix2 0 r) - k0_pay25 a v5 k0 vm (ix2 0 r)) * vl (ix2 0 r)
        + ∑ c, FloatOps.exp2 (F := Ideal) (φ := .f32) (k0_pay24 a v5 k0 (ix2 c r) - k0_pay25 a v5 k0 vm (ix2 0 r)) := by
    pointwise [k0_pay47, k0_pay28, k0_pay26, k0_pay27]
  have e3 (e : Fin 128) : k0_pay48 (k0_pay29 a v5 k0 vm va w0) (ix2 e r)
      = FloatOps.exp2 (F := Ideal) (φ := .f32) (vm (ix2 0 r) - k0_pay25 a v5 k0 vm (ix2 0 r)) * va (ix2 e r)
        + ∑ c, w0 (ix4 0 0 e c) * FloatOps.exp2 (F := Ideal) (φ := .f32) (k0_pay24 a v5 k0 (ix2 c r) - k0_pay25 a v5 k0 vm (ix2 0 r)) := by
    pointwise [k0_pay48, k0_pay29, k0_pay26, k0_pay27]
  simp only [e1, e2, e3]
  exact this

/-- The state before any tile. -/
theorem step_zero (i : ℕ) (r : Fin 512) : Online H i 0 (k0_pay31 (F := Ideal) (ix2 0 r)) (k0_pay32 (F := Ideal) (ix2 0 r)) fun e => k0_pay33 (F := Ideal) (ix2 e r) := by
  refine .zero ?_ ?_ fun e => ?_
  · pointwise [k0_pay31]; exact named_mask
  · pointwise [k0_pay32]
  · pointwise [k0_pay33]

omit hq hk0 hk1 hw0 hw1 in
/-- What the body stores of a row whose every key tile was seen. -/
theorem step_final {i : ℕ} {r : Fin 512} (h : Online H i t (vm (ix2 0 r)) (vl (ix2 0 r)) fun e => va (ix2 e r)) (hi : i < 512 * t) (ht : t ≤ 16) :
    (∀ e, k0_pay1 va vl (ix3 0 e r) = ((H.O i e : ℝ) : EReal)) ∧ k0_pay2 vm vl (ix3 0 0 r) = ((H.L i : ℝ) : EReal) := by
  obtain ⟨ho, hl⟩ := h.final hi ht
  refine ⟨fun e => ?_, ?_⟩
  · pointwise [k0_pay1]; exact ho e
  · pointwise [k0_pay2]; rw [named_log2e]; exact hl

end Pays

end Cert.Attn
-- ==== Proof.FwdPoint.lean ====
/- The attention forward kernel at one grid point, over the reals: the loop over the pairs of key tiles before the
   diagonal, the last tile or two, and what the body leaves in the two output buffers. -/
module

public import proofs.«01_k».proof.Proof.Gen.KernelIdeal.Frame
public import proofs.«01_k».proof.Proof.BwdLoop
public import proofs.«01_k».proof.Proof.FwdTile
public import Idealize.ShloMosaic.Lib.VecWindow

@[expose] public section

noncomputable section

namespace Cert.Attn

open Idealize.ShloMosaic Cert.KernelIdeal Cert.KernelIdeal.Gen Idealize.ShloMosaic.Pointwise

/-- Where the loop's loads stand. -/
theorem off_loop : ∀ (i : grid0.Coords) (k : Fin (k0_t1_loop i).trips),
    k0_off1 i k = ![0, 512 * (2 * k.val), 0] ∧ k0_off2 i k = ![0, 512 * (2 * k.val + 1), 0]
      ∧ k0_off3 i k = ![0, 2 * k.val, 0, 0] ∧ k0_off4 i k = ![0, 2 * k.val + 1, 0, 0] := by decide +kernel

/-- Where an odd query tile's last loads stand. -/
theorem off_odd : ∀ i : grid0.Coords, (i 1).val % 2 = 1 → k0_off9 i = ![0, 512 * ((i 1).val - 1), 0] ∧ k0_off10 i = ![0, 512 * (i 1).val, 0]
      ∧ k0_off11 i = ![0, (i 1).val - 1, 0, 0] ∧ k0_off12 i = ![0, (i 1).val, 0, 0] := by decide +kernel

/-- The loop takes the tiles before the query tile's pair two at a time. -/
theorem trips_fwd : ∀ i : grid0.Coords, (k0_t1_loop i).trips = (i 1).val / 2 := by decide +kernel
/-- The second loop makes no trip. -/
theorem trips_fwd_tail : ∀ i : grid0.Coords, (k0_t2_loop i).trips = 0 := by decide +kernel

/-- One store over a whole buffer leaves its payload, whatever was stored before. -/
theorem read_writes_whole {sig : RefSig} {κ : Kind} {sp : Space} {S : Shape} {e : EltTy} {Val : EltTy → Type} (v : View sig κ sp S e)
    (f : v.ty.Contents Val) {off : Fin S.rank → ℕ} (inb : ∀ a, off a + S.size a ≤ S.size a) (h0 : ∀ a, off a = 0) (w : S.Idx → Val e) (L : List (View.Piece Val S e)) :
    v.read Val (v.writes Val f ((⟨Rect.unit off S.size inb, w⟩ : View.Piece Val S e) :: L)) = w :=
  funext fun y => View.read_writes_cons_unit_of_mem v f inb w L y y rfl fun a => by rw [h0 a, Nat.zero_add]

/-- The same for a load of a buffer that was stored over whole. -/
theorem readCov_whole {sig : RefSig} {κ : Kind} {sp : Space} {S : Shape} {e : EltTy} {Val : EltTy → Type} [∀ e, Nonempty (Val e)] (v : View sig κ sp S e)
    {off : Fin S.rank → ℕ} (inb : ∀ a, off a + S.size a ≤ S.size a) (h0 : ∀ a, off a = 0) (w : S.Idx → Val e) (L : List (View.Piece Val S e)) :
    v.readCov ((⟨Rect.unit off S.size inb, w⟩ : View.Piece Val S e) :: L) (Rect.unit off S.size inb).toLoadRect = w :=
  (View.readAt_full v _ inb).trans (read_writes_whole v v.junk inb h0 w L)

/-- The running softmax does not mind how its three values are written. -/
theorem Online.congr {H : Head} {i t : ℕ} {m l : EReal} {a : Fin 128 → EReal} (h : Online H i t m l a) {m' l' : EReal} {a' : Fin 128 → EReal}
    (hm : m' = m) (hl : l' = l) (ha : ∀ e, a' e = a e) : Online H i t m' l' a' := by
  obtain rfl := hm
  obtain rfl := hl
  obtain rfl : a' = a := funext ha
  exact h

section

variable (𝒱 : Variants) (c : Dev nD) (bd : Option 𝒱.V) (i : grid0.Coords)
  (arg2 : Memref sig .tc .vmem S1x192x512 .bf16) (harg2 : arg2.IsWhole)
  (arg3 : Memref sig .tc .vmem S1x8192x192 .bf16) (harg3 : arg3.IsWhole)
  (arg4 : Memref sig .tc .vmem S1x16x128x512 .bf16) (harg4 : arg4.IsWhole)
  (arg5 : Memref sig .tc .vmem S1x128x512 .bf16) (harg5 : arg5.IsWhole)
  (arg6 : Memref sig .tc .vmem S1x1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S128x512 .f32) (harg9 : arg9.IsWhole)
  (x0 : Vec Ideal S1x192x512 .bf16) (x1 : Vec Ideal S1x8192x192 .bf16) (x2 : Vec Ideal S1x16x128x512 .bf16)

/-- The pieces that trip `k` writes, at the input blocks. -/
abbrev trip0 (k : Fin (k0_t1_loop i).trips) (a : BitVec 32) (v5 : FVec Ideal S192x512 .bf16) (b : BitVec 32) (f7 : BufTy.Contents (Elt Ideal) arg7.view.ty) (f8 : BufTy.Contents (Elt Ideal) arg8.view.ty)
    (f9 : BufTy.Contents (Elt Ideal) arg9.view.ty) :=
  tripL_k0_t1 (F := Ideal) 𝒱 c bd i arg2 harg2 arg3 harg3 arg4 harg4 arg5 harg5 arg6 harg6 arg7 harg7 arg8 harg8 arg9 harg9
      a v5 b (harg3.unread x1) (harg4.unread x2) k f7 f8 f9

/-- What the forward kernel's three input blocks hold at query tile `n` of a head: real numbers, the rows of the head. -/
structure FwdIn (H : Head) (n : ℕ) (x0 : Vec Ideal S1x192x512 .bf16) (x1 : Vec Ideal S1x8192x192 .bf16) (x2 : Vec Ideal S1x16x128x512 .bf16) : Prop where
  q : ∀ d (r : Fin 512), x0 (ix3 0 d r) = ((H.q (512 * n + r.val) d : ℝ) : EReal)
  k : ∀ (r : Fin 8192) d, x1 (ix3 0 r d) = ((H.k r.val d : ℝ) : EReal)
  v : ∀ (j : Fin 16) e (c : Fin 512), x2 (ix4 0 j e c) = ((H.v (512 * j.val + c.val) e : ℝ) : EReal)

/-- The running softmax of every row of query tile `n`, as the three scratch buffers hold it after `t` key tiles. -/
def Rows (H : Head) (n t : ℕ) (f7 : BufTy.Contents (Elt Ideal) arg7.view.ty) (f8 : BufTy.Contents (Elt Ideal) arg8.view.ty)
    (f9 : BufTy.Contents (Elt Ideal) arg9.view.ty) : Prop :=
  ∀ r : Fin 512, Online H (512 * n + r.val) t (arg7.view.read (Elt Ideal) f7 (ix2 0 r)) (arg8.view.read (Elt Ideal) f8 (ix2 0 r))
    fun e => arg9.view.read (Elt Ideal) f9 (ix2 e r)

variable {x0 x1 x2} {H : Head} (hin : FwdIn H (i 1).val x0 x1 x2)

omit x0 x1 x2 hin in
/-- The same of what the body's whole loads of the three buffers read. -/
theorem Rows.loads {n t : ℕ} {f7 : BufTy.Contents (Elt Ideal) arg7.view.ty} {f8 : BufTy.Contents (Elt Ideal) arg8.view.ty} {f9 : BufTy.Contents (Elt Ideal) arg9.view.ty}
    (h : Rows arg7 arg8 arg9 H n t f7 f8 f9) (r : Fin 512) : Online H (512 * n + r.val) t
      ((View.readAt (Elt Ideal) arg7.view (Rect.unit (s := S1x512) ![0, 0] S1x512.size inb_S1x512_S1x512_0_0).toLoadRect f7 : Vec Ideal S1x512 .f32) (ix2 0 r))
      ((View.readAt (Elt Ideal) arg8.view (Rect.unit (s := S1x512) ![0, 0] S1x512.size inb_S1x512_S1x512_0_0).toLoadRect f8 : Vec Ideal S1x512 .f32) (ix2 0 r))
      fun e => (View.readAt (Elt Ideal) arg9.view (Rect.unit (s := S128x512) ![0, 0] S128x512.size inb_S128x512_S128x512_0_0).toLoadRect f9 : Vec Ideal S128x512 .f32) (ix2 e r) :=
  (h r).congr (congrFun (View.readAt_full arg7.view f7 inb_S1x512_S1x512_0_0) (ix2 0 r)) (congrFun (View.readAt_full arg8.view f8 inb_S1x512_S1x512_0_0) (ix2 0 r))
    fun e => congrFun (View.readAt_full arg9.view f9 inb_S128x512_S128x512_0_0) (ix2 e r)

include hin in
/-- A load of one tile of the keys. -/
theorem load_k {off : Fin 3 → ℕ} (inb : ∀ a, off a + (![1, 512, 192] : Fin 3 → ℕ) a ≤ S1x8192x192.size a) {t : ℕ} (ho : off = ![0, 512 * t, 0]) (ht : t < 16) (r : Fin 512) (d : Fin 192) :
    (View.readAt (Elt Ideal) arg3.view (Rect.unit (s := S1x8192x192) off ![1, 512, 192] inb).toLoadRect (harg3.unread x1) : Vec Ideal S1x512x192 .bf16) (ix3 0 r d) = ((H.k (512 * t + r.val) d : ℝ) : EReal) := by
  refine (readAt_apply _ _ _ ho _ (ix3 0 (⟨512 * t + r.val, by have := r.isLt; omega⟩ : Fin 8192) d) (?_)).trans ?_
  · exact fin3 rfl rfl (Nat.zero_add _).symm
  rw [harg3.read_unread]
  exact hin.k _ _

include hin in
/-- A load of one tile of the values. -/
theorem load_v {off : Fin 4 → ℕ} (inb : ∀ a, off a + (![1, 1, 128, 512] : Fin 4 → ℕ) a ≤ S1x16x128x512.size a) {t : ℕ} (ho : off = ![0, t, 0, 0]) (ht : t < 16) (e : Fin 128) (r : Fin 512) :
    (View.readAt (Elt Ideal) arg4.view (Rect.unit (s := S1x16x128x512) off ![1, 1, 128, 512] inb).toLoadRect (harg4.unread x2) : Vec Ideal S1x1x128x512 .bf16) (ix4 0 0 e r) = ((H.v (512 * t + r.val) e : ℝ) : EReal) := by
  refine (readAt_apply _ _ _ ho _ (ix4 0 ⟨t, ht⟩ e r) (fin4 rfl (Nat.add_zero _).symm (Nat.zero_add _).symm (Nat.zero_add _).symm)).trans ?_
  rw [harg4.read_unread]
  exact hin.v _ _ _

include hin in
/-- One trip. -/
theorem trip0_rows (k : Fin (k0_t1_loop i).trips) (hk : 2 * k.val + 1 < (i 1).val) (a b : BitVec 32) (v5 : FVec Ideal S192x512 .bf16)
    (hq : ∀ d (r : Fin 512), v5 (ix2 d r) = ((H.q (512 * (i 1).val + r.val) d * (sc * (Real.log 2)⁻¹) : ℝ) : EReal))
    (f7 : BufTy.Contents (Elt Ideal) arg7.view.ty) (f8 : BufTy.Contents (Elt Ideal) arg8.view.ty) (f9 : BufTy.Contents (Elt Ideal) arg9.view.ty)
    (h : Rows arg7 arg8 arg9 H (i 1).val (2 * k.val) f7 f8 f9) :
    Rows arg7 arg8 arg9 H (i 1).val (2 * (k.val + 1))
      (arg7.view.writes (Elt Ideal) f7 (trip0 𝒱 c bd i arg2 harg2 arg3 harg3 arg4 harg4 arg5 harg5 arg6 harg6 arg7 harg7 arg8 harg8 arg9 harg9 x1 x2 k a v5 b f7 f8 f9).1)
      (arg8.view.writes (Elt Ideal) f8 (trip0 𝒱 c bd i arg2 harg2 arg3 harg3 arg4 harg4 arg5 harg5 arg6 harg6 arg7 harg7 arg8 harg8 arg9 harg9 x1 x2 k a v5 b f7 f8 f9).2.1)
      (arg9.view.writes (Elt Ideal) f9 (trip0 𝒱 c bd i arg2 harg2 arg3 harg3 arg4 harg4 arg5 harg5 arg6 harg6 arg7 harg7 arg8 harg8 arg9 harg9 x1 x2 k a v5 b f7 f8 f9).2.2) := by
  have hi : (i 1).val < 16 := (i 1).isLt
  obtain ⟨o1, o2, o3, o4⟩ := off_loop i k
  unfold trip0 tripL_k0_t1 trip_k0_t1
  dsimp only
  unfold trip_k0_t1.sl.v97 trip_k0_t1.sl.v104 trip_k0_t1.sl.v111 trip_k0_t1.sl.v114 trip_k0_t1.sl.v117
  intro r
  exact (step_loop hq (load_k i arg3 harg3 hin _ o1 (by omega)) (load_k i arg3 harg3 hin _ o2 (by omega)) (load_v i arg4 harg4 hin _ o3 (by omega)) (load_v i arg4 harg4 hin _ o4 (by omega)) hk r (h.loads arg7 arg8 arg9 r)).congr
    (congrFun (read_writes_whole arg7.view f7 inb_S1x512_S1x512_0_0 (by decide) _ []) (ix2 0 r))
    (congrFun (read_writes_whole arg8.view f8 inb_S1x512_S1x512_0_0 (by decide) _ []) (ix2 0 r))
    fun e => congrFun (read_writes_whole arg9.view f9 inb_S128x512_S128x512_0_0 (by decide) _ []) (ix2 e r)

include hin in
/-- The loop: after `m` trips the scratch buffers hold the running softmax over `2 m` key tiles. -/
theorem loop0_rows (a b : BitVec 32) (v5 : FVec Ideal S192x512 .bf16)
    (hq : ∀ d (r : Fin 512), v5 (ix2 d r) = ((H.q (512 * (i 1).val + r.val) d * (sc * (Real.log 2)⁻¹) : ℝ) : EReal))
    (f7 : BufTy.Contents (Elt Ideal) arg7.view.ty) (f8 : BufTy.Contents (Elt Ideal) arg8.view.ty) (f9 : BufTy.Contents (Elt Ideal) arg9.view.ty)
    (h : Rows arg7 arg8 arg9 H (i 1).val 0 f7 f8 f9) : ∀ m ≤ (k0_t1_loop i).trips, Rows arg7 arg8 arg9 H (i 1).val (2 * m)
      (arg7.view.writes (Elt Ideal) f7 (pb_k0_t1 (F := Ideal) 𝒱 c bd i arg2 harg2 arg3 harg3 arg4 harg4 arg5 harg5 arg6 harg6 arg7 harg7 arg8 harg8 arg9 harg9 a v5 b (harg3.unread x1) (harg4.unread x2) f7 f8 f9 m).1)
      (arg8.view.writes (Elt Ideal) f8 (pb_k0_t1 (F := Ideal) 𝒱 c bd i arg2 harg2 arg3 harg3 arg4 harg4 arg5 harg5 arg6 harg6 arg7 harg7 arg8 harg8 arg9 harg9 a v5 b (harg3.unread x1) (harg4.unread x2) f7 f8 f9 m).2.1)
      (arg9.view.writes (Elt Ideal) f9 (pb_k0_t1 (F := Ideal) 𝒱 c bd i arg2 harg2 arg3 harg3 arg4 harg4 arg5 harg5 arg6 harg6 arg7 harg7 arg8 harg8 arg9 harg9 a v5 b (harg3.unread x1) (harg4.unread x2) f7 f8 f9 m).2.2)
  | 0, _ => h
  | m + 1, hm => by
    have ht := trips_fwd i
    rw [pb_k0_t1_succ (F := Ideal) 𝒱 c bd i arg2 harg2 arg3 harg3 arg4 harg4 arg5 harg5 arg6 harg6 arg7 harg7 arg8 harg8 arg9 harg9 a v5 b (harg3.unread x1) (harg4.unread x2) f7 f8 f9 ⟨m, hm⟩]
    dsimp only
    rw [View.writes_append, View.writes_append, View.writes_append]
    exact trip0_rows 𝒱 c bd i arg2 harg2 arg3 harg3 arg4 harg4 arg5 harg5 arg6 harg6 arg7 harg7 arg8 harg8 arg9 harg9 hin ⟨m, hm⟩ (by dsimp only; omega) a b v5 hq _ _ _ (loop0_rows a b v5 hq f7 f8 f9 h m (by omega))

/-- The second loop writes nothing. -/
theorem loop0_tail (a b b' : BitVec 32) (v5 : FVec Ideal S192x512 .bf16) (y1 y2) (f7 : BufTy.Contents (Elt Ideal) arg7.view.ty) (f8 : BufTy.Contents (Elt Ideal) arg8.view.ty)
    (f9 : BufTy.Contents (Elt Ideal) arg9.view.ty) :
    pb_k0_t2 (F := Ideal) 𝒱 c bd i arg2 harg2 arg3 harg3 arg4 harg4 arg5 harg5 arg6 harg6 arg7 harg7 arg8 harg8 arg9 harg9 a v5 b b' y1 y2 f7 f8 f9 (Scf.trips (k0_t2_loop i).lb (k0_t2_loop i).ub (k0_t2_loop i).st) = ([], [], []) := by
  rw [show Scf.trips (k0_t2_loop i).lb (k0_t2_loop i).ub (k0_t2_loop i).st = 0 from trips_fwd_tail i]
  rfl

include hin in
/-- What the scratch buffers hold where the loops are done. -/
theorem rows_loops (a b : BitVec 32) (v5 : FVec Ideal S192x512 .bf16)
    (hq : ∀ d (r : Fin 512), v5 (ix2 d r) = ((H.q (512 * (i 1).val + r.val) d * (sc * (Real.log 2)⁻¹) : ℝ) : EReal))
    (f7 : BufTy.Contents (Elt Ideal) arg7.view.ty) (f8 : BufTy.Contents (Elt Ideal) arg8.view.ty) (f9 : BufTy.Contents (Elt Ideal) arg9.view.ty)
    (L7 : List (View.Piece (Elt Ideal) S1x512 .f32)) (L8 : List (View.Piece (Elt Ideal) S1x512 .f32)) (L9 : List (View.Piece (Elt Ideal) S128x512 .f32))
    (h7 : L7 = [⟨Rect.unit ![0, 0] S1x512.size inb_S1x512_S1x512_0_0, k0_pay31 (F := Ideal)⟩]) (h8 : L8 = [⟨Rect.unit ![0, 0] S1x512.size inb_S1x512_S1x512_0_0, k0_pay32 (F := Ideal)⟩])
    (h9 : L9 = [⟨Rect.unit ![0, 0] S128x512.size inb_S128x512_S128x512_0_0, k0_pay33 (F := Ideal)⟩]) :
    ∃ M7 M8 M9, (pb_k0_t1 (F := Ideal) 𝒱 c bd i arg2 harg2 arg3 harg3 arg4 harg4 arg5 harg5 arg6 harg6 arg7 harg7 arg8 harg8 arg9 harg9 a v5 b (harg3.unread x1) (harg4.unread x2) (arg7.view.writes (Elt Ideal) f7 L7) (arg8.view.writes (Elt Ideal) f8 L8) (arg9.view.writes (Elt Ideal) f9 L9)
        (Scf.trips (k0_t1_loop i).lb (k0_t1_loop i).ub (k0_t1_loop i).st)).1 ++ L7 = M7
      ∧ (pb_k0_t1 (F := Ideal) 𝒱 c bd i arg2 harg2 arg3 harg3 arg4 harg4 arg5 harg5 arg6 harg6 arg7 harg7 arg8 harg8 arg9 harg9 a v5 b (harg3.unread x1) (harg4.unread x2) (arg7.view.writes (Elt Ideal) f7 L7) (arg8.view.writes (Elt Ideal) f8 L8) (arg9.view.writes (Elt Ideal) f9 L9)
        (Scf.trips (k0_t1_loop i).lb (k0_t1_loop i).ub (k0_t1_loop i).st)).2.1 ++ L8 = M8
      ∧ (pb_k0_t1 (F := Ideal) 𝒱 c bd i arg2 harg2 arg3 harg3 arg4 harg4 arg5 harg5 arg6 harg6 arg7 harg7 arg8 harg8 arg9 harg9 a v5 b (harg3.unread x1) (harg4.unread x2) (arg7.view.writes (Elt Ideal) f7 L7) (arg8.view.writes (Elt Ideal) f8 L8) (arg9.view.writes (Elt Ideal) f9 L9)
        (Scf.trips (k0_t1_loop i).lb (k0_t1_loop i).ub (k0_t1_loop i).st)).2.2 ++ L9 = M9
      ∧ Rows arg7 arg8 arg9 H (i 1).val (2 * ((i 1).val / 2)) (arg7.view.writes (Elt Ideal) f7 M7) (arg8.view.writes (Elt Ideal) f8 M8) (arg9.view.writes (Elt Ideal) f9 M9) := by
  refine ⟨_, _, _, rfl, rfl, rfl, ?_⟩
  rw [View.writes_append, View.writes_append, View.writes_append, ← trips_fwd i]
  refine loop0_rows 𝒱 c bd i arg2 harg2 arg3 harg3 arg4 harg4 arg5 harg5 arg6 harg6 arg7 harg7 arg8 harg8 arg9 harg9 hin a b v5 hq _ _ _ (fun r => ?_) _ le_rfl
  subst h7 h8 h9
  exact (step_zero _ r).congr
    (congrFun (read_writes_whole arg7.view f7 inb_S1x512_S1x512_0_0 (by decide) _ []) (ix2 0 r))
    (congrFun (read_writes_whole arg8.view f8 inb_S1x512_S1x512_0_0 (by decide) _ []) (ix2 0 r))
    fun e => congrFun (read_writes_whole arg9.view f9 inb_S128x512_S128x512_0_0 (by decide) _ []) (ix2 e r)

/-- A load of a row buffer that was just stored over. -/
theorem cov7 (M : Memref sig .tc .vmem S1x512 .f32) (w : Vec Ideal S1x512 .f32) (L : List (View.Piece (Elt Ideal) S1x512 .f32)) :
    M.view.readCov ((⟨Rect.unit ![0, 0] S1x512.size inb_S1x512_S1x512_0_0, w⟩ : View.Piece (Elt Ideal) S1x512 .f32) :: L) (Rect.unit ![0, 0] ![1, 512] inb_S1x512_S1x512_0_0).toLoadRect = w :=
  readCov_whole M.view inb_S1x512_S1x512_0_0 (by decide) w L
/-- The same of the output's buffer. -/
theorem cov9 (M : Memref sig .tc .vmem S128x512 .f32) (w : Vec Ideal S128x512 .f32) (L : List (View.Piece (Elt Ideal) S128x512 .f32)) :
    M.view.readCov ((⟨Rect.unit ![0, 0] S128x512.size inb_S128x512_S128x512_0_0, w⟩ : View.Piece (Elt Ideal) S128x512 .f32) :: L) (Rect.unit ![0, 0] S128x512.size inb_S128x512_S128x512_0_0).toLoadRect = w :=
  readCov_whole M.view inb_S128x512_S128x512_0_0 (by decide) w L

include hin in
/-- The query tile as the body scales it. -/
theorem query0 (d : Fin 192) (r : Fin 512) : k0_pay30 (View.readAt (Elt Ideal) arg2.view (Rect.unit ![0, 0, 0] S1x192x512.size inb_S1x192x512_S1x192x512_0_0_0).toLoadRect (harg2.unread x0)) (ix2 d r)
    = ((H.q (512 * (i 1).val + r.val) d * (sc * (Real.log 2)⁻¹) : ℝ) : EReal) := by
  rw [View.readAt_full arg2.view (harg2.unread x0) inb_S1x192x512_S1x192x512_0_0_0, harg2.read_unread x0]
  exact fpay30_apply (q := fun r d => H.q (512 * (i 1).val + r.val) d) hin.q d r

set_option maxHeartbeats 400000 in
include hin in
/-- The two output blocks at an even query tile. -/
theorem point0_A (hp : (i 1).val % 2 = 0) (hc0 : ¬cond0_0 i) (hc1 : cond0_1 i) :
    (∀ e (r : Fin 512), out0_A_3 (F := Ideal) c i arg2 harg2 arg3 harg3 arg4 harg4 arg5 harg5 arg6 harg6 arg7 harg7 arg8 harg8 arg9 harg9 hc0 hc1 x0 x1 x2 (ix3 0 e r) = ((H.O (512 * (i 1).val + r.val) e : ℝ) : EReal))
      ∧ ∀ r : Fin 512, out0_A_4 (F := Ideal) c i arg2 harg2 arg3 harg3 arg4 harg4 arg5 harg5 arg6 harg6 arg7 harg7 arg8 harg8 arg9 harg9 hc0 hc1 x0 x1 x2 (ix3 0 0 r) = ((H.L (512 * (i 1).val + r.val) : ℝ) : EReal) := by
  have hi : (i 1).val < 16 := (i 1).isLt
  have hq := query0 i arg2 harg2 hin
  obtain ⟨M7, M8, M9, h7, h8, h9, R⟩ := rows_loops Variants.none c none i arg2 harg2 arg3 harg3 arg4 harg4 arg5 harg5 arg6 harg6 arg7 harg7 arg8 harg8 arg9 harg9 hin (BitVec.ofNat 32 (i 1).val) (kernelRun0_A.sl.v34 i) (kernelRun0_A.sl.r c arg2 harg2 x0) hq
    arg7.view.junk arg8.view.junk arg9.view.junk kernelRun0_A.sl.HS0_1 kernelRun0_A.sl.HS1_1 kernelRun0_A.sl.HS2_1 rfl rfl rfl
  rw [show 2 * ((i 1).val / 2) = (i 1).val by omega] at R
  have F (r : Fin 512) : Online H (512 * (i 1).val + r.val) ((i 1).val + 1) (kernelRun0_A.sl.v74 c i arg2 harg2 arg3 harg3 arg4 harg4 arg5 harg5 arg6 harg6 arg7 harg7 arg8 harg8 arg9 harg9 hc1 x0 x1 x2 (ix2 0 r))
      (kernelRun0_A.sl.v67 c i arg2 harg2 arg3 harg3 arg4 harg4 arg5 harg5 arg6 harg6 arg7 harg7 arg8 harg8 arg9 harg9 hc1 x0 x1 x2 (ix2 0 r)) fun e => kernelRun0_A.sl.v66 c i arg2 harg2 arg3 harg3 arg4 harg4 arg5 harg5 arg6 harg6 arg7 harg7 arg8 harg8 arg9 harg9 hc1 x0 x1 x2 (ix2 e r) := by
    unfold kernelRun0_A.sl.v74 kernelRun0_A.sl.v67 kernelRun0_A.sl.v66 kernelRun0_A.sl.HS0_1_1 kernelRun0_A.sl.HS1_1_1 kernelRun0_A.sl.HS2_1_1
      kernelRun0_A.sl.r_1 kernelRun0_A.sl.r_2 kernelRun0_A.sl.r_3 kernelRun0_A.sl.v100 kernelRun0_A.sl.v106 kernelRun0_A.sl.v108
    rw [h7, h8, h9, loop0_tail]
    rw [List.nil_append, List.nil_append, List.nil_append]
    rw [cov7 arg7, cov7 arg8, cov9 arg9]
    exact step_even (v5 := kernelRun0_A.sl.r c arg2 harg2 x0) hq (load_k i arg3 harg3 hin _ (k0_off13_eq i) hi) (load_v i arg4 harg4 hin _ (k0_off14_eq i) hi) hi (by omega) r (R.loads arg7 arg8 arg9 r)
  refine ⟨fun e r => ?_, fun r => ?_⟩
  · unfold out0_A_3 kernelRun0_A
    dsimp only
    exact (congrFun (read_writes_whole _ _ inb_S1x128x512_S1x128x512_0_0_0 (by decide) _ []) (ix3 0 e r)).trans
      ((step_final (F r) (by have := r.isLt; omega) (by omega)).1 e)
  · unfold out0_A_4 kernelRun0_A
    dsimp only
    exact (congrFun (read_writes_whole _ _ inb_S1x1x512_S1x1x512_0_0_0 (by decide) _ []) (ix3 0 0 r)).trans
      (step_final (F r) (by have := r.isLt; omega) (by omega)).2

set_option maxHeartbeats 400000 in
include hin in
/-- The two output blocks at an odd query tile. -/
theorem point0_B (hp : (i 1).val % 2 = 1) (hc0 : cond0_0 i) (hc1 : ¬cond0_1 i) :
    (∀ e (r : Fin 512), out0_B_3 (F := Ideal) c i arg2 harg2 arg3 harg3 arg4 harg4 arg5 harg5 arg6 harg6 arg7 harg7 arg8 harg8 arg9 harg9 hc0 hc1 x0 x1 x2 (ix3 0 e r) = ((H.O (512 * (i 1).val + r.val) e : ℝ) : EReal))
      ∧ ∀ r : Fin 512, out0_B_4 (F := Ideal) c i arg2 harg2 arg3 harg3 arg4 harg4 arg5 harg5 arg6 harg6 arg7 harg7 arg8 harg8 arg9 harg9 hc0 hc1 x0 x1 x2 (ix3 0 0 r) = ((H.L (512 * (i 1).val + r.val) : ℝ) : EReal) := by
  have hi : (i 1).val < 16 := (i 1).isLt
  have hq := query0 i arg2 harg2 hin
  obtain ⟨M7, M8, M9, h7, h8, h9, R⟩ := rows_loops Variants.none c none i arg2 harg2 arg3 harg3 arg4 harg4 arg5 harg5 arg6 harg6 arg7 harg7 arg8 harg8 arg9 harg9 hin (BitVec.ofNat 32 (i 1).val) (kernelRun0_B.sl.v34 i) (kernelRun0_B.sl.r c arg2 harg2 x0) hq
    arg7.view.junk arg8.view.junk arg9.view.junk kernelRun0_B.sl.HS0_1 kernelRun0_B.sl.HS1_1 kernelRun0_B.sl.HS2_1 rfl rfl rfl
  rw [show 2 * ((i 1).val / 2) = (i 1).val - 1 by omega] at R
  obtain ⟨o1, o2, o3, o4⟩ := off_odd i hp
  rw [show (i 1).val = (i 1).val - 1 + 1 by omega] at o2 o4
  have F (r : Fin 512) : Online H (512 * (i 1).val + r.val) ((i 1).val - 1 + 2) (kernelRun0_B.sl.v74 c i arg2 harg2 arg3 harg3 arg4 harg4 arg5 harg5 arg6 harg6 arg7 harg7 arg8 harg8 arg9 harg9 hc0 x0 x1 x2 (ix2 0 r))
      (kernelRun0_B.sl.v67 c i arg2 harg2 arg3 harg3 arg4 harg4 arg5 harg5 arg6 harg6 arg7 harg7 arg8 harg8 arg9 harg9 hc0 x0 x1 x2 (ix2 0 r)) fun e => kernelRun0_B.sl.v66 c i arg2 harg2 arg3 harg3 arg4 harg4 arg5 harg5 arg6 harg6 arg7 harg7 arg8 harg8 arg9 harg9 hc0 x0 x1 x2 (ix2 e r) := by
    unfold kernelRun0_B.sl.v74 kernelRun0_B.sl.v67 kernelRun0_B.sl.v66 kernelRun0_B.sl.HS0_1_1 kernelRun0_B.sl.HS1_1_1 kernelRun0_B.sl.HS2_1_1
      kernelRun0_B.sl.r_1 kernelRun0_B.sl.r_2 kernelRun0_B.sl.r_3 kernelRun0_B.sl.r_4 kernelRun0_B.sl.r_5 kernelRun0_B.sl.v107 kernelRun0_B.sl.v116 kernelRun0_B.sl.v118
    rw [h7, h8, h9, loop0_tail]
    rw [List.nil_append, List.nil_append, List.nil_append]
    rw [cov7 arg7, cov7 arg8, cov9 arg9]
    exact step_odd (v5 := kernelRun0_B.sl.r c arg2 harg2 x0) hq (load_k i arg3 harg3 hin _ o1 (by omega)) (load_k i arg3 harg3 hin _ o2 (by omega))
      (load_v i arg4 harg4 hin _ o3 (by omega)) (load_v i arg4 harg4 hin _ o4 (by omega)) hi (by omega) r (R.loads arg7 arg8 arg9 r)
  refine ⟨fun e r => ?_, fun r => ?_⟩
  · unfold out0_B_3 kernelRun0_B
    dsimp only
    exact (congrFun (read_writes_whole _ _ inb_S1x128x512_S1x128x512_0_0_0 (by decide) _ []) (ix3 0 e r)).trans
      ((step_final (F r) (by have := r.isLt; omega) (by omega)).1 e)
  · unfold out0_B_4 kernelRun0_B
    dsimp only
    exact (congrFun (read_writes_whole _ _ inb_S1x1x512_S1x1x512_0_0_0 (by decide) _ []) (ix3 0 0 r)).trans
      (step_final (F r) (by have := r.isLt; omega) (by omega)).2

end

end Cert.Attn

end
-- ==== Proof.FwdArray.lean ====
/- The attention forward kernel's two output arrays, over the reals, from what its three operand arrays hold. -/
module

public import proofs.«01_k».proof.Proof.FwdPoint
public import Idealize.ShloMosaic.Lib.Pipeline.ValueKit.Point

@[expose] public section

noncomputable section

namespace Cert.Attn

open Idealize.ShloMosaic Idealize.ShloMosaic.TcCoe Cert.KernelIdeal Cert.KernelIdeal.Gen Idealize.ShloMosaic.Pointwise

/-- Where the forward kernel's windows stand at a grid point. -/
theorem idx0 : ∀ t : Fin cfg0.N,
    win0_0.index t = ![(grid0.coords t 0).val, 0, (grid0.coords t 1).val] ∧ win0_1.index t = ![(grid0.coords t 0).val, 0, 0]
      ∧ win0_2.index t = ![(grid0.coords t 0).val, 0, 0, 0] ∧ win0_3.index t = ![(grid0.coords t 0).val, 0, (grid0.coords t 1).val]
      ∧ win0_4.index t = ![(grid0.coords t 0).val, 0, (grid0.coords t 1).val] := by
  decide +kernel

/-- The contents of the three operand arrays of the forward kernel: real numbers, the rows of the eight heads. -/
structure FwdArr (HH : Fin 8 → Head) (V0 : Vec Ideal S8x192x8192 .bf16) (V1 : Vec Ideal S8x8192x192 .bf16) (V3 : Vec Ideal S8x16x128x512 .bf16) : Prop where
  qt : ∀ h d (r : Fin 8192), V0 (ix3 h d r) = (((HH h).q r.val d : ℝ) : EReal)
  k : ∀ h (r : Fin 8192) d, V1 (ix3 h r d) = (((HH h).k r.val d : ℝ) : EReal)
  v : ∀ h (j : Fin 16) e (c : Fin 512), V3 (ix4 h j e c) = (((HH h).v (512 * j.val + c.val) e : ℝ) : EReal)

variable (V : (c : Dev nD) → (b : Ref sig .tc) → Buf (Elt Ideal) ((c : Thread nD τ).loc b)) (c : Dev nD) {HH : Fin 8 → Head}
  (hV : FwdArr HH (V c main_v0) (V c main_v1) (V c main_v3))

set_option maxHeartbeats 2000000 in
include hV in
/-- The blocks of the operands at a grid point are the rows of the point's head, and of its query tile. -/
theorem blocks0 (t : Fin cfg0.N) : FwdIn (HH (grid0.coords t 0)) (grid0.coords t 1).val (iblk0 V c 0 t) (iblk0 V c 1 t) (iblk0 V c 2 t) := by
  obtain ⟨e0, e1, e2, -, -⟩ := idx0 t
  have hn : (grid0.coords t 1).val < 16 := (grid0.coords t 1).isLt
  constructor
  · intro d r
    exact (show iblk0 V c 0 t (ix3 0 d r) = V c main_v0 (ix3 (grid0.coords t 0) d ⟨512 * (grid0.coords t 1).val + r.val, by omega⟩) by blk_ext [iblk0, e0]).trans (hV.qt _ d _)
  · intro r d
    exact (show iblk0 V c 1 t (ix3 0 r d) = V c main_v1 (ix3 (grid0.coords t 0) r d) by blk_ext [iblk0, e1]).trans (hV.k _ r d)
  · intro j e y
    exact (show iblk0 V c 2 t (ix4 0 j e y) = V c main_v3 (ix4 (grid0.coords t 0) j e y) by blk_ext [iblk0, e2]).trans (hV.v _ j e y)

theorem tile0_eq (t : Fin cfg0.N) : (grid0.coords t 1).val = t.val % 16 := by
  refine (Pipeline.Grid.coords_val (G := grid0) (S := 1) t 1 (by decide) rfl).trans ?_
  show t.val / 1 % 16 = t.val % 16
  omega

include hV in
/-- What the two output buffers hold after a grid point: the head's outputs and log-sums at the rows of the point's tile. -/
theorem outs0 (t : Fin cfg0.N) :
    (∀ e (r : Fin 512), (outsAt0 V c t.val t.isLt).1 (ix3 0 e r) = (((HH (grid0.coords t 0)).O (512 * (grid0.coords t 1).val + r.val) e : ℝ) : EReal))
    ∧ ∀ r : Fin 512, (outsAt0 V c t.val t.isLt).2 (ix3 0 0 r) = (((HH (grid0.coords t 0)).L (512 * (grid0.coords t 1).val + r.val) : ℝ) : EReal) := by
  have hb := blocks0 V c hV t
  have hp := tile0_eq t
  by_cases h1 : t.val % 2 = 0
  · have h0 : ¬t.val % 2 = 1 := by omega
    obtain ⟨h3, h4⟩ := point0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hb (by omega) (fun h => h0 ((hcond0_0 t).mp h)) ((hcond0_1 t).mpr h1)
    rw [outsAt0_A V c t h0 h1]
    dsimp only
    exact ⟨h3, h4⟩
  · have h0 : t.val % 2 = 1 := by omega
    obtain ⟨h3, h4⟩ := point0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hb (by omega) ((hcond0_0 t).mpr h0) (fun h => h1 ((hcond0_1 t).mp h))
    rw [outsAt0_B V c t h0 h1]
    dsimp only
    exact ⟨h3, h4⟩

include hV in
/-- The outputs of the attention, as the forward kernel leaves them: each head transposed. -/
theorem o_array : (dat0 V c).arrAt 3 cfg0.N = fun z => (((HH (z 0)).O (z 2).val (z 1) : ℝ) : EReal) := by
  refine (dat0 V c).arrAt_eq_of_covers 3 (fun z => (((HH (z 0)).O (z 2).val (z 1) : ℝ) : EReal)) (by decide +kernel) fun t hf y => ?_
  obtain ⟨-, -, -, e3, -⟩ := idx0 t
  blk_simp [e3]
  rw [after0_3]
  have hy : y = ix3 0 (y 1) (y 2) := by blk_ext
  have h0 : (win0_3.blk t).view.emb y 0 = grid0.coords t 0 := by apply Fin.ext; blk_simp [e3]
  have h1 : (win0_3.blk t).view.emb y 1 = y 1 := by apply Fin.ext; blk_simp [e3]
  rw [h0, h1, Nat.mul_comm]
  exact (congrArg _ hy).trans ((outs0 V c hV t).1 (y 1) (y 2))

include hV in
/-- The logarithms of the rows' sums, as the forward kernel leaves them. -/
theorem lse_array : (dat0 V c).arrAt 4 cfg0.N = fun z => (((HH (z 0)).L (z 2).val : ℝ) : EReal) := by
  refine (dat0 V c).arrAt_eq_of_covers 4 (fun z => (((HH (z 0)).L (z 2).val : ℝ) : EReal)) (by decide +kernel) fun t hf y => ?_
  obtain ⟨-, -, -, -, e4⟩ := idx0 t
  blk_simp [e4]
  rw [after0_4]
  have hy : y = ix3 0 0 (y 2) := by blk_ext
  have h0 : (win0_4.blk t).view.emb y 0 = grid0.coords t 0 := by apply Fin.ext; blk_simp [e4]
  rw [h0, Nat.mul_comm]
  exact (congrArg _ hy).trans ((outs0 V c hV t).2 (y 2))

end Cert.Attn

end
-- ==== Proof.BwdPoint.lean ====
/- The attention backward kernel's body at one grid point, over the reals: the loop over the key tiles before the
   diagonal, then the diagonal tile, and what the three output buffers then hold. -/
module

public import proofs.«01_k».proof.Proof.Gen.KernelIdeal.Frame
public import proofs.«01_k».proof.Proof.BwdLoop
public import Idealize.ShloMosaic.Lib.VecWindow

@[expose] public section

noncomputable section

namespace Cert.Attn

open Idealize.ShloMosaic Cert.KernelIdeal Cert.KernelIdeal.Gen Idealize.ShloMosaic.Pointwise

section

variable (c : Dev nD) (i : grid2.Coords)
  (arg2 : Memref sig .tc .vmem S1x16x128x512 .bf16) (harg2 : arg2.IsWhole)
  (arg3 : Memref sig .tc .vmem S1x8192x192 .bf16) (harg3 : arg3.IsWhole)
  (arg4 : Memref sig .tc .vmem S1x16x192x512 .bf16) (harg4 : arg4.IsWhole)
  (arg5 : Memref sig .tc .vmem S1x512x192 .bf16) (harg5 : arg5.IsWhole)
  (arg6 : Memref sig .tc .vmem S1x192x512 .bf16) (harg6 : arg6.IsWhole)
  (arg7 : Memref sig .tc .vmem S1x512x128 .bf16) (harg7 : arg7.IsWhole)
  (arg8 : Memref sig .tc .vmem S1x128x512 .bf16) (harg8 : arg8.IsWhole)
  (arg9 : Memref sig .tc .vmem S1x512x1 .f32) (harg9 : arg9.IsWhole)
  (arg10 : Memref sig .tc .vmem S1x512x1 .f32) (harg10 : arg10.IsWhole)
  (arg11 : Memref sig .tc .vmem S1x512x192 .f32) (harg11 : arg11.IsWhole)
  (arg12 : Memref sig .tc .vmem S1x16x192x512 .f32) (harg12 : arg12.IsWhole)
  (arg13 : Memref sig .tc .vmem S1x16x128x512 .f32) (harg13 : arg13.IsWhole)
  {x0 : Vec Ideal S1x16x128x512 .bf16} {x1 : Vec Ideal S1x8192x192 .bf16} {x2 : Vec Ideal S1x16x192x512 .bf16}
  {x3 : Vec Ideal S1x512x192 .bf16} {x4 : Vec Ideal S1x192x512 .bf16} {x5 : Vec Ideal S1x512x128 .bf16} {x6 : Vec Ideal S1x128x512 .bf16}
  {x7 : Vec Ideal S1x512x1 .f32} {x8 : Vec Ideal S1x512x1 .f32} {H : Head} (hin : BwdIn H (i 1).val x0 x1 x2 x3 x4 x5 x6 x7 x8)

include hin in
/-- The diagonal tile's masked weights. -/
theorem diag_p (r y : Fin 512) :
    k2_pay22 (BitVec.ofNat 32 (i 1).val)
      (k2_pay20 x3 (View.readAt (Elt Ideal) arg4.view (Rect.unit (s := S1x16x192x512) (k2_off7 i) S1x1x192x512.size (k2_off7_inb i)).toLoadRect (harg4.unread x2))
        (View.readAt (Elt Ideal) arg9.view (Rect.unit ![0, 0, 0] S1x512x1.size inb_S1x512x1_S1x512x1_0_0_0).toLoadRect (harg9.unread x7)))
      (k2_pay21 i) (ix2 r y) = ((H.P (512 * (i 1).val + r.val) (512 * (i 1).val + y.val) : ℝ) : EReal) := by
  have hi : (i 1).val < 16 := (i 1).isLt
  have hKT (d : Fin 192) (y : Fin 512) : View.readAt (Elt Ideal) arg4.view (Rect.unit (s := S1x16x192x512) (k2_off7 i) S1x1x192x512.size (k2_off7_inb i)).toLoadRect (harg4.unread x2) (ix4 0 0 d y) = ((H.k (512 * (i 1).val + y.val) d : ℝ) : EReal) :=
    (readAt_apply _ _ _ (k2_off7_eq i) _ (ix4 0 ⟨(i 1).val, hi⟩ d y) (fin4 rfl rfl (Nat.zero_add _).symm (Nat.zero_add _).symm)).trans
      ((congrFun (harg4.read_unread x2) _).trans (hin.kt ⟨(i 1).val, hi⟩ d y))
  have hL (r : Fin 512) : View.readAt (Elt Ideal) arg9.view (Rect.unit ![0, 0, 0] S1x512x1.size inb_S1x512x1_S1x512x1_0_0_0).toLoadRect (harg9.unread x7) (ix3 0 r 0) = ((H.L (512 * (i 1).val + r.val) : ℝ) : EReal) :=
    (readAt_apply _ _ _ rfl _ (ix3 0 r 0) (fin3 rfl (Nat.zero_add _).symm rfl)).trans
      ((congrFun (harg9.read_unread x7) _).trans (hin.l r))
  refine (pay22_apply i _ _ (pay20_apply _ _ _ _ _ _ (pay12_apply x3 _ hin.q) hKT hL) r y).trans ?_
  congr 1
  have := r.isLt
  split_ifs with h
  · rw [sum_scaled, H.P_eq_two_pow (by omega) (by have : y.val ≤ r.val := h; omega)]
  · exact (H.P_of_lt (by have : r.val < y.val := not_le.1 h; omega)).symm

include hin in
/-- The gradient of the diagonal tile's scores. -/
theorem diag_ds (r y : Fin 512) :
    k2_pay24 (BitVec.ofNat 32 (i 1).val)
      (k2_pay20 x3 (View.readAt (Elt Ideal) arg4.view (Rect.unit (s := S1x16x192x512) (k2_off7 i) S1x1x192x512.size (k2_off7_inb i)).toLoadRect (harg4.unread x2))
        (View.readAt (Elt Ideal) arg9.view (Rect.unit ![0, 0, 0] S1x512x1.size inb_S1x512x1_S1x512x1_0_0_0).toLoadRect (harg9.unread x7)))
      (k2_pay21 i)
      (View.readAt (Elt Ideal) arg7.view (Rect.unit ![0, 0, 0] S1x512x128.size inb_S1x512x128_S1x512x128_0_0_0).toLoadRect (harg7.unread x5))
      (View.readAt (Elt Ideal) arg2.view (Rect.unit (s := S1x16x128x512) (k2_off8 i) S1x1x128x512.size (k2_off8_inb i)).toLoadRect (harg2.unread x0))
      (View.readAt (Elt Ideal) arg10.view (Rect.unit ![0, 0, 0] S1x512x1.size inb_S1x512x1_S1x512x1_0_0_0).toLoadRect (harg10.unread x8))
      (ix2 r y) = ((H.dS (512 * (i 1).val + r.val) (512 * (i 1).val + y.val) : ℝ) : EReal) := by
  have hi : (i 1).val < 16 := (i 1).isLt
  have hG (r : Fin 512) (e : Fin 128) : View.readAt (Elt Ideal) arg7.view (Rect.unit ![0, 0, 0] S1x512x128.size inb_S1x512x128_S1x512x128_0_0_0).toLoadRect (harg7.unread x5) (ix3 0 r e) = ((H.g (512 * (i 1).val + r.val) e : ℝ) : EReal) :=
    (readAt_apply _ _ _ rfl _ (ix3 0 r e) (fin3 rfl (Nat.zero_add _).symm (Nat.zero_add _).symm)).trans
      ((congrFun (harg7.read_unread x5) _).trans (hin.g r e))
  have hV (e : Fin 128) (y : Fin 512) : View.readAt (Elt Ideal) arg2.view (Rect.unit (s := S1x16x128x512) (k2_off8 i) S1x1x128x512.size (k2_off8_inb i)).toLoadRect (harg2.unread x0) (ix4 0 0 e y) = ((H.v (512 * (i 1).val + y.val) e : ℝ) : EReal) :=
    (readAt_apply _ _ _ (k2_off8_eq i) _ (ix4 0 ⟨(i 1).val, hi⟩ e y) (fin4 rfl rfl (Nat.zero_add _).symm (Nat.zero_add _).symm)).trans
      ((congrFun (harg2.read_unread x0) _).trans (hin.v ⟨(i 1).val, hi⟩ e y))
  have hD (r : Fin 512) : View.readAt (Elt Ideal) arg10.view (Rect.unit ![0, 0, 0] S1x512x1.size inb_S1x512x1_S1x512x1_0_0_0).toLoadRect (harg10.unread x8) (ix3 0 r 0) = ((H.D (512 * (i 1).val + r.val) : ℝ) : EReal) :=
    (readAt_apply _ _ _ rfl _ (ix3 0 r 0) (fin3 rfl (Nat.zero_add _).symm rfl)).trans
      ((congrFun (harg10.read_unread x8) _).trans (hin.dl r))
  exact pay24_apply _ _ _ _ _ _ _ _ _ _ (diag_p i arg4 harg4 arg9 harg9 hin) hG hV hD r y

include hin in
/-- The whole gradient of the query tile: the tiles before the diagonal, the diagonal, and the factor. -/
theorem dq_apply (s : FVec Ideal S512x512 .bf16) (hs : ∀ r y, s (ix2 r y) = ((H.dS (512 * (i 1).val + r.val) (512 * (i 1).val + y.val) : ℝ) : EReal))
    (a : Vec Ideal S1x512x192 .f32)
    (ha : ∀ r d, a (ix3 0 r d) = ((0 + ∑ j ∈ Finset.range (i 1).val, ∑ x : Fin 512, H.dS (512 * (i 1).val + r.val) (512 * j + x.val) * H.k (512 * j + x.val) d : ℝ) : EReal))
    (b : Vec Ideal S1x512x192 .f32)
    (hb : b = k2_pay1 s a (View.readAt (Elt Ideal) arg3.view (Rect.unit (s := S1x8192x192) (k2_off9 i) S1x512x192.size (k2_off9_inb i)).toLoadRect (harg3.unread x1)))
    (r : Fin 512) (d : Fin 192) : k2_pay3 b (ix3 0 r d) = ((H.dQ (512 * (i 1).val + r.val) d : ℝ) : EReal) := by
  have hi : (i 1).val < 16 := (i 1).isLt
  have hK (y : Fin 512) (d : Fin 192) : View.readAt (Elt Ideal) arg3.view (Rect.unit (s := S1x8192x192) (k2_off9 i) S1x512x192.size (k2_off9_inb i)).toLoadRect (harg3.unread x1) (ix3 0 y d) = ((H.k (512 * (i 1).val + y.val) d : ℝ) : EReal) :=
    (readAt_apply _ _ (k2_off9_inb i) (k2_off9_eq i) (ix3 0 y d) (ix3 0 ⟨512 * (i 1).val + y.val, by have := y.isLt; omega⟩ d) (fin3 rfl rfl (Nat.zero_add _).symm)).trans
      ((congrFun (harg3.read_unread x1) _).trans (hin.k ⟨512 * (i 1).val + y.val, by have := y.isLt; omega⟩ d))
  subst hb
  refine (pay3_apply _ _ (pay1_apply _ _ _ _ _ _ hs ha hK) r d).trans ?_
  refine congrArg (fun x : ℝ => (x : EReal)) ?_
  have hr := r.isLt
  rw [Head.dQ, zero_add, ← Finset.sum_range_succ (fun j => ∑ x : Fin 512, H.dS (512 * (i 1).val + r.val) (512 * j + x.val) * H.k (512 * j + x.val) d),
    sum_tiles_of_zero (n := (i 1).val + 1) (by omega) (fun x => H.dS (512 * (i 1).val + r.val) x * H.k x d)]
  intro x hx
  rw [H.dS_of_lt (by omega), zero_mul]

include hin in
/-- The diagonal tile's store into the keys' gradient, over what the loop left. -/
theorem diag_dk (s : FVec Ideal S512x512 .bf16) (hs : ∀ r y, s (ix2 r y) = ((H.dS (512 * (i 1).val + r.val) (512 * (i 1).val + y.val) : ℝ) : EReal))
    (B : ℕ → Fin 192 → Fin 512 → ℝ) (f : BufTy.Contents (Elt Ideal) arg12.view.ty)
    (hf : ∀ (j : Fin 16) d y, arg12.view.read (Elt Ideal) f (ix4 0 j d y) = ((if j.val < (i 1).val then B j.val d y + sc * ∑ x : Fin 512, H.q (512 * (i 1).val + x.val) d * H.dS (512 * (i 1).val + x.val) (512 * j.val + y.val) else B j.val d y : ℝ) : EReal))
    (j : Fin 16) (d : Fin 192) (y : Fin 512) :
    arg12.view.read (Elt Ideal) (arg12.view.writes (Elt Ideal) f
      [⟨Rect.unit (s := S1x16x192x512) (k2_off7 i) S1x1x192x512.size (k2_off7_inb i),
        k2_pay2 s (View.readAt (Elt Ideal) arg12.view (Rect.unit (s := S1x16x192x512) (k2_off7 i) S1x1x192x512.size (k2_off7_inb i)).toLoadRect f)
          (View.readAt (Elt Ideal) arg6.view (Rect.unit ![0, 0, 0] S1x192x512.size inb_S1x192x512_S1x192x512_0_0_0).toLoadRect (harg6.unread x4))⟩]) (ix4 0 j d y)
      = ((B j.val d y + sc * ∑ x : Fin 512, H.q (512 * (i 1).val + x.val) d * H.dS (512 * (i 1).val + x.val) (512 * j.val + y.val) : ℝ) : EReal) := by
  have hi : (i 1).val < 16 := (i 1).isLt
  have hQt (d : Fin 192) (r : Fin 512) : View.readAt (Elt Ideal) arg6.view (Rect.unit ![0, 0, 0] S1x192x512.size inb_S1x192x512_S1x192x512_0_0_0).toLoadRect (harg6.unread x4) (ix3 0 d r) = ((H.q (512 * (i 1).val + r.val) d : ℝ) : EReal) :=
    (readAt_apply _ _ _ rfl _ (ix3 0 d r) (fin3 rfl (Nat.zero_add _).symm (Nat.zero_add _).symm)).trans
      ((congrFun (harg6.read_unread x4) _).trans (hin.qt d r))
  have hB' (d : Fin 192) (y : Fin 512) : View.readAt (Elt Ideal) arg12.view (Rect.unit (s := S1x16x192x512) (k2_off7 i) S1x1x192x512.size (k2_off7_inb i)).toLoadRect f (ix4 0 0 d y) = ((B (i 1).val d y : ℝ) : EReal) :=
    (readAt_apply _ _ _ (k2_off7_eq i) _ (ix4 0 ⟨(i 1).val, hi⟩ d y) (fin4 rfl rfl (Nat.zero_add _).symm (Nat.zero_add _).symm)).trans
      ((hf ⟨(i 1).val, hi⟩ d y).trans (by rw [if_neg (lt_irrefl _)]))
  by_cases hj : j.val = (i 1).val
  · refine (View.read_writes_cons_unit_of_mem _ _ _ _ _ _ (ix4 0 0 d y) (k2_off7_eq i) ?_).trans ?_
    · exact fin4 rfl hj (Nat.zero_add _).symm (Nat.zero_add _).symm
    rw [hj]
    exact pay2_apply _ _ _ _ _ _ hs hB' hQt d y
  · refine (View.read_writes_cons_unit_of_not_mem _ _ _ _ _ _ (k2_off7_eq i) (1 : Fin 4) ?_).trans ((hf j d y).trans ?_)
    · show j.val < (i 1).val ∨ (i 1).val + 1 ≤ j.val
      omega
    split_ifs with h
    · rfl
    · congr 1
      rw [Finset.sum_eq_zero, mul_zero, add_zero]
      intro x _
      rw [H.dS_of_lt (by have := x.isLt; omega), mul_zero]

include hin in
/-- The diagonal tile's store into the values' gradient, over what the loop left. -/
theorem diag_dv (p : FVec Ideal S512x512 .f32) (hp : ∀ r y, k2_pay22 (BitVec.ofNat 32 (i 1).val) p (k2_pay21 i) (ix2 r y) = ((H.P (512 * (i 1).val + r.val) (512 * (i 1).val + y.val) : ℝ) : EReal))
    (C : ℕ → Fin 128 → Fin 512 → ℝ) (f : BufTy.Contents (Elt Ideal) arg13.view.ty)
    (hf : ∀ (j : Fin 16) e y, arg13.view.read (Elt Ideal) f (ix4 0 j e y) = ((if j.val < (i 1).val then C j.val e y + ∑ x : Fin 512, H.g (512 * (i 1).val + x.val) e * H.P (512 * (i 1).val + x.val) (512 * j.val + y.val) else C j.val e y : ℝ) : EReal))
    (j : Fin 16) (e : Fin 128) (y : Fin 512) :
    arg13.view.read (Elt Ideal) (arg13.view.writes (Elt Ideal) f
      [⟨Rect.unit (s := S1x16x128x512) (k2_off8 i) S1x1x128x512.size (k2_off8_inb i),
        k2_pay23 (BitVec.ofNat 32 (i 1).val) p (k2_pay21 i) (View.readAt (Elt Ideal) arg13.view (Rect.unit (s := S1x16x128x512) (k2_off8 i) S1x1x128x512.size (k2_off8_inb i)).toLoadRect f)
          (View.readAt (Elt Ideal) arg8.view (Rect.unit ![0, 0, 0] S1x128x512.size inb_S1x128x512_S1x128x512_0_0_0).toLoadRect (harg8.unread x6))⟩]) (ix4 0 j e y)
      = ((C j.val e y + ∑ x : Fin 512, H.g (512 * (i 1).val + x.val) e * H.P (512 * (i 1).val + x.val) (512 * j.val + y.val) : ℝ) : EReal) := by
  have hi : (i 1).val < 16 := (i 1).isLt
  have hGt (e : Fin 128) (r : Fin 512) : View.readAt (Elt Ideal) arg8.view (Rect.unit ![0, 0, 0] S1x128x512.size inb_S1x128x512_S1x128x512_0_0_0).toLoadRect (harg8.unread x6) (ix3 0 e r) = ((H.g (512 * (i 1).val + r.val) e : ℝ) : EReal) :=
    (readAt_apply _ _ _ rfl _ (ix3 0 e r) (fin3 rfl (Nat.zero_add _).symm (Nat.zero_add _).symm)).trans
      ((congrFun (harg8.read_unread x6) _).trans (hin.gt e r))
  have hC' (e : Fin 128) (y : Fin 512) : View.readAt (Elt Ideal) arg13.view (Rect.unit (s := S1x16x128x512) (k2_off8 i) S1x1x128x512.size (k2_off8_inb i)).toLoadRect f (ix4 0 0 e y) = ((C (i 1).val e y : ℝ) : EReal) :=
    (readAt_apply _ _ _ (k2_off8_eq i) _ (ix4 0 ⟨(i 1).val, hi⟩ e y) (fin4 rfl rfl (Nat.zero_add _).symm (Nat.zero_add _).symm)).trans
      ((hf ⟨(i 1).val, hi⟩ e y).trans (by rw [if_neg (lt_irrefl _)]))
  by_cases hj : j.val = (i 1).val
  · refine (View.read_writes_cons_unit_of_mem _ _ _ _ _ _ (ix4 0 0 e y) (k2_off8_eq i) ?_).trans ?_
    · exact fin4 rfl hj (Nat.zero_add _).symm (Nat.zero_add _).symm
    rw [hj]
    exact pay23_apply _ _ _ _ _ _ _ _ hp hC' hGt e y
  · refine (View.read_writes_cons_unit_of_not_mem _ _ _ _ _ _ (k2_off8_eq i) (1 : Fin 4) ?_).trans ((hf j e y).trans ?_)
    · show j.val < (i 1).val ∨ (i 1).val + 1 ≤ j.val
      omega
    split_ifs with h
    · rfl
    · congr 1
      rw [Finset.sum_eq_zero, add_zero]
      intro x _
      rw [H.P_of_lt (by have := x.isLt; omega), mul_zero]

include hin in
/-- What the body leaves in the three output buffers at a point that continues a head: the query tile's whole gradient,
    and the keys' and values' gradients increased by the query tile's contribution. -/
theorem point2_B (hc : ¬ cond2_0 i) (xo10 : Vec Ideal S1x16x192x512 .f32) (xo11 : Vec Ideal S1x16x128x512 .f32)
    (B : ℕ → Fin 192 → Fin 512 → ℝ) (C : ℕ → Fin 128 → Fin 512 → ℝ) (hB : ∀ (j : Fin 16) d y, xo10 (ix4 0 j d y) = ((B j.val d y : ℝ) : EReal))
    (hC : ∀ (j : Fin 16) e y, xo11 (ix4 0 j e y) = ((C j.val e y : ℝ) : EReal)) :
    (∀ r d, out2_B_9 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix3 0 r d) = ((H.dQ (512 * (i 1).val + r.val) d : ℝ) : EReal))
    ∧ (∀ (j : Fin 16) d y, out2_B_10 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix4 0 j d y)
        = ((B j.val d y + sc * ∑ x : Fin 512, H.q (512 * (i 1).val + x.val) d * H.dS (512 * (i 1).val + x.val) (512 * j.val + y.val) : ℝ) : EReal))
    ∧ (∀ (j : Fin 16) e y, out2_B_11 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo10 xo11 (ix4 0 j e y)
        = ((C j.val e y + ∑ x : Fin 512, H.g (512 * (i 1).val + x.val) e * H.P (512 * (i 1).val + x.val) (512 * j.val + y.val) : ℝ) : EReal)) := by
  have hv3 : View.readAt (Elt Ideal) arg5.view (Rect.unit ![0, 0, 0] ![1, 512, 192] inb_S1x512x192_S1x512x192_0_0_0).toLoadRect (harg5.unread x3) = x3 :=
    (View.readAt_full arg5.view (harg5.unread x3) inb_S1x512x192_S1x512x192_0_0_0).trans (harg5.read_unread x3)
  have hS := diag_ds i arg2 harg2 arg4 harg4 arg7 harg7 arg9 harg9 arg10 harg10 hin
  have hA0 (r : Fin 512) (d : Fin 192) : arg11.view.read (Elt Ideal) (arg11.view.writes (Elt Ideal) arg11.view.junk kernelRun2_B.sl.H9_1) (ix3 0 r d) = ((0 : ℝ) : EReal) := by
    unfold kernelRun2_B.sl.H9_1
    refine (View.read_writes_cons_unit_of_mem _ _ _ _ _ _ (ix3 0 r d) rfl ?_).trans ?_
    · exact fin3 rfl (Nat.zero_add _).symm (Nat.zero_add _).symm
    exact pay13_apply r d
  obtain ⟨lA, lB, lC⟩ := loop2_reads Variants.none c none i arg2 harg2 arg3 harg3 arg4 harg4 arg5 harg5 arg6 harg6 arg7 harg7 arg8 harg8 arg9 harg9 arg10 harg10 arg11 harg11 arg12 harg12 arg13 harg13 hin
    (arg11.view.writes (Elt Ideal) arg11.view.junk kernelRun2_B.sl.H9_1) (harg12.unread xo10) (harg13.unread xo11) (fun _ _ => 0) B C hA0
    (fun j d y => (congrFun (harg12.read_unread xo10) _).trans (hB j d y)) (fun j e y => (congrFun (harg13.read_unread xo11) _).trans (hC j e y)) (i 1).val le_rfl
  refine ⟨fun r d => ?_, fun j d y => ?_, fun j e y => ?_⟩
  · unfold out2_B_9
    unfold kernelRun2_B
    dsimp only
    unfold kernelRun2_B.sl.v87 kernelRun2_B.sl.H9_1_1 kernelRun2_B.sl.v64 kernelRun2_B.sl.r_1 kernelRun2_B.sl.r
    simp only [loop2_tail, List.nil_append, hv3, trips_eq (i 1)]
    refine (View.read_writes_cons_unit_of_mem _ _ _ _ _ _ (ix3 0 r d) rfl ?_).trans ?_
    · exact fin3 rfl (Nat.zero_add _).symm (Nat.zero_add _).symm
    refine dq_apply i arg3 harg3 hin _ hS ?a ?ha ?b ?hb r d
    case hb =>
      funext z
      refine (readAt_apply _ _ _ rfl _ z (fin3 (Nat.zero_add _).symm (Nat.zero_add _).symm (Nat.zero_add _).symm)).trans ?_
      refine (View.read_writes_cons_unit_of_mem _ _ _ _ _ _ z rfl ?_)
      exact fin3 (Nat.zero_add _).symm (Nat.zero_add _).symm (Nat.zero_add _).symm
    case ha =>
      intro r d
      unfold View.readCov
      refine (readAt_apply _ _ _ rfl _ (ix3 0 r d) (fin3 rfl (Nat.zero_add _).symm (Nat.zero_add _).symm)).trans ?_
      rw [View.writes_append]
      exact lA r d
  · unfold out2_B_10
    unfold kernelRun2_B
    dsimp only
    unfold kernelRun2_B.sl.v75 kernelRun2_B.sl.r_1 kernelRun2_B.sl.r
    simp only [loop2_tail, List.nil_append, hv3, trips_eq (i 1)]
    exact diag_dk i arg6 harg6 arg12 hin _ hS B _ lB j d y
  · unfold out2_B_11
    unfold kernelRun2_B
    dsimp only
    unfold kernelRun2_B.sl.v40 kernelRun2_B.sl.r
    simp only [loop2_tail, List.nil_append, hv3, trips_eq (i 1)]
    exact diag_dv i arg8 harg8 arg13 hin _ (diag_p i arg4 harg4 arg9 harg9 hin) C _ lC j e y

include hin in
/-- What the body leaves in the three output buffers at a head's first point: the query tile's whole gradient, and the query
    tile's contribution to the keys' and values' gradients. -/
theorem point2_A (hc : cond2_0 i) :
    (∀ r d, out2_A_9 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix3 0 r d) = ((H.dQ (512 * (i 1).val + r.val) d : ℝ) : EReal))
    ∧ (∀ (j : Fin 16) d y, out2_A_10 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix4 0 j d y)
        = ((0 + sc * ∑ x : Fin 512, H.q (512 * (i 1).val + x.val) d * H.dS (512 * (i 1).val + x.val) (512 * j.val + y.val) : ℝ) : EReal))
    ∧ (∀ (j : Fin 16) e y, out2_A_11 (F := Ideal) c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix4 0 j e y)
        = ((0 + ∑ x : Fin 512, H.g (512 * (i 1).val + x.val) e * H.P (512 * (i 1).val + x.val) (512 * j.val + y.val) : ℝ) : EReal)) := by
  have hv3 : View.readAt (Elt Ideal) arg5.view (Rect.unit ![0, 0, 0] ![1, 512, 192] inb_S1x512x192_S1x512x192_0_0_0).toLoadRect (harg5.unread x3) = x3 :=
    (View.readAt_full arg5.view (harg5.unread x3) inb_S1x512x192_S1x512x192_0_0_0).trans (harg5.read_unread x3)
  have hS := diag_ds i arg2 harg2 arg4 harg4 arg7 harg7 arg9 harg9 arg10 harg10 hin
  have hA0 (r : Fin 512) (d : Fin 192) : arg11.view.read (Elt Ideal) (arg11.view.writes (Elt Ideal) arg11.view.junk kernelRun2_A.sl.H9_1) (ix3 0 r d) = ((0 : ℝ) : EReal) := by
    unfold kernelRun2_A.sl.H9_1
    refine (View.read_writes_cons_unit_of_mem _ _ _ _ _ _ (ix3 0 r d) rfl ?_).trans ?_
    · exact fin3 rfl (Nat.zero_add _).symm (Nat.zero_add _).symm
    exact pay13_apply r d
  have hB0 (j : Fin 16) (d : Fin 192) (y : Fin 512) : arg12.view.read (Elt Ideal) (arg12.view.writes (Elt Ideal) arg12.view.junk kernelRun2_A.sl.H10_1) (ix4 0 j d y) = ((0 : ℝ) : EReal) := by
    unfold kernelRun2_A.sl.H10_1
    refine (View.read_writes_cons_unit_of_mem _ _ _ _ _ _ (ix4 0 j d y) rfl ?_).trans ?_
    · exact fin4 rfl (Nat.zero_add _).symm (Nat.zero_add _).symm (Nat.zero_add _).symm
    exact pay10_apply j d y
  have hC0 (j : Fin 16) (e : Fin 128) (y : Fin 512) : arg13.view.read (Elt Ideal) (arg13.view.writes (Elt Ideal) arg13.view.junk kernelRun2_A.sl.H11_1) (ix4 0 j e y) = ((0 : ℝ) : EReal) := by
    unfold kernelRun2_A.sl.H11_1
    refine (View.read_writes_cons_unit_of_mem _ _ _ _ _ _ (ix4 0 j e y) rfl ?_).trans ?_
    · exact fin4 rfl (Nat.zero_add _).symm (Nat.zero_add _).symm (Nat.zero_add _).symm
    exact pay11_apply j e y
  obtain ⟨lA, lB, lC⟩ := loop2_reads Variants.none c none i arg2 harg2 arg3 harg3 arg4 harg4 arg5 harg5 arg6 harg6 arg7 harg7 arg8 harg8 arg9 harg9 arg10 harg10 arg11 harg11 arg12 harg12 arg13 harg13 hin
    (arg11.view.writes (Elt Ideal) arg11.view.junk kernelRun2_A.sl.H9_1) (arg12.view.writes (Elt Ideal) arg12.view.junk kernelRun2_A.sl.H10_1)
    (arg13.view.writes (Elt Ideal) arg13.view.junk kernelRun2_A.sl.H11_1) (fun _ _ => 0) (fun _ _ _ => 0) (fun _ _ _ => 0) hA0 hB0 hC0 (i 1).val le_rfl
  refine ⟨fun r d => ?_, fun j d y => ?_, fun j e y => ?_⟩
  · unfold out2_A_9
    unfold kernelRun2_A
    dsimp only
    unfold kernelRun2_A.sl.v87 kernelRun2_A.sl.H9_1_1 kernelRun2_A.sl.v64 kernelRun2_A.sl.r_1 kernelRun2_A.sl.r
    simp only [loop2_tail, List.nil_append, hv3, trips_eq (i 1)]
    refine (View.read_writes_cons_unit_of_mem _ _ _ _ _ _ (ix3 0 r d) rfl ?_).trans ?_
    · exact fin3 rfl (Nat.zero_add _).symm (Nat.zero_add _).symm
    refine dq_apply i arg3 harg3 hin _ hS ?a ?ha ?b ?hb r d
    case hb =>
      funext z
      refine (readAt_apply _ _ _ rfl _ z (fin3 (Nat.zero_add _).symm (Nat.zero_add _).symm (Nat.zero_add _).symm)).trans ?_
      refine (View.read_writes_cons_unit_of_mem _ _ _ _ _ _ z rfl ?_)
      exact fin3 (Nat.zero_add _).symm (Nat.zero_add _).symm (Nat.zero_add _).symm
    case ha =>
      intro r d
      unfold View.readCov
      refine (readAt_apply _ _ _ rfl _ (ix3 0 r d) (fin3 rfl (Nat.zero_add _).symm (Nat.zero_add _).symm)).trans ?_
      rw [View.writes_append]
      exact lA r d
  · unfold out2_A_10
    rw [View.read_writes_apply_eq VO2_10 VO2_10.junk arg12.view arg12.view.junk _ _ (cover2_A_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix4 0 j d y))]
    unfold kernelRun2_A
    dsimp only
    unfold kernelRun2_A.sl.v75 kernelRun2_A.sl.r_1 kernelRun2_A.sl.r
    simp only [loop2_tail, List.nil_append, hv3, trips_eq (i 1)]
    rw [← List.singleton_append, View.writes_append, View.writes_append]
    exact diag_dk i arg6 harg6 arg12 hin _ hS (fun _ _ _ => 0) _ lB j d y
  · unfold out2_A_11
    rw [View.read_writes_apply_eq VO2_11 VO2_11.junk arg13.view arg13.view.junk _ _ (cover2_A_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 (ix4 0 j e y))]
    unfold kernelRun2_A
    dsimp only
    unfold kernelRun2_A.sl.v40 kernelRun2_A.sl.r
    simp only [loop2_tail, List.nil_append, hv3, trips_eq (i 1)]
    rw [← List.singleton_append, View.writes_append, View.writes_append]
    exact diag_dv i arg8 harg8 arg13 hin _ (diag_p i arg4 harg4 arg9 harg9 hin) (fun _ _ _ => 0) _ lC j e y

end

end Cert.Attn

end
-- ==== Proof.BwdArray.lean ====
/- The attention backward kernel's three output arrays, over the reals, from what its nine operand arrays hold. -/
module

public import proofs.«01_k».proof.Proof.BwdPoint
public import Idealize.ShloMosaic.Lib.Pipeline.ValueKit.Point

@[expose] public section

noncomputable section

namespace Cert.Attn

open Idealize.ShloMosaic Idealize.ShloMosaic.TcCoe Cert.KernelIdeal Cert.KernelIdeal.Gen Idealize.ShloMosaic.Pointwise

/-- Where the backward kernel's windows stand at a grid point. -/
theorem idx2 : ∀ t : Fin cfg2.N,
    (win2_0.index t = ![(grid2.coords t 0).val, 0, 0, 0] ∧ win2_1.index t = ![(grid2.coords t 0).val, 0, 0]
      ∧ win2_2.index t = ![(grid2.coords t 0).val, 0, 0, 0] ∧ win2_3.index t = ![(grid2.coords t 0).val, (grid2.coords t 1).val, 0]
      ∧ win2_4.index t = ![(grid2.coords t 0).val, 0, (grid2.coords t 1).val] ∧ win2_5.index t = ![(grid2.coords t 0).val, (grid2.coords t 1).val, 0])
    ∧ win2_6.index t = ![(grid2.coords t 0).val, 0, (grid2.coords t 1).val] ∧ win2_7.index t = ![(grid2.coords t 0).val, (grid2.coords t 1).val, 0]
      ∧ win2_8.index t = ![(grid2.coords t 0).val, (grid2.coords t 1).val, 0] ∧ win2_9.index t = ![(grid2.coords t 0).val, (grid2.coords t 1).val, 0]
      ∧ win2_10.index t = ![(grid2.coords t 0).val, 0, 0, 0] ∧ win2_11.index t = ![(grid2.coords t 0).val, 0, 0, 0] := by
  decide +kernel

/-- The contents of the nine operand arrays of the backward kernel: real numbers, the rows of the eight heads. -/
structure BwdArr (HH : Fin 8 → Head) (V3 : Vec Ideal S8x16x128x512 .bf16) (V1 : Vec Ideal S8x8192x192 .bf16) (V10 : Vec Ideal S8x16x192x512 .bf16)
    (V8 : Vec Ideal S8x8192x192 .bf16) (V0 : Vec Ideal S8x192x8192 .bf16) (V11 : Vec Ideal S8x8192x128 .bf16) (V4 : Vec Ideal S8x128x8192 .bf16)
    (V12 : Vec Ideal S8x8192x1 .f32) (V7 : Vec Ideal S8x8192x1 .f32) : Prop where
  v : ∀ h (j : Fin 16) e (c : Fin 512), V3 (ix4 h j e c) = (((HH h).v (512 * j.val + c.val) e : ℝ) : EReal)
  k : ∀ h (r : Fin 8192) d, V1 (ix3 h r d) = (((HH h).k r.val d : ℝ) : EReal)
  kt : ∀ h (j : Fin 16) d (c : Fin 512), V10 (ix4 h j d c) = (((HH h).k (512 * j.val + c.val) d : ℝ) : EReal)
  q : ∀ h (r : Fin 8192) d, V8 (ix3 h r d) = (((HH h).q r.val d : ℝ) : EReal)
  qt : ∀ h d (r : Fin 8192), V0 (ix3 h d r) = (((HH h).q r.val d : ℝ) : EReal)
  g : ∀ h (r : Fin 8192) e, V11 (ix3 h r e) = (((HH h).g r.val e : ℝ) : EReal)
  gt : ∀ h e (r : Fin 8192), V4 (ix3 h e r) = (((HH h).g r.val e : ℝ) : EReal)
  l : ∀ h (r : Fin 8192), V12 (ix3 h r 0) = (((HH h).L r.val : ℝ) : EReal)
  dl : ∀ h (r : Fin 8192), V7 (ix3 h r 0) = (((HH h).D r.val : ℝ) : EReal)

variable (V : (c : Dev nD) → (b : Ref sig .tc) → Buf (Elt Ideal) ((c : Thread nD τ).loc b)) (c : Dev nD) {HH : Fin 8 → Head}
  (hV : BwdArr HH (V c main_v3) (V c main_v1) (V c main_v10) (V c main_v8) (V c main_v0) (V c main_v11) (V c main_v4) (V c main_v12) (V c main_v7))

/-- A row of the grid point's query tile, as a row of the array. -/
abbrev row2 (t : Fin cfg2.N) (r : Fin 512) : Fin 8192 :=
  ⟨512 * (grid2.coords t 1).val + r.val, by have : (grid2.coords t 1).val < 16 := (grid2.coords t 1).isLt; omega⟩

set_option maxHeartbeats 2000000 in
include hV in
/-- The blocks of the operands at a grid point are the rows of the point's head, and of its query tile. -/
theorem blocks2 (t : Fin cfg2.N) : BwdIn (HH (grid2.coords t 0)) (grid2.coords t 1).val (iblk2 V c 0 t) (iblk2 V c 1 t) (iblk2 V c 2 t)
    (iblk2 V c 3 t) (iblk2 V c 4 t) (iblk2 V c 5 t) (iblk2 V c 6 t) (iblk2 V c 7 t) (iblk2 V c 8 t) := by
  obtain ⟨⟨e0, e1, e2, e3, e4, e5⟩, e6, e7, e8, -, -, -⟩ := idx2 t
  constructor
  · intro j e y
    exact (show iblk2 V c 0 t (ix4 0 j e y) = V c main_v3 (ix4 (grid2.coords t 0) j e y) by blk_ext [iblk2, e0]).trans (hV.v _ j e y)
  · intro r d
    exact (show iblk2 V c 1 t (ix3 0 r d) = V c main_v1 (ix3 (grid2.coords t 0) r d) by blk_ext [iblk2, e1]).trans (hV.k _ r d)
  · intro j d y
    exact (show iblk2 V c 2 t (ix4 0 j d y) = V c main_v10 (ix4 (grid2.coords t 0) j d y) by blk_ext [iblk2, e2]).trans (hV.kt _ j d y)
  · intro r d
    exact (show iblk2 V c 3 t (ix3 0 r d) = V c main_v8 (ix3 (grid2.coords t 0) (row2 t r) d) by blk_ext [iblk2, e3]).trans (hV.q _ _ d)
  · intro d r
    exact (show iblk2 V c 4 t (ix3 0 d r) = V c main_v0 (ix3 (grid2.coords t 0) d (row2 t r)) by blk_ext [iblk2, e4]).trans (hV.qt _ d _)
  · intro r e
    exact (show iblk2 V c 5 t (ix3 0 r e) = V c main_v11 (ix3 (grid2.coords t 0) (row2 t r) e) by blk_ext [iblk2, e5]).trans (hV.g _ _ e)
  · intro e r
    exact (show iblk2 V c 6 t (ix3 0 e r) = V c main_v4 (ix3 (grid2.coords t 0) e (row2 t r)) by blk_ext [iblk2, e6]).trans (hV.gt _ e _)
  · intro r
    exact (show iblk2 V c 7 t (ix3 0 r 0) = V c main_v12 (ix3 (grid2.coords t 0) (row2 t r) 0) by blk_ext [iblk2, e7]).trans (hV.l _ _)
  · intro r
    exact (show iblk2 V c 8 t (ix3 0 r 0) = V c main_v7 (ix3 (grid2.coords t 0) (row2 t r) 0) by blk_ext [iblk2, e8]).trans (hV.dl _ _)

/-- The head of the grid point at position `n`. -/
def head2 (n : ℕ) (hn : n < cfg2.N) : Fin 8 := ⟨n / 16, by have : n < 128 := lt_of_lt_of_eq hn N_2; omega⟩

theorem head2_eq (t : Fin cfg2.N) : grid2.coords t 0 = head2 t.val t.isLt := by
  have ht : t.val < 128 := lt_of_lt_of_eq t.isLt N_2
  refine Fin.ext ((Pipeline.Grid.coords_val (G := grid2) (S := 16) t 0 (by decide) rfl).trans ?_)
  show t.val / 16 % 8 = t.val / 16
  omega
theorem tile2_eq (t : Fin cfg2.N) : (grid2.coords t 1).val = t.val % 16 := by
  refine (Pipeline.Grid.coords_val (G := grid2) (S := 1) t 1 (by decide) rfl).trans ?_
  show t.val / 1 % 16 = t.val % 16
  omega

include hV in
/-- The outputs' buffers after a head's first point. -/
theorem outs2_first (t : Fin cfg2.N) (h0 : t.val % 16 = 0) :
    (∀ r d, (outsAt2 V c t.val t.isLt).1 (ix3 0 r d) = (((HH (head2 t.val t.isLt)).dQ (512 * (t.val % 16) + r.val) d : ℝ) : EReal))
    ∧ (∀ (j : Fin 16) d y, (outsAt2 V c t.val t.isLt).2.1 (ix4 0 j d y)
        = ((∑ a ∈ Finset.range (t.val % 16 + 1), sc * ∑ x : Fin 512, (HH (head2 t.val t.isLt)).q (512 * a + x.val) d * (HH (head2 t.val t.isLt)).dS (512 * a + x.val) (512 * j.val + y.val) : ℝ) : EReal))
    ∧ (∀ (j : Fin 16) e y, (outsAt2 V c t.val t.isLt).2.2 (ix4 0 j e y)
        = ((∑ a ∈ Finset.range (t.val % 16 + 1), ∑ x : Fin 512, (HH (head2 t.val t.isLt)).g (512 * a + x.val) e * (HH (head2 t.val t.isLt)).P (512 * a + x.val) (512 * j.val + y.val) : ℝ) : EReal)) := by
  have hb := blocks2 V c hV t
  rw [head2_eq] at hb
  obtain ⟨h9, h10, h11⟩ := point2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) hb ((hcond2_0 t).mpr h0)
  rw [tile2_eq] at h9 h10 h11
  rw [outsAt2_A V c t h0]
  dsimp only
  refine ⟨h9, fun j d y => (h10 j d y).trans ?_, fun j e y => (h11 j e y).trans ?_⟩
  · rw [h0, zero_add, zero_add, Finset.sum_range_one]
  · rw [h0, zero_add, zero_add, Finset.sum_range_one]

include hV in
/-- The outputs' buffers after a head's later point, from what the point before left. -/
theorem outs2_next (t : Fin cfg2.N) (h0 : ¬t.val % 16 = 0) (B : ℕ → Fin 192 → Fin 512 → ℝ) (C : ℕ → Fin 128 → Fin 512 → ℝ)
    (hB : ∀ (j : Fin 16) d y, (outsAt2 V c (t.val - 1) (Nat.lt_of_le_of_lt (Nat.sub_le _ _) t.isLt)).2.1 (ix4 0 j d y) = ((B j.val d y : ℝ) : EReal))
    (hC : ∀ (j : Fin 16) e y, (outsAt2 V c (t.val - 1) (Nat.lt_of_le_of_lt (Nat.sub_le _ _) t.isLt)).2.2 (ix4 0 j e y) = ((C j.val e y : ℝ) : EReal)) :
    (∀ r d, (outsAt2 V c t.val t.isLt).1 (ix3 0 r d) = (((HH (head2 t.val t.isLt)).dQ (512 * (t.val % 16) + r.val) d : ℝ) : EReal))
    ∧ (∀ (j : Fin 16) d y, (outsAt2 V c t.val t.isLt).2.1 (ix4 0 j d y)
        = ((B j.val d y + sc * ∑ x : Fin 512, (HH (head2 t.val t.isLt)).q (512 * (t.val % 16) + x.val) d * (HH (head2 t.val t.isLt)).dS (512 * (t.val % 16) + x.val) (512 * j.val + y.val) : ℝ) : EReal))
    ∧ (∀ (j : Fin 16) e y, (outsAt2 V c t.val t.isLt).2.2 (ix4 0 j e y)
        = ((C j.val e y + ∑ x : Fin 512, (HH (head2 t.val t.isLt)).g (512 * (t.val % 16) + x.val) e * (HH (head2 t.val t.isLt)).P (512 * (t.val % 16) + x.val) (512 * j.val + y.val) : ℝ) : EReal)) := by
  have hb := blocks2 V c hV t
  rw [head2_eq] at hb
  obtain ⟨h9, h10, h11⟩ := point2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) hb (fun h => h0 ((hcond2_0 t).mp h)) _ _ B C hB hC
  rw [tile2_eq] at h9 h10 h11
  rw [outsAt2_B V c t h0]
  dsimp only
  exact ⟨h9, h10, h11⟩

include hV in
/-- What the outputs' buffers hold after the point at position `n`: the query tile's gradient, and the keys' and values'
    gradients summed over the query tiles up to it. -/
theorem outs2 (n : ℕ) (hn : n < cfg2.N) :
    (∀ r d, (outsAt2 V c n hn).1 (ix3 0 r d) = (((HH (head2 n hn)).dQ (512 * (n % 16) + r.val) d : ℝ) : EReal))
    ∧ (∀ (j : Fin 16) d y, (outsAt2 V c n hn).2.1 (ix4 0 j d y)
        = ((∑ a ∈ Finset.range (n % 16 + 1), sc * ∑ x : Fin 512, (HH (head2 n hn)).q (512 * a + x.val) d * (HH (head2 n hn)).dS (512 * a + x.val) (512 * j.val + y.val) : ℝ) : EReal))
    ∧ (∀ (j : Fin 16) e y, (outsAt2 V c n hn).2.2 (ix4 0 j e y)
        = ((∑ a ∈ Finset.range (n % 16 + 1), ∑ x : Fin 512, (HH (head2 n hn)).g (512 * a + x.val) e * (HH (head2 n hn)).P (512 * a + x.val) (512 * j.val + y.val) : ℝ) : EReal)) := by
  induction n with
  | zero => exact outs2_first V c hV ⟨0, hn⟩ rfl
  | succ n ih =>
    by_cases h0 : (n + 1) % 16 = 0
    · exact outs2_first V c hV ⟨n + 1, hn⟩ h0
    · have e1 : (n + 1) % 16 = n % 16 + 1 := by omega
      have e2 : head2 (n + 1) hn = head2 n (Nat.lt_of_succ_lt hn) := Fin.ext (by show (n + 1) / 16 = n / 16; omega)
      obtain ⟨-, i10, i11⟩ := ih (Nat.lt_of_succ_lt hn)
      obtain ⟨h9, h10, h11⟩ := outs2_next V c hV ⟨n + 1, hn⟩ h0
        (fun m d y => ∑ a ∈ Finset.range (n % 16 + 1), sc * ∑ x : Fin 512, (HH (head2 n (Nat.lt_of_succ_lt hn))).q (512 * a + x.val) d
          * (HH (head2 n (Nat.lt_of_succ_lt hn))).dS (512 * a + x.val) (512 * m + y.val))
        (fun m e y => ∑ a ∈ Finset.range (n % 16 + 1), ∑ x : Fin 512, (HH (head2 n (Nat.lt_of_succ_lt hn))).g (512 * a + x.val) e
          * (HH (head2 n (Nat.lt_of_succ_lt hn))).P (512 * a + x.val) (512 * m + y.val)) i10 i11
      refine ⟨h9, fun j d y => (h10 j d y).trans ?_, fun j e y => (h11 j e y).trans ?_⟩
      · rw [e2, e1]; exact congrArg (fun x : ℝ => (x : EReal)) (Finset.sum_range_succ _ _).symm
      · rw [e2, e1]; exact congrArg (fun x : ℝ => (x : EReal)) (Finset.sum_range_succ _ _).symm

include hV in
/-- The gradient of the queries, as the backward kernel leaves it. -/
theorem dq_array : (dat2 V c).arrAt 9 cfg2.N = fun z => (((HH (z 0)).dQ (z 1).val (z 2) : ℝ) : EReal) := by
  refine (dat2 V c).arrAt_eq_of_covers 9 (fun z => (((HH (z 0)).dQ (z 1).val (z 2) : ℝ) : EReal)) (by decide +kernel) fun t hf y => ?_
  obtain ⟨-, -, -, -, e9, -, -⟩ := idx2 t
  blk_simp [e9]
  rw [after2_9]
  have hy : y = ix3 0 (y 1) (y 2) := by blk_ext
  have h0 : (win2_9.blk t).view.emb y 0 = head2 t.val t.isLt := by
    rw [← head2_eq]; apply Fin.ext; blk_simp [e9]
  have h2 : (win2_9.blk t).view.emb y 2 = y 2 := by apply Fin.ext; blk_simp [e9];
  rw [h0, h2, tile2_eq, Nat.mul_comm]
  exact (congrArg _ hy).trans ((outs2 V c hV t.val t.isLt).1 (y 1) (y 2))

include hV in
/-- The gradient of the keys, as the backward kernel leaves it: tile by tile, each tile transposed. -/
theorem dk_array : (dat2 V c).arrAt 10 cfg2.N = fun z => (((HH (z 0)).dK (512 * (z 1).val + (z 3).val) (z 2) : ℝ) : EReal) := by
  refine (dat2 V c).arrAt_eq_of_covers 10 (fun z => (((HH (z 0)).dK (512 * (z 1).val + (z 3).val) (z 2) : ℝ) : EReal)) (by decide +kernel) fun t hf y => ?_
  have hf' := (flush2_10 t).mp hf
  obtain ⟨-, -, -, -, -, e10, -⟩ := idx2 t
  blk_simp [e10]
  rw [after2_10]
  have hy : y = ix4 0 (y 1) (y 2) (y 3) := by blk_ext
  have h0 : (win2_10.blk t).view.emb y 0 = head2 t.val t.isLt := by
    rw [← head2_eq]; apply Fin.ext; blk_simp [e10]
  have h2 : (win2_10.blk t).view.emb y 2 = y 2 := by apply Fin.ext; blk_simp [e10];
  rw [h0, h2]
  refine (congrArg _ hy).trans (((outs2 V c hV t.val t.isLt).2.1 (y 1) (y 2) (y 3)).trans ?_)
  rw [hf']
  refine congrArg (fun x : ℝ => (x : EReal)) ?_
  simp only [Finset.mul_sum]
  exact sum_tiles 16 fun i => sc * ((HH (head2 t.val t.isLt)).q i (y 2) * (HH (head2 t.val t.isLt)).dS i (512 * (y 1).val + (y 3).val))

include hV in
/-- The gradient of the values, as the backward kernel leaves it: tile by tile, each tile transposed. -/
theorem dv_array : (dat2 V c).arrAt 11 cfg2.N = fun z => (((HH (z 0)).dV (512 * (z 1).val + (z 3).val) (z 2) : ℝ) : EReal) := by
  refine (dat2 V c).arrAt_eq_of_covers 11 (fun z => (((HH (z 0)).dV (512 * (z 1).val + (z 3).val) (z 2) : ℝ) : EReal)) (by decide +kernel) fun t hf y => ?_
  have hf' := (flush2_11 t).mp hf
  obtain ⟨-, -, -, -, -, -, e11⟩ := idx2 t
  blk_simp [e11]
  rw [after2_11]
  have hy : y = ix4 0 (y 1) (y 2) (y 3) := by blk_ext
  have h0 : (win2_11.blk t).view.emb y 0 = head2 t.val t.isLt := by
    rw [← head2_eq]; apply Fin.ext; blk_simp [e11]
  have h2 : (win2_11.blk t).view.emb y 2 = y 2 := by apply Fin.ext; blk_simp [e11];
  rw [h0, h2]
  refine (congrArg _ hy).trans (((outs2 V c hV t.val t.isLt).2.2 (y 1) (y 2) (y 3)).trans ?_)
  rw [hf']
  refine congrArg (fun x : ℝ => (x : EReal)) ?_
  exact sum_tiles 16 fun i => (HH (head2 t.val t.isLt)).g i (y 2) * (HH (head2 t.val t.isLt)).P i (512 * (y 1).val + (y 3).val)

end Cert.Attn

end
-- ==== Proof.Delta.lean ====
/- The middle call: each query row's sum of the products of its output and its output's gradient, over the reals. -/
module

public import proofs.«01_k».proof.Proof.Gen.KernelIdeal.Frame
public import proofs.«01_k».proof.Proof.BwdTile
public import Idealize.ShloMosaic.Lib.Pipeline.ValueKit

@[expose] public section

noncomputable section

namespace Cert.Attn

open Idealize.ShloMosaic Idealize.ShloMosaic.TcCoe Cert.KernelIdeal Cert.KernelIdeal.Gen Idealize.ShloMosaic.Pointwise

/-- The rowwise sums of a block: the products of the two operands summed over a column. -/
theorem delta_pay {x0 x1 : Vec Ideal S8x128x1024 .bf16} {a b : Fin 8 → Fin 128 → Fin 1024 → ℝ}
    (h0 : ∀ h e r, x0 (ix3 h e r) = ((a h e r : ℝ) : EReal)) (h1 : ∀ h e r, x1 (ix3 h e r) = ((b h e r : ℝ) : EReal)) (h : Fin 8) (r : Fin 1024) :
    k1_pay1 x0 x1 (ix3 h 0 r) = ((∑ e, a h e r * b h e r : ℝ) : EReal) := by
  pointwise [k1_pay1]
  simp only [h0, h1, ← EReal.coe_mul, coe_sum]

variable (V : (c : Dev nD) → (b : Ref sig .tc) → Buf (Elt Ideal) ((c : Thread nD τ).loc b)) (c : Dev nD) {HH : Fin 8 → Head}

/-- The sums of the products of output and output's gradient, as the middle call leaves them. -/
theorem delta_array (hg : ∀ h e (r : Fin 8192), V c main_v4 (ix3 h e r) = (((HH h).g r.val e : ℝ) : EReal))
    (ho : ∀ h e (r : Fin 8192), V c main_v5_0 (ix3 h e r) = (((HH h).O r.val e : ℝ) : EReal)) :
    (dat1 V c).arrAt 2 cfg1.N = fun z => (((HH (z 0)).D (z 2).val : ℝ) : EReal) := by
  refine (dat1 V c).arrAt_eq_of_covers 2 (fun z => (((HH (z 0)).D (z 2).val : ℝ) : EReal)) (by decide +kernel) fun t hf y => ?_
  have e : ∀ t : Fin grid1.N, win1_0.index t = ![0, 0, t.val] ∧ win1_1.index t = ![0, 0, t.val] ∧ win1_2.index t = ![0, 0, t.val] := by decide +kernel
  obtain ⟨e0, e1, e2⟩ := e t
  have ht : t.val < 8 := t.isLt
  have hx0 (h : Fin 8) (e : Fin 128) (r : Fin 1024) : iblk1 V c 0 t (ix3 h e r) = (((HH h).g (1024 * t.val + r.val) e : ℝ) : EReal) :=
    (show iblk1 V c 0 t (ix3 h e r) = V c main_v4 (ix3 h e ⟨1024 * t.val + r.val, by omega⟩) by blk_ext [iblk1, e0]).trans (hg _ _ _)
  have hx1 (h : Fin 8) (e : Fin 128) (r : Fin 1024) : iblk1 V c 1 t (ix3 h e r) = (((HH h).O (1024 * t.val + r.val) e : ℝ) : EReal) :=
    (show iblk1 V c 1 t (ix3 h e r) = V c main_v5_0 (ix3 h e ⟨1024 * t.val + r.val, by omega⟩) by blk_ext [iblk1, e1]).trans (ho _ _ _)
  blk_simp [e2]
  rw [after1_2]
  have hy : y = ix3 (y 0) 0 (y 2) := by blk_ext
  have h0 : (win1_2.blk t).view.emb y 0 = y 0 := by apply Fin.ext; blk_simp [e2]
  rw [h0]
  refine (congrArg _ hy).trans ?_
  unfold out1_2 r1_0 r1_1
  rw [View.canon_unit_zero (by decide +kernel), View.ld_unit_zero (by decide +kernel), View.ld_unit_zero (by decide +kernel)]
  refine (delta_pay hx0 hx1 (y 0) (y 2)).trans ?_
  refine congrArg (fun x : ℝ => (x : EReal)) ?_
  rw [Nat.mul_comm]
  rfl

end Cert.Attn

end
-- ==== Proof.Host.lean ====
/- The three calls put together: what the program leaves in its four result arrays, over the reals, from its four arguments. -/
module

public import proofs.«01_k».proof.Proof.Args
public import proofs.«01_k».proof.Proof.FwdArray
public import proofs.«01_k».proof.Proof.BwdArray
public import proofs.«01_k».proof.Proof.Delta
public import Idealize.ShloMosaic.Lib.Claim

@[expose] public section

noncomputable section

namespace Cert.Attn

open Idealize.ShloMosaic Idealize.ShloMosaic.TcCoe Cert.KernelIdeal Cert.KernelIdeal.Gen Idealize.ShloMosaic.Pointwise

variable (m : (ℓ : Loc nD τ sig) → Buf (Elt Ideal) ℓ) (ρ : Dev nD → PrngReg) (c : Dev nD)

theorem v0_read (h : Fin 8) (d : Fin 192) (r : Fin 8192) : V1 m ρ c main_v0 (ix3 h d r) = m ((c : Thread nD τ).loc main_arg0) (ix3 r h d) := by
  show StableHlo.after hostOps0 (W0 m ρ c) (Proc.devRef .tc main_v0) (ix3 h d r) = _
  entry_read
  pointwise
theorem v1_read (h : Fin 8) (r : Fin 8192) (d : Fin 192) : V1 m ρ c main_v1 (ix3 h r d) = m ((c : Thread nD τ).loc main_arg1) (ix3 r h d) := by
  show StableHlo.after hostOps0 (W0 m ρ c) (Proc.devRef .tc main_v1) (ix3 h r d) = _
  entry_read
  pointwise
theorem v3_read (h : Fin 8) (j : Fin 16) (e : Fin 128) (y : Fin 512) :
    V1 m ρ c main_v3 (ix4 h j e y) = m ((c : Thread nD τ).loc main_arg2) (ix3 ⟨512 * j.val + y.val, by omega⟩ h e) := by
  show StableHlo.after hostOps0 (W0 m ρ c) (Proc.devRef .tc main_v3) (ix4 h j e y) = _
  entry_read
  pointwise
  exact congrArg (fun i => m ((c : Thread nD τ).loc main_arg2) (ix3 i h e)) (Fin.ext (congrArg (· + y.val) (Nat.mul_comm _ _)))
theorem v4_read (h : Fin 8) (e : Fin 128) (r : Fin 8192) : V1 m ρ c main_v4 (ix3 h e r) = m ((c : Thread nD τ).loc main_arg3) (ix3 r h e) := by
  show StableHlo.after hostOps0 (W0 m ρ c) (Proc.devRef .tc main_v4) (ix3 h e r) = _
  entry_read
  pointwise
theorem v7_read (h : Fin 8) (r : Fin 8192) : V4 m ρ c main_v7 (ix3 h r 0) = W3 m ρ c (Proc.devRef .tc main_v6) (ix3 h 0 r) := by
  show StableHlo.after hostOps2 (W3 m ρ c) (Proc.devRef .tc main_v7) (ix3 h r 0) = _
  entry_read
  pointwise
theorem v8_read (h : Fin 8) (r : Fin 8192) (d : Fin 192) : V4 m ρ c main_v8 (ix3 h r d) = W3 m ρ c (Proc.devRef .tc main_arg0) (ix3 r h d) := by
  show StableHlo.after hostOps2 (W3 m ρ c) (Proc.devRef .tc main_v8) (ix3 h r d) = _
  entry_read
  pointwise
theorem v10_read (h : Fin 8) (j : Fin 16) (d : Fin 192) (y : Fin 512) :
    V4 m ρ c main_v10 (ix4 h j d y) = W3 m ρ c (Proc.devRef .tc main_arg1) (ix3 ⟨512 * j.val + y.val, by omega⟩ h d) := by
  show StableHlo.after hostOps2 (W3 m ρ c) (Proc.devRef .tc main_v10) (ix4 h j d y) = _
  entry_read
  pointwise
  exact congrArg (fun i => W3 m ρ c (Proc.devRef .tc main_arg1) (ix3 i h d)) (Fin.ext (congrArg (· + y.val) (Nat.mul_comm _ _)))
theorem v11_read (h : Fin 8) (r : Fin 8192) (e : Fin 128) : V4 m ρ c main_v11 (ix3 h r e) = W3 m ρ c (Proc.devRef .tc main_arg3) (ix3 r h e) := by
  show StableHlo.after hostOps2 (W3 m ρ c) (Proc.devRef .tc main_v11) (ix3 h r e) = _
  entry_read
  pointwise
theorem v12_read (h : Fin 8) (r : Fin 8192) : V4 m ρ c main_v12 (ix3 h r 0) = W3 m ρ c (Proc.devRef .tc main_v5_1) (ix3 h 0 r) := by
  show StableHlo.after hostOps2 (W3 m ρ c) (Proc.devRef .tc main_v12) (ix3 h r 0) = _
  entry_read
  pointwise

/-- An argument is as launched when the last call starts. -/
theorem W3_arg (b : Ref sig .tc) (hb : b ∈ argRefs) : W3 m ρ c (Proc.devRef .tc b) = m ((c : Thread nD τ).loc b) := W3_args m ρ c b hb

variable {HH : Fin 8 → Head} (hA : Args HH (m ((c : Thread nD τ).loc main_arg0)) (m ((c : Thread nD τ).loc main_arg1)) (m ((c : Thread nD τ).loc main_arg2))
  (m ((c : Thread nD τ).loc main_arg3)))

include hA in
/-- What the forward call takes. -/
theorem fwd_entry : FwdArr HH (V1 m ρ c main_v0) (V1 m ρ c main_v1) (V1 m ρ c main_v3) where
  qt h d r := (v0_read m ρ c h d r).trans (hA.q r h d)
  k h r d := (v1_read m ρ c h r d).trans (hA.k r h d)
  v h j e y := (v3_read m ρ c h j e y).trans (hA.v _ h e)

include hA in
/-- What the middle call leaves. -/
theorem delta_exit : W3 m ρ c (Proc.devRef .tc main_v6) = fun z => (((HH (z 0)).D (z 2).val : ℝ) : EReal) := by
  refine (W3_arr m ρ c 2).trans (delta_array (V2 m ρ) c (fun h e r => ?_) fun h e r => ?_)
  · exact (congrFun (W2_of m ρ c main_v4 (by decide)) (ix3 h e r)).trans ((v4_read m ρ c h e r).trans (hA.g r h e))
  · exact congrFun ((W2_arr m ρ c 3).trans (o_array (V1 m ρ) c (fwd_entry m ρ c hA))) (ix3 h e r)

include hA in
/-- What the forward call leaves of the rows' sums. -/
theorem lse_exit : W3 m ρ c (Proc.devRef .tc main_v5_1) = fun z => (((HH (z 0)).L (z 2).val : ℝ) : EReal) :=
  (W3_of m ρ c main_v5_1 (by decide)).trans ((W2_arr m ρ c 4).trans (lse_array (V1 m ρ) c (fwd_entry m ρ c hA)))

/-- An array made before the forward call is untouched when the backward call starts. -/
theorem V4_of_V1 (b : Ref sig .tc) (h4 : b ∉ hostOps2_W) (h3 : ∀ w : Fin cfg1.W, Pipeline.arrRef spec1 w = b → (cfg1.win w).isOut = false)
    (h2 : ∀ w : Fin cfg0.W, Pipeline.arrRef spec0 w = b → (cfg0.win w).isOut = false) : V4 m ρ c b = V1 m ρ c b :=
  (W4_of m ρ c b h4).trans ((W3_of m ρ c b h3).trans (W2_of m ρ c b h2))

include hA in
/-- What the backward call takes. -/
theorem bwd_entry : BwdArr HH (V4 m ρ c main_v3) (V4 m ρ c main_v1) (V4 m ρ c main_v10) (V4 m ρ c main_v8) (V4 m ρ c main_v0) (V4 m ρ c main_v11)
    (V4 m ρ c main_v4) (V4 m ρ c main_v12) (V4 m ρ c main_v7) where
  v h j e y := (congrFun (V4_of_V1 m ρ c main_v3 (by decide) (by decide) (by decide)) (ix4 h j e y)).trans ((v3_read m ρ c h j e y).trans (hA.v _ h e))
  k h r d := (congrFun (V4_of_V1 m ρ c main_v1 (by decide) (by decide) (by decide)) (ix3 h r d)).trans ((v1_read m ρ c h r d).trans (hA.k r h d))
  kt h j d y := (v10_read m ρ c h j d y).trans ((congrFun (W3_arg m ρ c main_arg1 (by decide)) _).trans (hA.k _ h d))
  q h r d := (v8_read m ρ c h r d).trans ((congrFun (W3_arg m ρ c main_arg0 (by decide)) _).trans (hA.q r h d))
  qt h d r := (congrFun (V4_of_V1 m ρ c main_v0 (by decide) (by decide) (by decide)) (ix3 h d r)).trans ((v0_read m ρ c h d r).trans (hA.q r h d))
  g h r e := (v11_read m ρ c h r e).trans ((congrFun (W3_arg m ρ c main_arg3 (by decide)) _).trans (hA.g r h e))
  gt h e r := (congrFun (V4_of_V1 m ρ c main_v4 (by decide) (by decide) (by decide)) (ix3 h e r)).trans ((v4_read m ρ c h e r).trans (hA.g r h e))
  l h r := (v12_read m ρ c h r).trans (congrFun (lse_exit m ρ c hA) (ix3 h 0 r))
  dl h r := (v7_read m ρ c h r).trans (congrFun (delta_exit m ρ c hA) (ix3 h 0 r))

include hA in
/-- The gradient of the queries when the program ends. -/
theorem dq_exit : W5 m ρ c (Proc.devRef .tc main_v13_0) = fun z => (((HH (z 0)).dQ (z 1).val (z 2) : ℝ) : EReal) :=
  (W5_arr m ρ c 9).trans (dq_array (V4 m ρ) c (bwd_entry m ρ c hA))
include hA in
/-- The gradient of the keys when the program ends. -/
theorem dk_exit : W5 m ρ c (Proc.devRef .tc main_v13_1) = fun z => (((HH (z 0)).dK (512 * (z 1).val + (z 3).val) (z 2) : ℝ) : EReal) :=
  (W5_arr m ρ c 10).trans (dk_array (V4 m ρ) c (bwd_entry m ρ c hA))
include hA in
/-- The gradient of the values when the program ends. -/
theorem dv_exit : W5 m ρ c (Proc.devRef .tc main_v13_2) = fun z => (((HH (z 0)).dV (512 * (z 1).val + (z 3).val) (z 2) : ℝ) : EReal) :=
  (W5_arr m ρ c 11).trans (dv_array (V4 m ρ) c (bwd_entry m ρ c hA))

include hA in
/-- The attention's output when the program ends: as the forward call left it. -/
theorem o_exit : W5 m ρ c (Proc.devRef .tc main_v5_0) = fun z => (((HH (z 0)).O (z 2).val (z 1) : ℝ) : EReal) :=
  (W5_of m ρ c main_v5_0 (by decide)).trans ((W4_of m ρ c main_v5_0 (by decide)).trans ((W3_of m ρ c main_v5_0 (by decide)).trans
    ((W2_arr m ρ c 3).trans (o_array (V1 m ρ) c (fwd_entry m ρ c hA)))))

end Cert.Attn

end
-- ==== Proof.Run.lean ====
/- The program's run: it ends with its four result arrays at what its last segment leaves, its arguments as launched. -/
module

public import proofs.«01_k».proof.Proof.Gen.KernelIdeal.Frame

@[expose] public section

noncomputable section

namespace Cert.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run ends with the three gradients and the attention's output at the values of the program's last segment, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13_0) = W5 m ρ c (Proc.devRef .tc main_v13_0)
      ∧ r.2.mem ((c.tc : Thread nD τ).loc main_v13_1) = W5 m ρ c (Proc.devRef .tc main_v13_1)
      ∧ r.2.mem ((c.tc : Thread nD τ).loc main_v13_2) = W5 m ρ c (Proc.devRef .tc main_v13_2)
      ∧ r.2.mem ((c.tc : Thread nD τ).loc main_v5_0) = W5 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      have read (b : Ref sig .tc) (hb : ¬ (Proc.devRef .tc b : DevRef τ sig).isScoped) := h c _ (mem_uc b hb)
      ⟨read main_v13_0 (by decide), read main_v13_1 (by decide), read main_v13_2 (by decide), read main_v5_0 (by decide),
        (read main_arg0 (by decide)).trans (W5_main_arg0 m ρ c), (read main_arg1 (by decide)).trans (W5_main_arg1 m ρ c),
        (read main_arg2 (by decide)).trans (W5_main_arg2 m ρ c), (read main_arg3 (by decide)).trans (W5_main_arg3 m ρ c)⟩)

end Cert.Attn

end
-- ==== Proof.RefMax.lean ====
/- The greatest of a row's scores in the reference is a real number. -/
module

public import proofs.«01_k».proof.Proof.FwdTile
public import proofs.«01_k».proof.Proof.Gen.ReferenceIdeal.Run

@[expose] public section

noncomputable section

namespace Cert.Attn.Ref

open Idealize.ShloMosaic Cert.ReferenceIdeal Cert.ReferenceIdeal.Gen Idealize.ShloMosaic.Pointwise

/-- The maximum of a set of extended reals, from minus infinity, is a real number if none of them is plus infinity and
    one of them is not minus infinity. -/
theorem reduce_real {s t u : Shape} {axes : List (Fin s.rank)} (x : FVec Ideal s .f32) (w : FVec Ideal u .f32) (hr : s.ReducesTo axes t) (hu : 0 < u.numel)
    (j : t.Idx) (hw : w (Shape.Idx.first hu) = (⊥ : EReal)) (hx : ∀ z, x z ≠ (⊤ : EReal)) (z : s.Idx) (hz : hr.drop z = j) (h0 : x z ≠ (⊥ : EReal)) :
    ∃ M : ℝ, Host.reduce FloatOps.maximumf x w hr hu j = (M : EReal) := by
  rw [Host.reduce_eq_fold, hw]
  have ht : Finset.fold max (⊥ : EReal) x (Finset.univ.filter fun i => hr.drop i = j) ≠ ⊤ :=
    ((Finset.fold_max_lt (c := (⊤ : EReal))).mpr ⟨bot_lt_top, fun z _ => lt_top_iff_ne_top.mpr (hx z)⟩).ne
  have hb : Finset.fold max (⊥ : EReal) x (Finset.univ.filter fun i => hr.drop i = j) ≠ ⊥ :=
    ((Finset.lt_fold_max (c := (⊥ : EReal))).mpr (.inr ⟨z, Finset.mem_filter.mpr ⟨Finset.mem_univ _, hz⟩, bot_lt_iff_ne_bot.mpr h0⟩)).ne'
  exact ⟨_, (EReal.coe_toReal ht hb).symm⟩

/-- Each row's greatest score. -/
def rowMax (s : FVec Ideal S8x8192x8192 .f32) : FVec Ideal S8x8192 .f32 :=
  Host.reduce FloatOps.maximumf s (constant S_ .f32 0xFF800000#32) reducesTo_S8x8192x8192_S8x8192_d2 h_S_

theorem drop_first (h : Fin 8) (i : Fin 8192) : reducesTo_S8x8192x8192_S8x8192_d2.drop (ix3 h i (0 : Fin 8192)) = ix2 h i := by
  have h0 := reducesTo_S8x8192x8192_S8x8192_d2.drop_apply_val_of_eq (ix3 h i (0 : Fin 8192)) 0 0
  have h1 := reducesTo_S8x8192x8192_S8x8192_d2.drop_apply_val_of_eq (ix3 h i (0 : Fin 8192)) 1 1
  funext a
  match a with
  | 0 => exact Fin.ext h0
  | 1 => exact Fin.ext h1

/-- A row whose first score is a real number and whose scores are none of them plus infinity has a real maximum. -/
theorem rowMax_real (s : FVec Ideal S8x8192x8192 .f32) (hs : ∀ z, s z ≠ (⊤ : EReal)) (h : Fin 8) (i : Fin 8192) (h0 : s (ix3 h i 0) ≠ (⊥ : EReal)) :
    ∃ M : ℝ, rowMax s (ix2 h i) = (M : EReal) := by
  unfold rowMax
  generalize reducesTo_S8x8192x8192_S8x8192_d2 = hr at *
  exact reduce_real s _ _ _ _ ofBits_ninf hs (ix3 h i 0) (drop_first h i) h0

end Cert.Attn.Ref

end
-- ==== Proof.RefScore.lean ====
/- The reference's own steps, up to its attention weights and the gradient that reaches them, over the reals. -/
module

public import proofs.«01_k».proof.Proof.Args
public import proofs.«01_k».proof.Proof.RefMax
public import proofs.«01_k».proof.Proof.Gen.ReferenceIdeal.Run

@[expose] public section

noncomputable section

namespace Cert.Attn.Ref

open Idealize.ShloMosaic Cert.ReferenceIdeal Cert.ReferenceIdeal.Gen Idealize.ShloMosaic.Pointwise

/-- Which keys a query may see: those not after it. -/
def mask : IVec S8x8192x8192 1 :=
  broadcastInDim S8x8192x8192 ![0, 1, 2] bcast_S1x8192x8192_S8x8192x8192_0_1_2
    (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

theorem mask_select {α : Type} (h : Fin 8) (i j : Fin 8192) (x y : α) :
    Scalar.select (mask (ix3 h i j)) x y = if j.val ≤ i.val then x else y := by
  pointwise [mask]
  rw [WordCmp.cmpi_sle_eq, WordCmp.toInt_ofNat_of_lt (by omega), WordCmp.toInt_ofNat_of_lt (by omega)]
  by_cases hcr : j.val ≤ i.val <;> simp [Scalar.select, hcr]

/-- The root of the head's width, at every index. -/
def root : FVec Ideal S8x8192x8192 .f32 := broadcastInDim S8x8192x8192 ![] bcast_S_S8x8192x8192 (Host.sqrt (constant S_ .f32 0x43400000#32))

theorem root_eq (z : S8x8192x8192.Idx) : root z = ((Real.sqrt 192 : ℝ) : EReal) := by
  pointwise [root]
  rw [show Ideal.ofBits FTy.f32 1128267776#32 = ((192 : ℝ) : EReal) by
    simp [Ideal.ofBits, Ideal.ieee, -EReal.coe_mul]; norm_num]
  rw [Ideal.sqrt_coe, if_neg (by norm_num)]

/-- The masked and scaled scores. -/
def score (A0 A1 : FVec Ideal S8192x8x192 .bf16) : FVec Ideal S8x8192x8192 .f32 :=
  select mask
    (Host.divf (extf .f32 (truncf .bf16 (Host.dotGeneral dot_S8192x8x192_S8192x8x192_S8x8192x8192_2_2_0_0_1_1 none
      (extf .f32 A0 bitsLt_bf16_f32) (extf .f32 A1 bitsLt_bf16_f32)) bitsLt_bf16_f32) bitsLt_bf16_f32) root)
    (broadcastInDim S8x8192x8192 ![] bcast_S_S8x8192x8192 (id (constant S_ .f32 0xFF800000#32)))

variable {HH : Fin 8 → Head} {A0 A1 : FVec Ideal S8192x8x192 .bf16} {A2 A3 : FVec Ideal S8192x8x128 .bf16} (hA : Args HH A0 A1 A2 A3)

include hA in
theorem score_eq (h : Fin 8) (i j : Fin 8192) :
    score A0 A1 (ix3 h i j) = if j.val ≤ i.val then (((HH h).S i.val j.val : ℝ) : EReal) else ⊥ := by
  pointwise [score]
  rw [mask_select, root_eq]
  have hb : id (constant S_ FTy.f32 4286578688#32 : FVec Ideal S_ .f32) ix0 = ⊥ := ofBits_ninf
  rw [hb]
  refine congrArg (fun x : EReal => if j.val ≤ i.val then x else ⊥) ?_
  have hne : Real.sqrt 192 ≠ 0 := (Real.sqrt_pos.mpr (by norm_num)).ne'
  simp only [hA.q, hA.k, ← EReal.coe_mul, coe_sum, Ideal.div_coe hne]
  exact congrArg (fun x : ℝ => (x : EReal)) (by rw [Head.S, sc, one_div])

/-- A row's greatest score, minus infinity taken in. -/
def top (r : FVec Ideal S8x8192 .f32) : FVec Ideal S8x8192 .f32 :=
  maximumf (broadcastInDim S8x8192 ![] bcast_S_S8x8192 (constant S_ .f32 0xFF800000#32)) r

theorem top_eq (r : FVec Ideal S8x8192 .f32) (h : Fin 8) (i : Fin 8192) : top r (ix2 h i) = r (ix2 h i) := by
  pointwise [top]
  rw [ofBits_ninf, bot_sup_eq]

/-- A row's numbers, one for each key. -/
def cols (x : FVec Ideal S8x8192x1 .f32) : FVec Ideal S8x8192x8192 .f32 :=
  broadcastInDim S8x8192x8192 ![0, 1, 2] bcast_S8x8192x1_S8x8192x8192_0_1_2 x

/-- The exponentials of the scores less their row's number. -/
def ex (s : FVec Ideal S8x8192x8192 .f32) (r : FVec Ideal S8x8192 .f32) : FVec Ideal S8x8192x8192 .f32 :=
  Host.exp (subf s (cols (broadcastInDim S8x8192x1 ![0, 1] bcast_S8x8192_S8x8192x1_0_1 (top r))))

theorem ex_eq {H : Head} {s : FVec Ideal S8x8192x8192 .f32} {r : FVec Ideal S8x8192 .f32} {h : Fin 8} {i : Fin 8192}
    (hs : ∀ j : Fin 8192, s (ix3 h i j) = if j.val ≤ i.val then ((H.S i.val j.val : ℝ) : EReal) else ⊥) {M : ℝ} (hM : r (ix2 h i) = M)
    (j : Fin 8192) : ex s r (ix3 h i j) = ((H.E i.val j.val * Real.exp (-M) : ℝ) : EReal) := by
  pointwise [ex, cols]
  rw [hs, top_eq, hM]
  by_cases hj : j.val ≤ i.val
  · rw [if_pos hj, ← EReal.coe_sub, Ideal.exp_coe, Head.E, if_pos hj, ← Real.exp_add, sub_eq_add_neg]
  · rw [if_neg hj, H.E_of_lt (Nat.lt_of_not_le hj), zero_mul, EReal.bot_sub]
    exact Ideal.exp_bot

/-- A row's sum of exponentials. -/
def total (e : FVec Ideal S8x8192x8192 .f32) : FVec Ideal S8x8192x1 .f32 :=
  broadcastInDim S8x8192x1 ![0, 1] bcast_S8x8192_S8x8192x1_0_1
    (Host.reduceAdd e (constant S_ .f32 0x00000000#32) reducesTo_S8x8192x8192_S8x8192_d2 h_S_)

theorem total_eq {H : Head} {e : FVec Ideal S8x8192x8192 .f32} {h : Fin 8} {i : Fin 8192} {M : ℝ}
    (he : ∀ j : Fin 8192, e (ix3 h i j) = ((H.E i.val j.val * Real.exp (-M) : ℝ) : EReal)) :
    total e (ix3 h i 0) = ((H.W i.val * Real.exp (-M) : ℝ) : EReal) := by
  pointwise [total]
  simp only [he, coe_sum]
  refine congrArg (fun x : ℝ => (x : EReal)) ?_
  rw [← Finset.sum_mul, Head.W, Finset.sum_range]

/-- The output's cotangent, heads first and rows last. -/
def cot (A3 : FVec Ideal S8192x8x128 .bf16) : FVec Ideal S8x128x8192 .f32 :=
  transpose S8x128x8192 [1, 2, 0] (extf .f32 A3 bitsLt_bf16_f32) transposes_S8192x8x128_S8x128x8192_1_2_0

/-- The gradient that reaches the attention's weights. -/
def dwt (A2 A3 : FVec Ideal S8192x8x128 .bf16) : FVec Ideal S8x8192x8192 .f32 :=
  extf .f32 (truncf .bf16 (Host.dotGeneral dot_S8x128x8192_S8192x8x128_S8x8192x8192_1_2_2_0_0_1 none (cot A3)
    (extf .f32 A2 bitsLt_bf16_f32)) bitsLt_bf16_f32) bitsLt_bf16_f32

include hA in
theorem dwt_eq (h : Fin 8) (i j : Fin 8192) : dwt A2 A3 (ix3 h i j) = (((HH h).dP i.val j.val : ℝ) : EReal) := by
  pointwise [dwt, cot]
  simp only [hA.v, hA.g, ← EReal.coe_mul, coe_sum]
  rfl

/-- A row's correction. -/
def corr (dp e : FVec Ideal S8x8192x8192 .f32) (z : FVec Ideal S8x8192x1 .f32) : FVec Ideal S8x8192 .f32 :=
  Host.reduceAdd (Host.negf (shapeCast S8x8192x1 (Host.reduceAdd (mulf (mulf dp (cols (Host.divf
      (broadcastInDim S8x8192x1 ![] bcast_S_S8x8192x1 (constant S_ .f32 0x3F800000#32)) (mulf z z)))) e)
      (constant S_ .f32 0x00000000#32) reducesTo_S8x8192x8192_S8x8192_d2 h_S_) shapeCasts_S8x8192_S8x8192x1))
    (constant S_ .f32 0x00000000#32) reducesTo_S8x8192x1_S8x8192_d2 h_S_

section Row

variable {H : Head} {dp e : FVec Ideal S8x8192x8192 .f32} {z : FVec Ideal S8x8192x1 .f32} {h : Fin 8} {i : Fin 8192} {M : ℝ}
  (hd : ∀ j : Fin 8192, dp (ix3 h i j) = ((H.dP i.val j.val : ℝ) : EReal))
  (he : ∀ j : Fin 8192, e (ix3 h i j) = ((H.E i.val j.val * Real.exp (-M) : ℝ) : EReal))
  (hz : z (ix3 h i 0) = ((H.W i.val * Real.exp (-M) : ℝ) : EReal))

theorem norm_pos : 0 < H.W i.val * Real.exp (-M) := mul_pos (H.W_pos i.isLt) (Real.exp_pos _)

include hd he hz in
theorem corr_eq : corr dp e z (ix2 h i) = ((-(H.D i.val / (H.W i.val * Real.exp (-M))) : ℝ) : EReal) := by
  have hn := norm_pos (H := H) (i := i) (M := M)
  pointwise [corr, cols]
  simp only [hd, he, hz, ← EReal.coe_mul, ← EReal.coe_one, Ideal.div_coe (mul_pos hn hn).ne', coe_sum, ← EReal.coe_neg]
  refine congrArg (fun x : ℝ => (x : EReal)) ?_
  have hw := (H.W_pos i.isLt).ne'
  have hx := (Real.exp_pos (-M)).ne'
  rw [Fin.sum_univ_one, H.D_eq, Finset.sum_range, Finset.sum_div]
  refine congrArg Neg.neg (Finset.sum_congr rfl fun j _ => ?_)
  rw [Head.P]
  field_simp

/-- The gradient of the unscaled scores. -/
def ds (dp e : FVec Ideal S8x8192x8192 .f32) (z : FVec Ideal S8x8192x1 .f32) : FVec Ideal S8x8192x8192 .f32 :=
  extf .f32 (truncf .bf16 (Host.divf (select mask
    (mulf (addf (Host.divf dp (cols z)) (broadcastInDim S8x8192x8192 ![0, 1] bcast_S8x8192_S8x8192x8192_0_1 (corr dp e z))) e)
    (broadcastInDim S8x8192x8192 ![] bcast_S_S8x8192x8192 (constant S_ .f32 0x00000000#32))) root) bitsLt_bf16_f32) bitsLt_bf16_f32

include hd he hz in
theorem ds_eq (j : Fin 8192) : ds dp e z (ix3 h i j) = ((H.dS i.val j.val * sc : ℝ) : EReal) := by
  have hn := norm_pos (H := H) (i := i) (M := M)
  have hne : Real.sqrt 192 ≠ 0 := (Real.sqrt_pos.mpr (by norm_num)).ne'
  pointwise [ds, cols]
  rw [mask_select, root_eq, corr_eq hd he hz]
  simp only [hd, he, hz, Ideal.div_coe hn.ne', Ideal.div_coe hne, ← EReal.coe_add, ← EReal.coe_mul]
  by_cases hj : j.val ≤ i.val
  · rw [if_pos hj, ← EReal.coe_mul]
    refine congrArg (fun x : ℝ => (x : EReal)) ?_
    have hw := (H.W_pos i.isLt).ne'
    have hx := (Real.exp_pos (-M)).ne'
    rw [Head.dS, Head.P, sc]
    field_simp
    ring
  · rw [if_neg hj, H.dS_of_lt (Nat.lt_of_not_le hj), zero_mul, zero_mul, EReal.coe_zero]

/-- The attention's weights. -/
def wt (e : FVec Ideal S8x8192x8192 .f32) (z : FVec Ideal S8x8192x1 .f32) : FVec Ideal S8x8192x8192 .f32 :=
  extf .f32 (truncf .bf16 (Host.divf e (cols z)) bitsLt_bf16_f32) bitsLt_bf16_f32

include he hz in
theorem wt_eq (j : Fin 8192) : wt e z (ix3 h i j) = ((H.P i.val j.val : ℝ) : EReal) := by
  have hn := norm_pos (H := H) (i := i) (M := M)
  pointwise [wt, cols]
  simp only [he, hz, Ideal.div_coe hn.ne', ← EReal.coe_mul]
  refine congrArg (fun x : ℝ => (x : EReal)) ?_
  have hw := (H.W_pos i.isLt).ne'
  have hx := (Real.exp_pos (-M)).ne'
  rw [Head.P]
  field_simp

end Row

/-- The gradient of the queries. -/
def gq (A1 : FVec Ideal S8192x8x192 .bf16) (s : FVec Ideal S8x8192x8192 .f32) : FVec Ideal S8x8192x192 .f32 :=
  transpose S8x8192x192 [1, 0, 2] (extf .f32 (truncf .bf16 (transpose S8192x8x192 [1, 0, 2]
    (Host.dotGeneral dot_S8x8192x8192_S8192x8x192_S8x8192x192_2_0_1_2_0_1 none s (extf .f32 A1 bitsLt_bf16_f32))
    transposes_S8x8192x192_S8192x8x192_1_0_2) bitsLt_bf16_f32) bitsLt_bf16_f32) transposes_S8192x8x192_S8x8192x192_1_0_2

include hA in
theorem gq_eq {s : FVec Ideal S8x8192x8192 .f32} (hs : ∀ h (i j : Fin 8192), s (ix3 h i j) = (((HH h).dS i.val j.val * sc : ℝ) : EReal))
    (h : Fin 8) (i : Fin 8192) (d : Fin 192) : gq A1 s (ix3 h i d) = (((HH h).dQ i.val d : ℝ) : EReal) := by
  pointwise [gq]
  simp only [hs, hA.k, ← EReal.coe_mul, coe_sum]
  refine congrArg (fun x : ℝ => (x : EReal)) ?_
  rw [Head.dQ, Finset.sum_range, Finset.sum_mul]
  exact Finset.sum_congr rfl fun j _ => by ring

/-- The gradient of the keys. -/
def gk (A0 : FVec Ideal S8192x8x192 .bf16) (s : FVec Ideal S8x8192x8192 .f32) : FVec Ideal S8x16x192x512 .f32 :=
  transpose S8x16x192x512 [2, 0, 3, 1] (shapeCast S16x512x8x192 (extf .f32 (truncf .bf16 (transpose S8192x8x192 [1, 0, 2]
    (Host.dotGeneral dot_S8x8192x8192_S8192x8x192_S8x8192x192_1_0_2_2_0_1 none s (extf .f32 A0 bitsLt_bf16_f32))
    transposes_S8x8192x192_S8192x8x192_1_0_2) bitsLt_bf16_f32) bitsLt_bf16_f32) shapeCasts_S8192x8x192_S16x512x8x192)
    transposes_S16x512x8x192_S8x16x192x512_2_0_3_1

include hA in
theorem gk_eq {s : FVec Ideal S8x8192x8192 .f32} (hs : ∀ h (i j : Fin 8192), s (ix3 h i j) = (((HH h).dS i.val j.val * sc : ℝ) : EReal))
    (h : Fin 8) (j : Fin 16) (d : Fin 192) (y : Fin 512) :
    gk A0 s (ix4 h j d y) = (((HH h).dK (512 * j.val + y.val) d : ℝ) : EReal) := by
  pointwise [gk]
  simp only [hs, hA.q, ← EReal.coe_mul, coe_sum]
  refine congrArg (fun x : ℝ => (x : EReal)) ?_
  rw [Head.dK, Finset.sum_range, Nat.mul_comm 512]
  exact Finset.sum_congr rfl fun j _ => by ring

/-- The gradient of the values. -/
def gv (A3 : FVec Ideal S8192x8x128 .bf16) (p : FVec Ideal S8x8192x8192 .f32) : FVec Ideal S8x16x128x512 .f32 :=
  transpose S8x16x128x512 [2, 0, 3, 1] (shapeCast S16x512x8x128 (extf .f32 (truncf .bf16 (transpose S8192x8x128 [2, 0, 1]
    (Host.dotGeneral dot_S8x128x8192_S8x8192x8192_S8x128x8192_2_1_1_2_0_0 none (cot A3) p)
    transposes_S8x128x8192_S8192x8x128_2_0_1) bitsLt_bf16_f32) bitsLt_bf16_f32) shapeCasts_S8192x8x128_S16x512x8x128)
    transposes_S16x512x8x128_S8x16x128x512_2_0_3_1

include hA in
theorem gv_eq {p : FVec Ideal S8x8192x8192 .f32} (hp : ∀ h (i j : Fin 8192), p (ix3 h i j) = (((HH h).P i.val j.val : ℝ) : EReal))
    (h : Fin 8) (j : Fin 16) (e : Fin 128) (y : Fin 512) :
    gv A3 p (ix4 h j e y) = (((HH h).dV (512 * j.val + y.val) e : ℝ) : EReal) := by
  pointwise [gv, cot]
  simp only [hp, hA.g, ← EReal.coe_mul, coe_sum]
  refine congrArg (fun x : ℝ => (x : EReal)) ?_
  rw [Head.dV, Finset.sum_range, Nat.mul_comm 512]

/-- The attention's output, heads first and rows last. -/
def out (A2 : FVec Ideal S8192x8x128 .bf16) (p : FVec Ideal S8x8192x8192 .f32) : FVec Ideal S8x128x8192 .bf16 :=
  transpose S8x128x8192 [1, 2, 0] (truncf .bf16 (transpose S8192x8x128 [2, 0, 1]
    (Host.dotGeneral dot_S8192x8x128_S8x8192x8192_S8x128x8192_0_2_2_1_1_0 none (extf .f32 A2 bitsLt_bf16_f32) p)
    transposes_S8x128x8192_S8192x8x128_2_0_1) bitsLt_bf16_f32) transposes_S8192x8x128_S8x128x8192_1_2_0

include hA in
theorem out_eq {p : FVec Ideal S8x8192x8192 .f32} (hp : ∀ h (i j : Fin 8192), p (ix3 h i j) = (((HH h).P i.val j.val : ℝ) : EReal))
    (h : Fin 8) (e : Fin 128) (i : Fin 8192) : out A2 p (ix3 h e i) = (((HH h).O i.val e : ℝ) : EReal) := by
  pointwise [out]
  simp only [hp, hA.v, ← EReal.coe_mul, coe_sum]
  refine congrArg (fun x : ℝ => (x : EReal)) ?_
  rw [Head.O, Finset.sum_range]
  exact Finset.sum_congr rfl fun j _ => mul_comm _ _

end Cert.Attn.Ref

end
-- ==== Proof.RefValue.lean ====
/- What the reference leaves in its four results, over the reals, from its four arguments. -/
module

public import proofs.«01_k».proof.Proof.RefScore

@[expose] public section

noncomputable section

namespace Cert.Attn.Ref

open Idealize.ShloMosaic Cert.ReferenceIdeal Cert.ReferenceIdeal.Gen Idealize.ShloMosaic.Pointwise

section Chain

variable (A0 A1 : FVec Ideal S8192x8x192 .bf16) (A2 A3 : FVec Ideal S8192x8x128 .bf16)

/-- The exponentials of the reference. -/
def exps : FVec Ideal S8x8192x8192 .f32 := ex (score A0 A1) (rowMax (score A0 A1))

/-- The gradient of the reference's unscaled scores. -/
def grads : FVec Ideal S8x8192x8192 .f32 := ds (dwt A2 A3) (exps A0 A1) (total (exps A0 A1))

/-- The reference's weights. -/
def wts : FVec Ideal S8x8192x8192 .f32 := wt (exps A0 A1) (total (exps A0 A1))

variable {A0 A1 A2 A3} {HH : Fin 8 → Head} (hA : Args HH A0 A1 A2 A3)

include hA in
/-- A row's exponentials, up to a common factor. -/
theorem exps_eq (h : Fin 8) (i : Fin 8192) :
    ∃ M : ℝ, ∀ j : Fin 8192, exps A0 A1 (ix3 h i j) = (((HH h).E i.val j.val * Real.exp (-M) : ℝ) : EReal) := by
  obtain ⟨M, hM⟩ := rowMax_real (score A0 A1) (fun z => by
      rw [eq_ix3 z, score_eq hA (z 0) (z 1) (z 2)]
      split_ifs
      · exact EReal.coe_ne_top _
      · exact bot_ne_top) h i (by
      rw [score_eq hA h i 0, if_pos (show ((0 : Fin 8192) : ℕ) ≤ i.val from Nat.zero_le _)]
      exact EReal.coe_ne_bot _)
  exact ⟨M, ex_eq (fun j => score_eq hA h i j) hM⟩

include hA in
theorem grads_eq (h : Fin 8) (i j : Fin 8192) : grads A0 A1 A2 A3 (ix3 h i j) = (((HH h).dS i.val j.val * sc : ℝ) : EReal) := by
  obtain ⟨M, he⟩ := exps_eq hA h i
  exact ds_eq (fun j => dwt_eq hA h i j) he (total_eq he) j

include hA in
theorem wts_eq (h : Fin 8) (i j : Fin 8192) : wts A0 A1 (ix3 h i j) = (((HH h).P i.val j.val : ℝ) : EReal) := by
  obtain ⟨M, he⟩ := exps_eq hA h i
  exact wt_eq he (total_eq he) j

end Chain

variable (m : (ℓ : Loc nD τ sig) → Buf (Elt Ideal) ℓ) (c : Dev nD)

theorem stage_dq : Value.res_main_v82 m c = gq (m ((c.tc : Thread nD τ).loc main_arg1))
    (grads (m ((c.tc : Thread nD τ).loc main_arg0)) (m ((c.tc : Thread nD τ).loc main_arg1)) (m ((c.tc : Thread nD τ).loc main_arg2))
      (m ((c.tc : Thread nD τ).loc main_arg3))) := by
  unfold Value.res_main_v82
  rfl

theorem stage_dk : Value.res_main_v85 m c = gk (m ((c.tc : Thread nD τ).loc main_arg0))
    (grads (m ((c.tc : Thread nD τ).loc main_arg0)) (m ((c.tc : Thread nD τ).loc main_arg1)) (m ((c.tc : Thread nD τ).loc main_arg2))
      (m ((c.tc : Thread nD τ).loc main_arg3))) := by
  unfold Value.res_main_v85
  rfl

theorem stage_dv : Value.res_main_v88 m c = gv (m ((c.tc : Thread nD τ).loc main_arg3))
    (wts (m ((c.tc : Thread nD τ).loc main_arg0)) (m ((c.tc : Thread nD τ).loc main_arg1))) := by
  unfold Value.res_main_v88
  rfl

theorem stage_o : Value.res_main_v89 m c = out (m ((c.tc : Thread nD τ).loc main_arg2))
    (wts (m ((c.tc : Thread nD τ).loc main_arg0)) (m ((c.tc : Thread nD τ).loc main_arg1))) := by
  unfold Value.res_main_v89
  rfl

variable {HH : Fin 8 → Head} (hA : Args HH (m ((c.tc : Thread nD τ).loc main_arg0)) (m ((c.tc : Thread nD τ).loc main_arg1))
  (m ((c.tc : Thread nD τ).loc main_arg2)) (m ((c.tc : Thread nD τ).loc main_arg3)))

include hA in
/-- The gradient of the queries in the reference. -/
theorem dq_value : Value.res_main_v82 m c = fun z => (((HH (z 0)).dQ (z 1).val (z 2) : ℝ) : EReal) := by
  rw [stage_dq]
  funext z
  exact (congrArg _ (eq_ix3 z)).trans (gq_eq hA (fun h i j => grads_eq hA h i j) (z 0) (z 1) (z 2))

include hA in
/-- The gradient of the keys in the reference. -/
theorem dk_value : Value.res_main_v85 m c = fun z => (((HH (z 0)).dK (512 * (z 1).val + (z 3).val) (z 2) : ℝ) : EReal) := by
  rw [stage_dk]
  funext z
  exact (congrArg _ (eq_ix4 z)).trans (gk_eq hA (fun h i j => grads_eq hA h i j) (z 0) (z 1) (z 2) (z 3))

include hA in
/-- The gradient of the values in the reference. -/
theorem dv_value : Value.res_main_v88 m c = fun z => (((HH (z 0)).dV (512 * (z 1).val + (z 3).val) (z 2) : ℝ) : EReal) := by
  rw [stage_dv]
  funext z
  exact (congrArg _ (eq_ix4 z)).trans (gv_eq hA (fun h i j => wts_eq hA h i j) (z 0) (z 1) (z 2) (z 3))

include hA in
/-- The attention's output in the reference. -/
theorem o_value : Value.res_main_v89 m c = fun z => (((HH (z 0)).O (z 2).val (z 1) : ℝ) : EReal) := by
  rw [stage_o]
  funext z
  exact (congrArg _ (eq_ix3 z)).trans (out_eq hA (fun h i j => wts_eq hA h i j) (z 0) (z 1) (z 2))

end Cert.Attn.Ref

end
-- ==== Proof.Finite.lean ====
/- The precondition: every entry of the four arguments is finite, so that each holds real numbers. -/
module

public import proofs.«01_k».proof.Pre_finite
public import proofs.«01_k».proof.Proof.Args
public import proofs.«01_k».proof.Proof.BwdTile

@[expose] public section

noncomputable section

namespace Cert.Attn

open Idealize.ShloMosaic Cert.Pre_finite Idealize.ShloMosaic.Pointwise

/-- The shape relations that the precondition's operations take. -/
theorem finite_facts : Cert.Pre_finite.Facts := by
  constructor <;> decide

theorem ofBits_pinf : Ideal.ofBits FTy.bf16 0x7F80#16 = ⊤ := by simp [Ideal.ofBits, Ideal.ieee]

/-- A comparison that says that an extended real's absolute value is less than plus infinity makes it real. -/
theorem real_of_lt {x : EReal} (h : BitVec.ofBool (decide (max x (-x) < Ideal.ofBits FTy.bf16 0x7F80#16)) = 1#1) : x = (x.toReal : EReal) := by
  rw [ofBits_pinf] at h
  have h' : max x (-x) < ⊤ := by
    by_contra hn
    rw [decide_eq_false hn] at h
    exact absurd h (by decide)
  refine (EReal.coe_toReal (fun e => ?_) fun e => ?_).symm
  · rw [e, max_eq_left le_top] at h'; exact lt_irrefl _ h'
  · rw [e, EReal.neg_bot, max_eq_right le_top] at h'; exact lt_irrefl _ h'

variable [Cert.Pre_finite.Facts] (A0 A1 : FVec Ideal S8192x8x192 .bf16) (A2 A3 : FVec Ideal S8192x8x128 .bf16)

/-- Row `r` of head `h`, as real numbers. -/
def rows {n : ℕ} (A : FVec Ideal ⟨3, ![8192, 8, n]⟩ .bf16) (h : Fin 8) (r : ℕ) (d : Fin n) : ℝ :=
  if hr : r < 8192 then EReal.toReal (A (ix3 ⟨r, hr⟩ h d)) else 0

/-- The heads that the four arguments hold. -/
def heads (h : Fin 8) : Head := ⟨rows A0 h, rows A1 h, rows A2 h, rows A3 h⟩

theorem rows_eq {n : ℕ} {A : FVec Ideal ⟨3, ![8192, 8, n]⟩ .bf16} (hA : ∀ z, A z = ((EReal.toReal (A z) : ℝ) : EReal)) (r : Fin 8192) (h : Fin 8)
    (d : Fin n) : A (ix3 r h d) = ((rows A h r.val d : ℝ) : EReal) := by
  rw [rows, dif_pos r.isLt]
  exact hA _

theorem pre_reads (z : S8192x8x192.Idx) (y : S8192x8x128.Idx) :
    (fn (F := Ideal) A0 A1 A2 A3).1 z = BitVec.ofBool (decide (max (A0 z) (-(A0 z)) < Ideal.ofBits FTy.bf16 0x7F80#16))
    ∧ (fn (F := Ideal) A0 A1 A2 A3).2.1 z = BitVec.ofBool (decide (max (A1 z) (-(A1 z)) < Ideal.ofBits FTy.bf16 0x7F80#16))
    ∧ (fn (F := Ideal) A0 A1 A2 A3).2.2.1 y = BitVec.ofBool (decide (max (A2 y) (-(A2 y)) < Ideal.ofBits FTy.bf16 0x7F80#16))
    ∧ (fn (F := Ideal) A0 A1 A2 A3).2.2.2 y = BitVec.ofBool (decide (max (A3 y) (-(A3 y)) < Ideal.ofBits FTy.bf16 0x7F80#16)) :=
  ⟨rfl, rfl, rfl, rfl⟩

/-- Under the precondition the arguments hold real numbers. -/
theorem args_of_finite (h0 : (fn (F := Ideal) A0 A1 A2 A3).1 = fun _ => 1#1) (h1 : (fn (F := Ideal) A0 A1 A2 A3).2.1 = fun _ => 1#1)
    (h2 : (fn (F := Ideal) A0 A1 A2 A3).2.2.1 = fun _ => 1#1) (h3 : (fn (F := Ideal) A0 A1 A2 A3).2.2.2 = fun _ => 1#1) :
    Args (heads A0 A1 A2 A3) A0 A1 A2 A3 where
  q r h d := rows_eq (fun z => real_of_lt ((pre_reads A0 A1 A2 A3 z (ix3 0 0 0)).1.symm.trans (congrFun h0 z))) r h d
  k r h d := rows_eq (fun z => real_of_lt ((pre_reads A0 A1 A2 A3 z (ix3 0 0 0)).2.1.symm.trans (congrFun h1 z))) r h d
  v r h d := rows_eq (fun y => real_of_lt ((pre_reads A0 A1 A2 A3 (ix3 0 0 0) y).2.2.1.symm.trans (congrFun h2 y))) r h d
  g r h d := rows_eq (fun y => real_of_lt ((pre_reads A0 A1 A2 A3 (ix3 0 0 0) y).2.2.2.symm.trans (congrFun h3 y))) r h d

end Cert.Attn

end
-- ==== Proof.Value.lean ====
/- The value claim: the program and the reference leave the same three gradients and the same output. -/
module

public import proofs.«01_k».proof.Defs
public import proofs.«01_k».proof.Proof.Host
public import proofs.«01_k».proof.Proof.Run
public import proofs.«01_k».proof.Proof.RefValue
public import proofs.«01_k».proof.Proof.Finite

@[expose] public section

noncomputable section

namespace Cert.Attn

open Idealize.ShloMosaic Idealize.SL.Sem

/-- Where every entry of the four arguments is finite, the program's three gradients and its output are the reference's: both are
    those of the heads that the arguments hold. -/
theorem value_claim : Cert.algebraic_KernelIdeal_ReferenceIdeal_pre_finite (hKernelIdeal := Cert.KernelIdeal.Gen.facts)
    (hReferenceIdeal := Cert.ReferenceIdeal.Gen.facts) (hPre_finite := finite_facts) := by
  intro m ρ m' ρ' hp hm
  let _ := finite_facts
  have hA c := args_of_finite _ _ _ _ (hp c).1 (hp c).2.1 (hp c).2.2.1 (hp c).2.2.2
  refine ⟨fun c => Cert.KernelIdeal.Gen.W5 m ρ c (Proc.devRef .tc Cert.KernelIdeal.main_v13_0),
    fun c => Cert.KernelIdeal.Gen.W5 m ρ c (Proc.devRef .tc Cert.KernelIdeal.main_v13_1),
    fun c => Cert.KernelIdeal.Gen.W5 m ρ c (Proc.devRef .tc Cert.KernelIdeal.main_v13_2),
    fun c => Cert.KernelIdeal.Gen.W5 m ρ c (Proc.devRef .tc Cert.KernelIdeal.main_v5_0), kernel_run m ρ, ?_⟩
  refine (θ_run _ _ _).mono (fun r h c => ?_) (Cert.ReferenceIdeal.Value.run m' ρ')
  obtain ⟨e0, e1, e2, e3⟩ := hm c
  obtain ⟨r0, r1, r2, r3, ha⟩ := h c
  have hK := hA c
  generalize heads _ _ _ _ = HH at hK
  have hB : Args HH (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) := by
    rw [e0, e1, e2, e3]; exact hK
  exact ⟨r0.trans ((Ref.dq_value m' c hB).trans (dq_exit m ρ c hK).symm), r1.trans ((Ref.dk_value m' c hB).trans (dk_exit m ρ c hK).symm),
    r2.trans ((Ref.dv_value m' c hB).trans (dv_exit m ρ c hK).symm), r3.trans ((Ref.o_value m' c hB).trans (o_exit m ρ c hK).symm), ha⟩

end Cert.Attn

end
-- ==== Proof.Blocks.lean ====
/- Sums cut into blocks, over the extended reals. -/
module

public import proofs.«01_k».proof.Proof.FwdPoint

@[expose] public section

noncomputable section

namespace Cert.Ffn

open Idealize.ShloMosaic

/-- A finite family continued by zero. -/
def ext {N : ℕ} (f : Fin N → EReal) (i : ℕ) : EReal := if h : i < N then f ⟨i, h⟩ else 0

theorem ext_eq {N : ℕ} (f : Fin N → EReal) (i : ℕ) (h : i < N) : ext f i = f ⟨i, h⟩ := dif_pos h

/-- A sum over `n` blocks of `k` terms is the sum over all terms. -/
theorem sum_blocks (n k : ℕ) (f : ℕ → EReal) : ∑ a ∈ Finset.range n, ∑ x : Fin k, f (k * a + x.val) = ∑ i ∈ Finset.range (n * k), f i := by
  induction n with
  | zero => simp
  | succ n ih =>
    rw [Finset.sum_range_succ, ih, Nat.succ_mul, Finset.sum_range_add, Nat.mul_comm n k, Finset.sum_range (n := k)]

theorem sum_ext {N : ℕ} (f : Fin N → EReal) : ∑ i ∈ Finset.range N, ext f i = ∑ i, f i := by
  rw [Finset.sum_range]
  exact Finset.sum_congr rfl fun i _ => ext_eq f i.val i.isLt

/-- A finite family's sum, block by block. -/
theorem sum_cut {N : ℕ} (n k : ℕ) (h : N = n * k) (f : Fin N → EReal) :
    ∑ a ∈ Finset.range n, ∑ x : Fin k, ext f (k * a + x.val) = ∑ i, f i := by
  subst h
  rw [sum_blocks, sum_ext]

/-- A non-negative real number is multiplied into a sum term by term. -/
theorem mul_sum {ι : Type*} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (by exact_mod_cast hc) (EReal.coe_ne_top c), ih]

/-- A quantity that starts anew at every eighth point and grows by a term at each of the others, point by point. -/
theorem grow {N : ℕ} (s : (n : ℕ) → n < N → EReal) (g : ℕ → ℕ → EReal) (hA : ∀ n hn, n % 8 = 0 → s n hn = g (n / 8) 0)
    (hB : ∀ n hn, ¬(n + 1) % 8 = 0 → ¬(n + 1) % 8 = 7 → s (n + 1) hn = s n (Nat.lt_of_succ_lt hn) + g ((n + 1) / 8) ((n + 1) % 8))
    (n : ℕ) (hn : n < N) (h7 : ¬n % 8 = 7) : s n hn = ∑ a ∈ Finset.range (n % 8 + 1), g (n / 8) a := by
  have first (n : ℕ) (hn : n < N) (h0 : n % 8 = 0) : s n hn = ∑ a ∈ Finset.range (n % 8 + 1), g (n / 8) a := by
    rw [hA n hn h0, h0, zero_add, Finset.sum_range_one]
  induction n with
  | zero => exact first 0 hn rfl
  | succ n ih =>
    by_cases h0 : (n + 1) % 8 = 0
    · exact first (n + 1) hn h0
    · have e1 : (n + 1) % 8 = n % 8 + 1 := by omega
      have e2 : (n + 1) / 8 = n / 8 := by omega
      rw [hB n hn h0 h7, e1, e2, Finset.sum_range_succ _ (n % 8 + 1)]
      exact congrArg (· + _) (ih (Nat.lt_of_succ_lt hn) (by omega))

/-- The word of one half. -/
theorem ofBits_half : Ideal.ofBits .f32 0x3F000000#32 = (((1 / 2 : ℝ)) : EReal) := by
  simp [Ideal.ofBits, Ideal.ieee, -EReal.coe_mul]; norm_num

end Cert.Ffn

end
-- ==== Proof.Gate.lean ====
/- The feed-forward's gated unit, forward and backward: what the two calls leave in their results. -/
module

public import proofs.«01_k».proof.Proof.Gen.Kernel2Ideal.Frame
public import proofs.«01_k».proof.Proof.Blocks
public import Idealize.ShloMosaic.Lib.Pipeline.ValueKit

@[expose] public section

noncomputable section

namespace Cert.Ffn.Gate

open Idealize.ShloMosaic Idealize.ShloMosaic.TcCoe Cert.Kernel2Ideal Cert.Kernel2Ideal.Gen Idealize.ShloMosaic.Pointwise Cert.Attn

/-- A hidden unit's product of a token with an input weight of the last layer. -/
def proj (H : Vec Ideal S8192x2048 .bf16) (W : Vec Ideal S8x2x2048x704 .bf16) (j : Fin 8) (r : Fin 8192) (n : Fin 704) : EReal :=
  ∑ d : Fin 2048, H (ix2 r d) * W (ix4 j 1 d n)

/-- The gradient of a hidden unit: half the cotangent's product with the output weight of the last layer. -/
def back (Y : Vec Ideal S8192x2048 .bf16) (W : Vec Ideal S8x2x704x2048 .bf16) (j : Fin 8) (r : Fin 8192) (n : Fin 704) : EReal :=
  ((1 / 2 : ℝ) : EReal) * ∑ d : Fin 2048, Y (ix2 r d) * W (ix4 j 1 n d)

/-- A token's product with a block of an input weight, and with a block of the output weight. -/
def dotIn (x : Vec Ideal S512x2048 .bf16) (w : Vec Ideal S1x1x2048x704 .bf16) (r : Fin 512) (n : Fin 704) : EReal :=
  ∑ d : Fin 2048, x (ix2 r d) * w (ix4 0 0 d n)
def dotOut (x : Vec Ideal S512x2048 .bf16) (w : Vec Ideal S1x1x704x2048 .bf16) (r : Fin 512) (n : Fin 704) : EReal :=
  ((1 / 2 : ℝ) : EReal) * ∑ d : Fin 2048, x (ix2 r d) * w (ix4 0 0 n d)

/-- The gated unit, as the call computes it. -/
def unit (u v : EReal) : EReal := u * Ideal.logistic u * v
/-- The gradient of the gate's product, as the call computes it. -/
def dGate (g u v : EReal) : EReal := g * v * (Ideal.logistic u * (1 + u * (1 - Ideal.logistic u)))
/-- The gradient of the other product, as the call computes it. -/
def dUp (g u : EReal) : EReal := g * (u * Ideal.logistic u)

theorem ofBits_one : Ideal.ofBits .f32 0x3F800000#32 = 1 := by
  simp [Ideal.ofBits, Ideal.ieee]
  rw [← EReal.coe_mul, ← EReal.coe_one]
  norm_num

theorem pay0_1 (x0 : Vec Ideal S512x2048 .bf16) (x1 : Vec Ideal S1x1x2048x704 .bf16) (r : Fin 512) (n : Fin 704) :
    k0_pay1 x0 x1 (ix2 r n) = dotIn x0 x1 r n := by
  pointwise [k0_pay1, dotIn]
theorem pay0_3 (x0 : Vec Ideal S512x2048 .bf16) (x1 : Vec Ideal S1x1x2048x704 .bf16) (r : Fin 512) (n : Fin 704) :
    k0_pay3 x0 x1 (ix3 0 r n) = dotIn x0 x1 r n := by
  refine Eq.trans ?_ (pay0_1 x0 x1 r n)
  pointwise [k0_pay3]
theorem pay0_5 (x0 : Vec Ideal S512x2048 .bf16) (x1 x2 : Vec Ideal S1x1x2048x704 .bf16) (r : Fin 512) (n : Fin 704) :
    k0_pay5 x0 x1 x2 (ix3 0 r n) = unit (dotIn x0 x1 r n) (dotIn x0 x2 r n) := by
  rw [← pay0_1, ← pay0_1]
  pointwise [k0_pay5]
  rfl
theorem pay1_1 (x0 : Vec Ideal S512x2048 .bf16) (x3 : Vec Ideal S1x1x704x2048 .bf16) (r : Fin 512) (n : Fin 704) :
    k1_pay1 x0 x3 (ix2 r n) = dotOut x0 x3 r n := by
  rw [dotOut, ← ofBits_half]
  pointwise [k1_pay1]
theorem pay1_4 (x0 : Vec Ideal S512x2048 .bf16) (x1 x2 : Vec Ideal S1x512x704 .bf16) (x3 : Vec Ideal S1x1x704x2048 .bf16) (r : Fin 512) (n : Fin 704) :
    k1_pay4 x0 x3 x1 x2 (ix3 0 r n)
      = dGate (dotOut x0 x3 r n) (x1 (ix3 0 r n)) (x2 (ix3 0 r n)) := by
  rw [← pay1_1, dGate, ← ofBits_one]
  pointwise [k1_pay4, k1_pay3, k1_pay2]
theorem pay1_5 (x0 : Vec Ideal S512x2048 .bf16) (x1 : Vec Ideal S1x512x704 .bf16) (x3 : Vec Ideal S1x1x704x2048 .bf16) (r : Fin 512) (n : Fin 704) :
    k1_pay5 x0 x3 x1 (ix3 0 r n) = dUp (dotOut x0 x3 r n) (x1 (ix3 0 r n)) := by
  rw [← pay1_1, dUp]
  pointwise [k1_pay5, k1_pay3, k1_pay2]

/-- A token of a tile. -/
def tok (i : Fin 16) (r : Fin 512) : Fin 8192 := ⟨512 * i.val + r.val, by omega⟩

/-- Where the first call's windows stand at a grid point. -/
theorem idx0 : ∀ t : Fin cfg0.N, win0_0.index t = ![(grid0.coords t 1).val, 0] ∧ win0_1.index t = ![(grid0.coords t 0).val, 1, 0, 0]
    ∧ win0_2.index t = ![(grid0.coords t 0).val, 1, 0, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0] := by
  decide +kernel
/-- Where the second call's windows stand at a grid point. -/
theorem idx1 : ∀ t : Fin cfg1.N, win1_0.index t = ![(grid1.coords t 1).val, 0] ∧ win1_1.index t = ![(grid1.coords t 0).val, (grid1.coords t 1).val, 0]
    ∧ win1_2.index t = ![(grid1.coords t 0).val, (grid1.coords t 1).val, 0] ∧ win1_3.index t = ![(grid1.coords t 0).val, 1, 0, 0]
    ∧ win1_4.index t = ![(grid1.coords t 0).val, (grid1.coords t 1).val, 0] ∧ win1_5.index t = ![(grid1.coords t 0).val, (grid1.coords t 1).val, 0] := by
  decide +kernel

section
variable (V : (c : Dev nD) → (b : Ref sig .tc) → Buf (Elt Ideal) ((c : Thread nD τ).loc b)) (c : Dev nD)

/-- The products with the two input weights, at a grid point of the first call. -/
theorem proj1 (t : Fin cfg0.N) (r : Fin 512) (n : Fin 704) :
    dotIn (iblk0 V c 0 t) (iblk0 V c 1 t) r n = proj (V c main_arg0) (V c main_arg1) (grid0.coords t 0) (tok (grid0.coords t 1) r) n := by
  obtain ⟨e0, e1, -⟩ := idx0 t
  exact Finset.sum_congr rfl fun d _ => congrArg₂ (fun a b : EReal => a * b)
    (show iblk0 V c 0 t (ix2 r d) = V c main_arg0 (ix2 (tok (grid0.coords t 1) r) d) by blk_ext [iblk0, e0, tok])
    (show iblk0 V c 1 t (ix4 0 0 d n) = V c main_arg1 (ix4 (grid0.coords t 0) 1 d n) by blk_ext [iblk0, e1])
theorem proj2 (t : Fin cfg0.N) (r : Fin 512) (n : Fin 704) :
    dotIn (iblk0 V c 0 t) (iblk0 V c 2 t) r n = proj (V c main_arg0) (V c main_arg2) (grid0.coords t 0) (tok (grid0.coords t 1) r) n := by
  obtain ⟨e0, -, e2, -⟩ := idx0 t
  exact Finset.sum_congr rfl fun d _ => congrArg₂ (fun a b : EReal => a * b)
    (show iblk0 V c 0 t (ix2 r d) = V c main_arg0 (ix2 (tok (grid0.coords t 1) r) d) by blk_ext [iblk0, e0, tok])
    (show iblk0 V c 2 t (ix4 0 0 d n) = V c main_arg2 (ix4 (grid0.coords t 0) 1 d n) by blk_ext [iblk0, e2])

/-- The first call's three result arrays. -/
theorem u_array : (dat0 V c).arrAt 3 cfg0.N = fun z => proj (V c main_arg0) (V c main_arg1) (z 0) (z 1) (z 2) := by
  refine (dat0 V c).arrAt_eq_of_covers 3 (fun z => proj (V c main_arg0) (V c main_arg1) (z 0) (z 1) (z 2)) (by decide +kernel) fun t hf y => ?_
  obtain ⟨-, -, -, e, -⟩ := idx0 t
  blk_simp [e]
  rw [after0_3]
  have hy : y = ix3 0 (y 1) (y 2) := by blk_ext
  have h0 : (win0_3.blk t).view.emb y 0 = grid0.coords t 0 := by apply Fin.ext; blk_simp [e]
  have h1 : (win0_3.blk t).view.emb y 1 = tok (grid0.coords t 1) (y 1) := by
    apply Fin.ext; blk_simp [e, tok]; exact congrArg (· + _) (Nat.mul_comm _ _)
  have h2 : (win0_3.blk t).view.emb y 2 = y 2 := by apply Fin.ext; blk_simp [e]
  rw [h0, h1, h2]
  refine (congrArg _ hy).trans ?_
  unfold out0_3 r0_0 r0_1 r0_2
  rw [View.canon_unit_zero (by decide +kernel), View.ld_unit_zero (by decide +kernel), View.ld_unit_zero (by decide +kernel)]
  exact (pay0_3 _ _ _ _).trans (proj1 V c t (y 1) (y 2))

theorem v_array : (dat0 V c).arrAt 4 cfg0.N = fun z => proj (V c main_arg0) (V c main_arg2) (z 0) (z 1) (z 2) := by
  refine (dat0 V c).arrAt_eq_of_covers 4 (fun z => proj (V c main_arg0) (V c main_arg2) (z 0) (z 1) (z 2)) (by decide +kernel) fun t hf y => ?_
  obtain ⟨-, -, -, -, e, -⟩ := idx0 t
  blk_simp [e]
  rw [after0_4]
  have hy : y = ix3 0 (y 1) (y 2) := by blk_ext
  have h0 : (win0_4.blk t).view.emb y 0 = grid0.coords t 0 := by apply Fin.ext; blk_simp [e]
  have h1 : (win0_4.blk t).view.emb y 1 = tok (grid0.coords t 1) (y 1) := by
    apply Fin.ext; blk_simp [e, tok]; exact congrArg (· + _) (Nat.mul_comm _ _)
  have h2 : (win0_4.blk t).view.emb y 2 = y 2 := by apply Fin.ext; blk_simp [e]
  rw [h0, h1, h2]
  refine (congrArg _ hy).trans ?_
  unfold out0_4 r0_0 r0_1 r0_2
  rw [View.canon_unit_zero (by decide +kernel), View.ld_unit_zero (by decide +kernel), View.ld_unit_zero (by decide +kernel)]
  exact (pay0_3 _ _ _ _).trans (proj2 V c t (y 1) (y 2))

theorem a_array : (dat0 V c).arrAt 5 cfg0.N
    = fun z => unit (proj (V c main_arg0) (V c main_arg1) (z 0) (z 1) (z 2)) (proj (V c main_arg0) (V c main_arg2) (z 0) (z 1) (z 2)) := by
  refine (dat0 V c).arrAt_eq_of_covers 5 (fun z => unit (proj (V c main_arg0) (V c main_arg1) (z 0) (z 1) (z 2)) (proj (V c main_arg0) (V c main_arg2) (z 0) (z 1) (z 2)))
    (by decide +kernel) fun t hf y => ?_
  obtain ⟨-, -, -, -, -, e⟩ := idx0 t
  blk_simp [e]
  rw [after0_5]
  have hy : y = ix3 0 (y 1) (y 2) := by blk_ext
  have h0 : (win0_5.blk t).view.emb y 0 = grid0.coords t 0 := by apply Fin.ext; blk_simp [e]
  have h1 : (win0_5.blk t).view.emb y 1 = tok (grid0.coords t 1) (y 1) := by
    apply Fin.ext; blk_simp [e, tok]; exact congrArg (· + _) (Nat.mul_comm _ _)
  have h2 : (win0_5.blk t).view.emb y 2 = y 2 := by apply Fin.ext; blk_simp [e]
  rw [h0, h1, h2]
  refine (congrArg _ hy).trans ?_
  unfold out0_5 r0_0 r0_1 r0_2
  rw [View.canon_unit_zero (by decide +kernel), View.ld_unit_zero (by decide +kernel), View.ld_unit_zero (by decide +kernel), View.ld_unit_zero (by decide +kernel)]
  exact (pay0_5 _ _ _ _ _).trans (congrArg₂ unit (proj1 V c t (y 1) (y 2)) (proj2 V c t (y 1) (y 2)))

/-- The hidden unit's gradient, at a grid point of the second call. -/
theorem back1 (t : Fin cfg1.N) (r : Fin 512) (n : Fin 704) :
    dotOut (iblk1 V c 0 t) (iblk1 V c 3 t) r n
      = back (V c main_arg4) (V c main_arg3) (grid1.coords t 0) (tok (grid1.coords t 1) r) n := by
  obtain ⟨e0, -, -, e3, -⟩ := idx1 t
  exact congrArg (fun a : EReal => ((1 / 2 : ℝ) : EReal) * a) (Finset.sum_congr rfl fun d _ => congrArg₂ (fun a b : EReal => a * b)
    (show iblk1 V c 0 t (ix2 r d) = V c main_arg4 (ix2 (tok (grid1.coords t 1) r) d) by blk_ext [iblk1, e0, tok])
    (show iblk1 V c 3 t (ix4 0 0 n d) = V c main_arg3 (ix4 (grid1.coords t 0) 1 n d) by blk_ext [iblk1, e3]))
theorem saved1 (t : Fin cfg1.N) (r : Fin 512) (n : Fin 704) :
    iblk1 V c 1 t (ix3 0 r n) = V c main_v0_0 (ix3 (grid1.coords t 0) (tok (grid1.coords t 1) r) n) := by
  obtain ⟨-, e1, -⟩ := idx1 t
  blk_ext [iblk1, e1, tok]
theorem saved2 (t : Fin cfg1.N) (r : Fin 512) (n : Fin 704) :
    iblk1 V c 2 t (ix3 0 r n) = V c main_v0_1 (ix3 (grid1.coords t 0) (tok (grid1.coords t 1) r) n) := by
  obtain ⟨-, -, e2, -⟩ := idx1 t
  blk_ext [iblk1, e2, tok]

theorem du_point (t : Fin cfg1.N) (r : Fin 512) (n : Fin 704) :
    dGate (dotOut (iblk1 V c 0 t) (iblk1 V c 3 t) r n) (iblk1 V c 1 t (ix3 0 r n)) (iblk1 V c 2 t (ix3 0 r n))
      = dGate (back (V c main_arg4) (V c main_arg3) (grid1.coords t 0) (tok (grid1.coords t 1) r) n)
        (V c main_v0_0 (ix3 (grid1.coords t 0) (tok (grid1.coords t 1) r) n)) (V c main_v0_1 (ix3 (grid1.coords t 0) (tok (grid1.coords t 1) r) n)) := by
  rw [back1, saved1, saved2]
theorem dv_point (t : Fin cfg1.N) (r : Fin 512) (n : Fin 704) :
    dUp (dotOut (iblk1 V c 0 t) (iblk1 V c 3 t) r n) (iblk1 V c 1 t (ix3 0 r n))
      = dUp (back (V c main_arg4) (V c main_arg3) (grid1.coords t 0) (tok (grid1.coords t 1) r) n)
        (V c main_v0_0 (ix3 (grid1.coords t 0) (tok (grid1.coords t 1) r) n)) := by
  rw [back1, saved1]

/-- The second call's two result arrays. -/
theorem du_array : (dat1 V c).arrAt 4 cfg1.N
    = fun z => dGate (back (V c main_arg4) (V c main_arg3) (z 0) (z 1) (z 2)) (V c main_v0_0 (ix3 (z 0) (z 1) (z 2))) (V c main_v0_1 (ix3 (z 0) (z 1) (z 2))) := by
  refine (dat1 V c).arrAt_eq_of_covers 4 (fun z => dGate (back (V c main_arg4) (V c main_arg3) (z 0) (z 1) (z 2)) (V c main_v0_0 (ix3 (z 0) (z 1) (z 2)))
    (V c main_v0_1 (ix3 (z 0) (z 1) (z 2)))) (by decide +kernel) fun t hf y => ?_
  obtain ⟨-, -, -, -, e, -⟩ := idx1 t
  blk_simp [e]
  rw [after1_4]
  have hy : y = ix3 0 (y 1) (y 2) := by blk_ext
  have h0 : (win1_4.blk t).view.emb y 0 = grid1.coords t 0 := by apply Fin.ext; blk_simp [e]
  have h1 : (win1_4.blk t).view.emb y 1 = tok (grid1.coords t 1) (y 1) := by
    apply Fin.ext; blk_simp [e, tok]; exact congrArg (· + _) (Nat.mul_comm _ _)
  have h2 : (win1_4.blk t).view.emb y 2 = y 2 := by apply Fin.ext; blk_simp [e]
  rw [h0, h1, h2]
  refine (congrArg _ hy).trans ?_
  unfold out1_4 r1_0 r1_1 r1_2
  rw [View.canon_unit_zero (by decide +kernel), View.ld_unit_zero (by decide +kernel), View.ld_unit_zero (by decide +kernel), View.ld_unit_zero (by decide +kernel),
    View.ld_unit_zero (by decide +kernel)]
  exact (pay1_4 _ _ _ _ (y 1) (y 2)).trans (du_point V c t (y 1) (y 2))

theorem dv_array : (dat1 V c).arrAt 5 cfg1.N
    = fun z => dUp (back (V c main_arg4) (V c main_arg3) (z 0) (z 1) (z 2)) (V c main_v0_0 (ix3 (z 0) (z 1) (z 2))) := by
  refine (dat1 V c).arrAt_eq_of_covers 5 (fun z => dUp (back (V c main_arg4) (V c main_arg3) (z 0) (z 1) (z 2)) (V c main_v0_0 (ix3 (z 0) (z 1) (z 2))))
    (by decide +kernel) fun t hf y => ?_
  obtain ⟨-, -, -, -, -, e⟩ := idx1 t
  blk_simp [e]
  rw [after1_5]
  have hy : y = ix3 0 (y 1) (y 2) := by blk_ext
  have h0 : (win1_5.blk t).view.emb y 0 = grid1.coords t 0 := by apply Fin.ext; blk_simp [e]
  have h1 : (win1_5.blk t).view.emb y 1 = tok (grid1.coords t 1) (y 1) := by
    apply Fin.ext; blk_simp [e, tok]; exact congrArg (· + _) (Nat.mul_comm _ _)
  have h2 : (win1_5.blk t).view.emb y 2 = y 2 := by apply Fin.ext; blk_simp [e]
  rw [h0, h1, h2]
  refine (congrArg _ hy).trans ?_
  unfold out1_5 r1_0 r1_1 r1_2
  rw [View.canon_unit_zero (by decide +kernel), View.ld_unit_zero (by decide +kernel), View.ld_unit_zero (by decide +kernel), View.ld_unit_zero (by decide +kernel)]
  exact (pay1_5 _ _ _ (y 1) (y 2)).trans (dv_point V c t (y 1) (y 2))
end

section
variable (m : (ℓ : Loc nD τ sig) → Buf (Elt Ideal) ℓ) (ρ : Dev nD → PrngReg) (c : Dev nD)

/-- The products and the hidden unit's gradient, of one device's arguments. -/
abbrev uOf := proj (m ((c.tc : Thread nD τ).loc main_arg0)) (m ((c.tc : Thread nD τ).loc main_arg1))
abbrev vOf := proj (m ((c.tc : Thread nD τ).loc main_arg0)) (m ((c.tc : Thread nD τ).loc main_arg2))
abbrev gOf := back (m ((c.tc : Thread nD τ).loc main_arg4)) (m ((c.tc : Thread nD τ).loc main_arg3))

/-- The five results when the program ends. -/
theorem u_mid : W1 m ρ c (Proc.devRef .tc main_v0_0) = fun z => uOf m c (z 0) (z 1) (z 2) := (W1_arr m ρ c 3).trans (u_array _ _)
theorem v_mid : W1 m ρ c (Proc.devRef .tc main_v0_1) = fun z => vOf m c (z 0) (z 1) (z 2) := (W1_arr m ρ c 4).trans (v_array _ _)
theorem u_exit : W2 m ρ c (Proc.devRef .tc main_v0_0) = fun z => uOf m c (z 0) (z 1) (z 2) :=
  (W2_of m ρ c main_v0_0 (by decide)).trans (u_mid m ρ c)
theorem v_exit : W2 m ρ c (Proc.devRef .tc main_v0_1) = fun z => vOf m c (z 0) (z 1) (z 2) :=
  (W2_of m ρ c main_v0_1 (by decide)).trans (v_mid m ρ c)
theorem a_exit : W2 m ρ c (Proc.devRef .tc main_v0_2) = fun z => unit (uOf m c (z 0) (z 1) (z 2)) (vOf m c (z 0) (z 1) (z 2)) :=
  (W2_of m ρ c main_v0_2 (by decide)).trans ((W1_arr m ρ c 5).trans (a_array _ _))
theorem du_exit : W2 m ρ c (Proc.devRef .tc main_v1_0)
    = fun z => dGate (gOf m c (z 0) (z 1) (z 2)) (uOf m c (z 0) (z 1) (z 2)) (vOf m c (z 0) (z 1) (z 2)) := by
  refine (W2_arr m ρ c 4).trans ((du_array _ _).trans ?_)
  rw [show V1 m ρ c main_v0_0 = _ from u_mid m ρ c, show V1 m ρ c main_v0_1 = _ from v_mid m ρ c,
    show V1 m ρ c main_arg4 = _ from W1_args m ρ c main_arg4 (by decide), show V1 m ρ c main_arg3 = _ from W1_args m ρ c main_arg3 (by decide)]
  rfl
theorem dv_exit : W2 m ρ c (Proc.devRef .tc main_v1_1) = fun z => dUp (gOf m c (z 0) (z 1) (z 2)) (uOf m c (z 0) (z 1) (z 2)) := by
  refine (W2_arr m ρ c 5).trans ((dv_array _ _).trans ?_)
  rw [show V1 m ρ c main_v0_0 = _ from u_mid m ρ c,
    show V1 m ρ c main_arg4 = _ from W1_args m ρ c main_arg4 (by decide), show V1 m ρ c main_arg3 = _ from W1_args m ρ c main_arg3 (by decide)]
  rfl
end

end Cert.Ffn.Gate

end
-- ==== Proof.GateRun.lean ====
/- The run of the gated unit's program: it ends with its five result arrays at what its last segment leaves, its arguments as launched. -/
module

public import proofs.«01_k».proof.Proof.Gen.Kernel2Ideal.Frame
public import Idealize.ShloMosaic.PureOps.Ideal

@[expose] public section

noncomputable section

namespace Cert.Ffn.Gate

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run ends with the five results at the values of the program's last segment, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v0_2) = W2 m ρ c (Proc.devRef .tc main_v0_2)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      have read (b : Ref sig .tc) (hb : ¬ (Proc.devRef .tc b : DevRef τ sig).isScoped) := h c _ (mem_uc b hb)
      ⟨read main_v0_0 (by decide), read main_v0_1 (by decide), read main_v0_2 (by decide), read main_v1_0 (by decide), read main_v1_1 (by decide),
        (read main_arg0 (by decide)).trans (W2_main_arg0 m ρ c), (read main_arg1 (by decide)).trans (W2_main_arg1 m ρ c),
        (read main_arg2 (by decide)).trans (W2_main_arg2 m ρ c), (read main_arg3 (by decide)).trans (W2_main_arg3 m ρ c),
        (read main_arg4 (by decide)).trans (W2_main_arg4 m ρ c)⟩)

end Cert.Ffn.Gate

end
-- ==== Proof.GateRef.lean ====
/- The feed-forward's gated unit: the five values that the reference leaves, as the program states them. -/
module

public import proofs.«01_k».proof.Defs
public import proofs.«01_k».proof.Proof.Gate
public import proofs.«01_k».proof.Proof.GateRun
public import proofs.«01_k».proof.Proof.Finite
public import proofs.«01_k».proof.Proof.Gen.Reference2Ideal.Run

@[expose] public section

noncomputable section

namespace Cert.Ffn.Gate

open Idealize.ShloMosaic Idealize.ShloMosaic.TcCoe Idealize.ShloMosaic.Pointwise Idealize.SL.Sem Cert.Attn

section

open Cert.Reference2Ideal Cert.Reference2Ideal.Gen

/-- The reference's products. -/
theorem ref_u (H : Vec Ideal S8192x2048 .bf16) (A : Vec Ideal S8x2x2048x704 .bf16) (j : Fin 8) (r : Fin 8192) (n : Fin 704) :
    (truncf .bf16 (transpose S8x8192x704 [1, 0, 2] (shapeCast _ (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)) shapeCasts_S8192x5632_S8192x8x704) transposes_S8192x8x704_S8x8192x704_1_0_2) bitsLt_bf16_f32 : FVec Ideal S8x8192x704 .bf16) (ix3 j r n)
      = proj H A j r n := by
  pointwise [proj]

/-- The reference's gated unit. -/
theorem ref_a (H : Vec Ideal S8192x2048 .bf16) (A B : Vec Ideal S8x2x2048x704 .bf16) (j : Fin 8) (r : Fin 8192) (n : Fin 704) :
    (truncf .bf16 (transpose S8x8192x704 [1, 0, 2] (shapeCast _ (mulf (mulf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632))))))) (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] B slices_S8x2x2048x704_S8x1x2048x704_0_1_0_0) shapeCasts_S8x1x2048x704_S8x2048x704) bitsLt_bf16_f32) transposes_S8x2048x704_S2048x8x704_1_0_2) shapeCasts_S2048x8x704_S2048x5632))) shapeCasts_S8192x5632_S8192x8x704) transposes_S8192x8x704_S8x8192x704_1_0_2) bitsLt_bf16_f32 : FVec Ideal S8x8192x704 .bf16) (ix3 j r n)
      = unit (proj H A j r n) (proj H B j r n) := by
  rw [unit, Ideal.logistic, ← ofBits_one]
  pointwise [proj]

/-- The reference's gradient of the second product. -/
theorem ref_dv (H Y : Vec Ideal S8192x2048 .bf16) (A : Vec Ideal S8x2x2048x704 .bf16) (D : Vec Ideal S8x2x704x2048 .bf16) (j : Fin 8) (r : Fin 8192) (n : Fin 704) :
    (truncf .bf16 (transpose S8x8192x704 [1, 0, 2] (shapeCast _ (mulf (mulf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632))))))) (Host.dotGeneral dot_S8192x2048_S5632x2048_S8192x5632_1_1_0_0_n_n none (mulf (broadcastInDim S8192x2048 ![] bcast_S_S8192x2048 (constant S_ .f32 0x3F000000#32)) (extf .f32 Y bitsLt_bf16_f32)) (shapeCast _ (extf .f32 (shapeCast _ (extractStridedSlice S8x1x704x2048 ![0, 1, 0, 0] D slices_S8x2x704x2048_S8x1x704x2048_0_1_0_0) shapeCasts_S8x1x704x2048_S8x704x2048) bitsLt_bf16_f32) shapeCasts_S8x704x2048_S5632x2048))) shapeCasts_S8192x5632_S8192x8x704) transposes_S8192x8x704_S8x8192x704_1_0_2) bitsLt_bf16_f32 : FVec Ideal S8x8192x704 .bf16) (ix3 j r n)
      = proj H A j r n * Ideal.logistic (proj H A j r n) * back Y D j r n := by
  rw [back, mul_sum _ (by norm_num), ← ofBits_half, Finset.sum_congr rfl fun d _ => (mul_assoc (Ideal.ofBits .f32 0x3F000000#32) (Y (ix2 r d)) (D (ix4 j 1 n d))).symm]
  rw [Ideal.logistic, ← ofBits_one]
  pointwise [proj]

/-- The reference's gradient of the gate's product. -/
theorem ref_du (H Y : Vec Ideal S8192x2048 .bf16) (A B : Vec Ideal S8x2x2048x704 .bf16) (D : Vec Ideal S8x2x704x2048 .bf16) (j : Fin 8) (r : Fin 8192) (n : Fin 704) :
    (truncf .bf16 (transpose S8x8192x704 [1, 0, 2] (shapeCast _ (addf (mulf (mulf (Host.dotGeneral dot_S8192x2048_S5632x2048_S8192x5632_1_1_0_0_n_n none (mulf (broadcastInDim S8192x2048 ![] bcast_S_S8192x2048 (constant S_ .f32 0x3F000000#32)) (extf .f32 Y bitsLt_bf16_f32)) (shapeCast _ (extf .f32 (shapeCast _ (extractStridedSlice S8x1x704x2048 ![0, 1, 0, 0] D slices_S8x2x704x2048_S8x1x704x2048_0_1_0_0) shapeCasts_S8x1x704x2048_S8x704x2048) bitsLt_bf16_f32) shapeCasts_S8x704x2048_S5632x2048)) (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] B slices_S8x2x2048x704_S8x1x2048x704_0_1_0_0) shapeCasts_S8x1x2048x704_S8x2048x704) bitsLt_bf16_f32) transposes_S8x2048x704_S2048x8x704_1_0_2) shapeCasts_S2048x8x704_S2048x5632))) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632))))))) (mulf (mulf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)) (mulf (Host.dotGeneral dot_S8192x2048_S5632x2048_S8192x5632_1_1_0_0_n_n none (mulf (broadcastInDim S8192x2048 ![] bcast_S_S8192x2048 (constant S_ .f32 0x3F000000#32)) (extf .f32 Y bitsLt_bf16_f32)) (shapeCast _ (extf .f32 (shapeCast _ (extractStridedSlice S8x1x704x2048 ![0, 1, 0, 0] D slices_S8x2x704x2048_S8x1x704x2048_0_1_0_0) shapeCasts_S8x1x704x2048_S8x704x2048) bitsLt_bf16_f32) shapeCasts_S8x704x2048_S5632x2048)) (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] B slices_S8x2x2048x704_S8x1x2048x704_0_1_0_0) shapeCasts_S8x1x2048x704_S8x2048x704) bitsLt_bf16_f32) transposes_S8x2048x704_S2048x8x704_1_0_2) shapeCasts_S2048x8x704_S2048x5632)))) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)))))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (Host.dotGeneral dot_S8192x2048_S2048x5632_S8192x5632_1_0_0_1_n_n none (extf .f32 H bitsLt_bf16_f32) (shapeCast _ (transpose S2048x8x704 [1, 0, 2] (extf .f32 (shapeCast _ (extractStridedSlice S8x1x2048x704 ![0, 1, 0, 0] A slices_S8x2x2048x704_S8x1x2048x704_0_1_0_0) shapeCasts_S8x1x2048x704_S8x2048x704) bitsLt_bf16_f32) transposes_S8x2048x704_S2048x8x704_1_0_2) shapeCasts_S2048x8x704_S2048x5632)))))))))) shapeCasts_S8192x5632_S8192x8x704) transposes_S8192x8x704_S8x8192x704_1_0_2) bitsLt_bf16_f32 : FVec Ideal S8x8192x704 .bf16) (ix3 j r n)
      = back Y D j r n * proj H B j r n * Ideal.logistic (proj H A j r n)
        + proj H A j r n * (back Y D j r n * proj H B j r n) * (Ideal.logistic (proj H A j r n) * (1 - Ideal.logistic (proj H A j r n))) := by
  rw [back, mul_sum _ (by norm_num), ← ofBits_half, Finset.sum_congr rfl fun d _ => (mul_assoc (Ideal.ofBits .f32 0x3F000000#32) (Y (ix2 r d)) (D (ix4 j 1 n d))).symm]
  rw [Ideal.logistic, ← ofBits_one]
  pointwise [proj]

end

end Cert.Ffn.Gate

end
-- ==== Proof.GateValue.lean ====
/- The feed-forward's gated unit: under the precondition the program and the reference leave the same. -/
module

public import proofs.«01_k».proof.Proof.GateRef
public import proofs.«01_k».proof.Pre_finite2

@[expose] public section

noncomputable section

namespace Cert.Ffn.Gate

open Idealize.ShloMosaic Idealize.ShloMosaic.TcCoe Idealize.ShloMosaic.Pointwise Idealize.SL.Sem Cert.Attn

/-- The shape relations that the precondition's operations take. -/
theorem finite_facts : Cert.Pre_finite2.Facts := by
  constructor <;> decide

/-- Every entry of an array is a real number. -/
abbrev Reals {s : Shape} (X : FVec Ideal s .bf16) : Prop := ∀ z, X z = ((EReal.toReal (X z) : ℝ) : EReal)

section

open Cert.Pre_finite2

variable [Cert.Pre_finite2.Facts] (H : FVec Ideal S8192x2048 .bf16) (A B : FVec Ideal S8x2x2048x704 .bf16) (D : FVec Ideal S8x2x704x2048 .bf16) (Y : FVec Ideal S8192x2048 .bf16)

theorem pre_reads :
    (∀ z, (fn (F := Ideal) H A B D Y).1 z = BitVec.ofBool (decide (max (H z) (-(H z)) < Ideal.ofBits FTy.bf16 0x7F80#16)))
    ∧ (∀ z, (fn (F := Ideal) H A B D Y).2.1 z = BitVec.ofBool (decide (max (A z) (-(A z)) < Ideal.ofBits FTy.bf16 0x7F80#16)))
    ∧ (∀ z, (fn (F := Ideal) H A B D Y).2.2.1 z = BitVec.ofBool (decide (max (B z) (-(B z)) < Ideal.ofBits FTy.bf16 0x7F80#16)))
    ∧ (∀ z, (fn (F := Ideal) H A B D Y).2.2.2.1 z = BitVec.ofBool (decide (max (D z) (-(D z)) < Ideal.ofBits FTy.bf16 0x7F80#16)))
    ∧ (∀ z, (fn (F := Ideal) H A B D Y).2.2.2.2 z = BitVec.ofBool (decide (max (Y z) (-(Y z)) < Ideal.ofBits FTy.bf16 0x7F80#16))) :=
  ⟨fun _ => rfl, fun _ => rfl, fun _ => rfl, fun _ => rfl, fun _ => rfl⟩

/-- Under the precondition the arguments hold real numbers. -/
theorem reals_of_finite (h0 : (fn (F := Ideal) H A B D Y).1 = fun _ => 1#1) (h1 : (fn (F := Ideal) H A B D Y).2.1 = fun _ => 1#1)
    (h2 : (fn (F := Ideal) H A B D Y).2.2.1 = fun _ => 1#1) (h3 : (fn (F := Ideal) H A B D Y).2.2.2.1 = fun _ => 1#1)
    (h4 : (fn (F := Ideal) H A B D Y).2.2.2.2 = fun _ => 1#1) : Reals H ∧ Reals A ∧ Reals B ∧ Reals D ∧ Reals Y :=
  have p := pre_reads H A B D Y
  ⟨fun z => real_of_lt ((p.1 z).symm.trans (congrFun h0 z)), fun z => real_of_lt ((p.2.1 z).symm.trans (congrFun h1 z)),
    fun z => real_of_lt ((p.2.2.1 z).symm.trans (congrFun h2 z)), fun z => real_of_lt ((p.2.2.2.1 z).symm.trans (congrFun h3 z)),
    fun z => real_of_lt ((p.2.2.2.2 z).symm.trans (congrFun h4 z))⟩

end

section

open Cert.Kernel2Ideal

variable {H Y : Vec Ideal S8192x2048 .bf16} {A : Vec Ideal S8x2x2048x704 .bf16} {D : Vec Ideal S8x2x704x2048 .bf16} (j : Fin 8) (r : Fin 8192) (n : Fin 704)

/-- The products and the hidden unit's gradient of real arguments are real. -/
theorem proj_real (hH : Reals H) (hA : Reals A) : ∃ x : ℝ, proj H A j r n = (x : EReal) :=
  ⟨∑ d : Fin 2048, EReal.toReal (H (ix2 r d)) * EReal.toReal (A (ix4 j 1 d n)), by
    rw [← coe_sum]
    exact Finset.sum_congr rfl fun d _ => by rw [EReal.coe_mul, ← hH, ← hA]⟩
theorem back_real (hY : Reals Y) (hD : Reals D) : ∃ x : ℝ, back Y D j r n = (x : EReal) :=
  ⟨1 / 2 * ∑ d : Fin 2048, EReal.toReal (Y (ix2 r d)) * EReal.toReal (D (ix4 j 1 n d)), by
    rw [EReal.coe_mul, ← coe_sum]
    exact congrArg (fun a : EReal => ((1 / 2 : ℝ) : EReal) * a) (Finset.sum_congr rfl fun d _ => by rw [EReal.coe_mul, ← hY, ← hD])⟩

end

/-- The reference's derivative of the gated unit, product rule and all, is the call's expression. -/
theorem dGate_eq (g u v : ℝ) : (g : EReal) * v * Ideal.logistic u + u * (g * v) * (Ideal.logistic u * (1 - Ideal.logistic u)) = dGate g u v := by
  simp only [dGate, Ideal.logistic_coe, ← EReal.coe_one, ← EReal.coe_mul, ← EReal.coe_add, ← EReal.coe_sub]
  refine congrArg (fun x : ℝ => (x : EReal)) ?_
  ring

/-- The program's five results are the reference's where every entry of the arguments is finite. -/
theorem value_claim : Cert.algebraic_Kernel2Ideal_Reference2Ideal_pre_finite2 (hKernel2Ideal := Cert.Kernel2Ideal.Gen.facts)
    (hReference2Ideal := Cert.Reference2Ideal.Gen.facts) (hPre_finite2 := finite_facts) := by
  intro m ρ m' ρ' hp hm
  let _ := finite_facts
  refine ⟨_, _, _, _, _, kernel_run m ρ, ?_⟩
  refine (θ_run _ _ _).mono (fun r h c => ?_) (Cert.Reference2Ideal.Value.run m' ρ')
  obtain ⟨e0, e1, e2, e3, e4⟩ := hm c
  obtain ⟨r0, r1, r2, r3, r4, ha⟩ := h c
  obtain ⟨hH, hA, hB, hD, hY⟩ := reals_of_finite _ _ _ _ _ (hp c).1 (hp c).2.1 (hp c).2.2.1 (hp c).2.2.2.1 (hp c).2.2.2.2
  refine ⟨r0.trans (Eq.trans (funext fun z => ?_) (u_exit m ρ c).symm), r1.trans (Eq.trans (funext fun z => ?_) (v_exit m ρ c).symm),
    r2.trans (Eq.trans (funext fun z => ?_) (a_exit m ρ c).symm), r3.trans (Eq.trans (funext fun z => ?_) (du_exit m ρ c).symm),
    r4.trans (Eq.trans (funext fun z => ?_) (dv_exit m ρ c).symm), ha⟩
  · rw [e0, e1]
    exact (congrArg _ (eq_ix3 z)).trans (ref_u _ _ _ _ _)
  · rw [e0, e2]
    exact (congrArg _ (eq_ix3 z)).trans (ref_u _ _ _ _ _)
  · rw [e0, e1, e2]
    exact (congrArg _ (eq_ix3 z)).trans (ref_a _ _ _ _ _ _)
  · unfold Cert.Reference2Ideal.Value.res_main_v43
    rw [e0, e1, e2, e3, e4]
    refine (congrArg _ (eq_ix3 z)).trans ((ref_du _ _ _ _ _ _ _ _).trans ?_)
    obtain ⟨g, hg⟩ := back_real (z 0) (z 1) (z 2) hY hD
    obtain ⟨u, hu⟩ := proj_real (z 0) (z 1) (z 2) hH hA
    obtain ⟨v, hv⟩ := proj_real (z 0) (z 1) (z 2) hH hB
    simp only [uOf, vOf, gOf]
    erw [hg, hu, hv]
    exact dGate_eq g u v
  · rw [e0, e1, e3, e4]
    exact (congrArg _ (eq_ix3 z)).trans ((ref_dv _ _ _ _ _ _ _).trans (mul_comm _ _))

end Cert.Ffn.Gate

end
-- ==== Proof.Hidden.lean ====
/- The call that makes the gradient of the feed-forward's input: what it leaves in its result. -/
module

public import proofs.«01_k».proof.Proof.Gen.Kernel3Ideal.Frame
public import proofs.«01_k».proof.Proof.Blocks
public import Idealize.ShloMosaic.Lib.Pipeline.ValueKit
public import Idealize.ShloMosaic.Lib.Pipeline.ValueKit.Point
public import Idealize.ShloMosaic.Lib.Pipeline.ValueKit.Partial

@[expose] public section

noncomputable section

namespace Cert.Ffn.Hidden

open Idealize.ShloMosaic Idealize.ShloMosaic.TcCoe Cert.Kernel3Ideal Cert.Kernel3Ideal.Gen Idealize.ShloMosaic.Pointwise Cert.Attn

/-- The accumulator starts at zero. -/
theorem pay1 (z : S1024x2048.Idx) : k0_pay1 (F := Ideal) z = 0 := by
  pointwise [k0_pay1]

/-- What a point adds to the accumulator. -/
theorem pay2 (v : Vec Ideal S1024x2048 .f32) (x0 : Vec Ideal S1x1024x704 .bf16) (x2 : Vec Ideal S1x1x2048x704 .bf16) (x1 : Vec Ideal S1x1024x704 .bf16)
    (x3 : Vec Ideal S1x1x2048x704 .bf16) (r : Fin 1024) (d : Fin 2048) :
    k0_pay2 v x0 x2 x1 x3 (ix2 r d) = v (ix2 r d) + ∑ n : Fin 704, (x0 (ix3 0 r n) * x2 (ix4 0 0 d n) + x1 (ix3 0 r n) * x3 (ix4 0 0 d n)) := by
  rw [Finset.sum_add_distrib]
  pointwise [k0_pay2]

/-- The result is the accumulator. -/
theorem pay3 (v : Vec Ideal S1024x2048 .f32) : k0_pay3 v = v := rfl

section
variable (c : Dev nD) (i : grid0.Coords) (arg2 : Memref sig .tc .vmem S1x1024x704 .bf16) (harg2 : arg2.IsWhole) (arg3 : Memref sig .tc .vmem S1x1024x704 .bf16) (harg3 : arg3.IsWhole)
  (arg4 : Memref sig .tc .vmem S1x1x2048x704 .bf16) (harg4 : arg4.IsWhole) (arg5 : Memref sig .tc .vmem S1x1x2048x704 .bf16) (harg5 : arg5.IsWhole)
  (arg6 : Memref sig .tc .vmem S1024x2048 .bf16) (harg6 : arg6.IsWhole) (arg7 : Memref sig .tc .vmem S1024x2048 .f32) (harg7 : arg7.IsWhole)
  (x0 x1 : Vec Ideal S1x1024x704 .bf16) (x2 x3 : Vec Ideal S1x1x2048x704 .bf16) (xs0 : Vec Ideal S1024x2048 .f32)

/-- The accumulator after a token tile's first point. -/
theorem acc_A (hc0 : cond0_0 i) (hc1 : ¬cond0_1 i) :
    sout0_A_0 c i arg2 harg2 arg3 harg3 arg4 harg4 arg5 harg5 arg6 harg6 arg7 harg7 hc0 hc1 x0 x1 x2 x3 = k0_pay2 k0_pay1 x0 x2 x1 x3 := by
  unfold sout0_A_0 kernelRun0_A
  refine (read_writes_whole _ _ _ (by decide) _ _).trans ?_
  unfold kernelRun0_A.sl.v3 kernelRun0_A.sl.HS0_1
  rw [readCov_whole _ _ (by decide), View.readAt_full, View.readAt_full, View.readAt_full, View.readAt_full,
    harg2.read_unread, harg3.read_unread, harg4.read_unread, harg5.read_unread]

/-- The accumulator after a middle point. -/
theorem acc_B (hc0 : ¬cond0_0 i) (hc1 : ¬cond0_1 i) :
    sout0_B_0 c i arg2 harg2 arg3 harg3 arg4 harg4 arg5 harg5 arg6 harg6 arg7 harg7 hc0 hc1 x0 x1 x2 x3 xs0 = k0_pay2 xs0 x0 x2 x1 x3 := by
  unfold sout0_B_0 kernelRun0_B
  refine (read_writes_whole _ _ _ (by decide) _ _).trans ?_
  rw [View.readAt_full, View.readAt_full, View.readAt_full, View.readAt_full, View.readAt_full,
    harg2.read_unread, harg3.read_unread, harg4.read_unread, harg5.read_unread, harg7.read_unread]

/-- The result after a token tile's last point. -/
theorem out_C (hc0 : ¬cond0_0 i) (hc1 : cond0_1 i) :
    out0_C_4 c i arg2 harg2 arg3 harg3 arg4 harg4 arg5 harg5 arg6 harg6 arg7 harg7 hc0 hc1 x0 x1 x2 x3 xs0 = k0_pay2 xs0 x0 x2 x1 x3 := by
  unfold out0_C_4 kernelRun0_C
  refine (read_writes_whole _ _ _ (by decide) _ _).trans ?_
  unfold kernelRun0_C.sl.v22 kernelRun0_C.sl.HS0_1
  rw [readCov_whole _ _ (by decide), View.readAt_full, View.readAt_full, View.readAt_full, View.readAt_full, View.readAt_full,
    harg2.read_unread, harg3.read_unread, harg4.read_unread, harg5.read_unread, harg7.read_unread, pay3]
end

/-- Where the windows stand at a grid point. -/
theorem idx : ∀ t : Fin cfg0.N, win0_0.index t = ![(grid0.coords t 1).val, (grid0.coords t 0).val, 0] ∧ win0_1.index t = ![(grid0.coords t 1).val, (grid0.coords t 0).val, 0]
    ∧ win0_2.index t = ![(grid0.coords t 1).val, 1, 0, 0] ∧ win0_3.index t = ![(grid0.coords t 1).val, 1, 0, 0] ∧ win0_4.index t = ![(grid0.coords t 0).val, 0] := by
  decide +kernel

variable (m : (ℓ : Loc nD τ sig) → Buf (Elt Ideal) ℓ) (ρ : Dev nD → PrngReg) (c : Dev nD)

/-- The token tile of the grid point at position `n`. -/
def tile (n : ℕ) (hn : n < cfg0.N) : Fin 8 := ⟨n / 8, by have : n < 64 := lt_of_lt_of_eq hn N_0; omega⟩

theorem tile_eq (t : Fin cfg0.N) : grid0.coords t 0 = tile t.val t.isLt := by
  have ht : t.val < 64 := lt_of_lt_of_eq t.isLt N_0
  refine Fin.ext ((Pipeline.Grid.coords_val (G := grid0) (S := 8) t 0 (by decide) rfl).trans ?_)
  show t.val / 8 % 8 = t.val / 8
  omega
theorem blk_eq (t : Fin cfg0.N) : (grid0.coords t 1).val = t.val % 8 := by
  refine (Pipeline.Grid.coords_val (G := grid0) (S := 1) t 1 (by decide) rfl).trans ?_
  show t.val / 1 % 8 = t.val % 8
  omega

/-- A token of a tile. -/
def tok (i : Fin 8) (r : Fin 1024) : Fin 8192 := ⟨1024 * i.val + r.val, by omega⟩

/-- One hidden unit's term of the two products. -/
abbrev term (A B : Vec Ideal S8x8192x704 .bf16) (W X : Vec Ideal S8x2x2048x704 .bf16) (r : Fin 8192) (d : Fin 2048) (f : Fin 5632) : EReal :=
  A (ix3 (f.divNat (m := 8) (n := 704)) r (f.modNat (m := 8) (n := 704))) * W (ix4 (f.divNat (m := 8) (n := 704)) 1 d (f.modNat (m := 8) (n := 704)))
    + B (ix3 (f.divNat (m := 8) (n := 704)) r (f.modNat (m := 8) (n := 704))) * X (ix4 (f.divNat (m := 8) (n := 704)) 1 d (f.modNat (m := 8) (n := 704)))

/-- The terms of one device's arguments. -/
abbrev terms (r : Fin 8192) (d : Fin 2048) : Fin 5632 → EReal := term (V m c main_arg0) (V m c main_arg1) (V m c main_arg2) (V m c main_arg3) r d

/-- What a grid point adds, in the hidden units' terms. -/
theorem added (t : Fin cfg0.N) (v : Vec Ideal S1024x2048 .f32) (r : Fin 1024) (d : Fin 2048) :
    k0_pay2 v (iblk m c 0 t) (iblk m c 2 t) (iblk m c 1 t) (iblk m c 3 t) (ix2 r d)
      = v (ix2 r d) + ∑ x : Fin 704, ext (terms m c (tok (tile t.val t.isLt) r) d) (704 * (t.val % 8) + x.val) := by
  obtain ⟨e0, e1, e2, e3, -⟩ := idx t
  rw [pay2, ← blk_eq, ← tile_eq]
  refine congrArg (v (ix2 r d) + ·) (Finset.sum_congr rfl fun x _ => ?_)
  have h8 : (grid0.coords t 1).val < 8 := (grid0.coords t 1).isLt
  rw [ext_eq _ _ (by omega)]
  have ed : Fin.divNat (m := 8) (n := 704) ⟨704 * (grid0.coords t 1).val + x.val, by omega⟩ = grid0.coords t 1 := Fin.ext (by simp only [Fin.coe_divNat]; omega)
  have em : Fin.modNat (m := 8) (n := 704) ⟨704 * (grid0.coords t 1).val + x.val, by omega⟩ = x := Fin.ext (by simp only [Fin.coe_modNat]; omega)
  simp only [terms, term]
  rw [ed, em]
  exact congrArg₂ (· + ·)
    (congrArg₂ (· * ·) (show iblk m c 0 t (ix3 0 r x) = V m c main_arg0 (ix3 (grid0.coords t 1) (tok (grid0.coords t 0) r) x) by blk_ext [iblk, e0, tok])
      (show iblk m c 2 t (ix4 0 0 d x) = V m c main_arg2 (ix4 (grid0.coords t 1) 1 d x) by blk_ext [iblk, e2]))
    (congrArg₂ (· * ·) (show iblk m c 1 t (ix3 0 r x) = V m c main_arg1 (ix3 (grid0.coords t 1) (tok (grid0.coords t 0) r) x) by blk_ext [iblk, e1, tok])
      (show iblk m c 3 t (ix4 0 0 d x) = V m c main_arg3 (ix4 (grid0.coords t 1) 1 d x) by blk_ext [iblk, e3]))

/-- The accumulator after the point at position `n`: the terms of the hidden units seen so far. -/
theorem acc (n : ℕ) (hn : n < cfg0.N) (h7 : ¬n % 8 = 7) (r : Fin 1024) (d : Fin 2048) :
    (outsAt0 m c n hn).2 (ix2 r d) = ∑ a ∈ Finset.range (n % 8 + 1), ∑ x : Fin 704, ext (terms m c (tok (tile n hn) r) d) (704 * a + x.val) := by
  have first (t : Fin cfg0.N) (h0 : t.val % 8 = 0) : (outsAt0 m c t.val t.isLt).2 (ix2 r d)
      = ∑ a ∈ Finset.range (t.val % 8 + 1), ∑ x : Fin 704, ext (terms m c (tok (tile t.val t.isLt) r) d) (704 * a + x.val) := by
    rw [outsAt0_A m c t h0 (by omega)]
    dsimp only
    rw [acc_A, added, pay1, zero_add, h0, zero_add, Finset.sum_range_one]
  induction n with
  | zero => exact first ⟨0, hn⟩ rfl
  | succ n ih =>
    by_cases h0 : (n + 1) % 8 = 0
    · exact first ⟨n + 1, hn⟩ h0
    · have e1 : (n + 1) % 8 = n % 8 + 1 := by omega
      have e2 : tile (n + 1) hn = tile n (Nat.lt_of_succ_lt hn) := Fin.ext (by show (n + 1) / 8 = n / 8; omega)
      have e := outsAt0_B m c ⟨n + 1, hn⟩ h0 h7
      refine (congrArg (fun p => p.2 (ix2 r d)) e).trans ?_
      dsimp only
      rw [acc_B, added]
      dsimp only
      rw [e1, e2, Finset.sum_range_succ _ (n % 8 + 1)]
      exact congrArg (· + _) (ih (Nat.lt_of_succ_lt hn) (by omega))

/-- The result after a token tile's last point: the sum over all hidden units. -/
theorem last (t : Fin cfg0.N) (h7 : t.val % 8 = 7) (r : Fin 1024) (d : Fin 2048) :
    (outsAt0 m c t.val t.isLt).1 (ix2 r d) = ∑ f, terms m c (tok (tile t.val t.isLt) r) d f := by
  obtain ⟨n, hn⟩ := t
  cases n with
  | zero => exact absurd h7 (by show ¬0 % 8 = 7; decide)
  | succ n =>
    dsimp only at h7
    have e2 : tile (n + 1) hn = tile n (Nat.lt_of_succ_lt hn) := Fin.ext (by show (n + 1) / 8 = n / 8; omega)
    have e := outsAt0_C m c ⟨n + 1, hn⟩ (by dsimp only; omega) h7
    refine (congrArg (fun p => p.1 (ix2 r d)) e).trans ?_
    dsimp only
    rw [out_C, added]
    dsimp only
    rw [← sum_cut 8 704 rfl, Finset.sum_range_succ _ 7, h7, e2]
    refine congrArg (· + _) ((acc m c n (Nat.lt_of_succ_lt hn) (by omega) r d).trans ?_)
    rw [show n % 8 + 1 = 7 by omega]

/-- The result array. -/
theorem array (r : Fin 8192) (d : Fin 2048) :
    (dats m 0 c).arrAt 4 cfg0.N (ix2 r d) = ∑ f, terms m c r d f := by
  refine congrFun ((dats m 0 c).arrAt_eq_of_covers 4 (fun z => (∑ f, terms m c (z 0) (z 1) f : EReal)) (by decide +kernel) fun t hf y => ?_) (ix2 r d)
  have hf' := (flush0_4 t).mp hf
  obtain ⟨-, -, -, -, e4⟩ := idx t
  blk_simp [e4]
  rw [after0_4]
  have hy : y = ix2 (y 0) (y 1) := eq_ix2 y
  have h0 : (win0_4.blk t).view.emb y 0 = tok (tile t.val t.isLt) (y 0) := by
    rw [← tile_eq]; apply Fin.ext; blk_simp [e4, tok]; exact congrArg (· + _) (Nat.mul_comm _ _)
  have h1 : (win0_4.blk t).view.emb y 1 = y 1 := by apply Fin.ext; blk_simp [e4]
  rw [h0, h1]
  exact (congrArg _ hy).trans (last m c t hf' (y 0) (y 1))

end Cert.Ffn.Hidden

end
-- ==== Proof.HiddenValue.lean ====
/- The gradient of the feed-forward's input: the program and the reference leave the same. -/
module

public import proofs.«01_k».proof.Defs
public import proofs.«01_k».proof.Proof.Hidden
public import proofs.«01_k».proof.Proof.Gen.Reference3Ideal.Run

@[expose] public section

noncomputable section

namespace Cert.Ffn.Hidden

open Idealize.ShloMosaic Idealize.ShloMosaic.TcCoe Idealize.ShloMosaic.Pointwise Idealize.SL.Sem

section

open Cert.Kernel3Ideal Cert.Kernel3Ideal.Gen

/-- Every run ends with the call's result array and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_and ((θ_run defs _ _).mono (fun _ h c => (h c).1 4) (run_main m ρ)) (unchanged m ρ) |> fun h =>
    (θ_run defs _ _).mono (fun _ h c => ⟨h.1 c, h.2 c⟩) h

end

section

open Cert.Reference3Ideal Cert.Reference3Ideal.Gen

/-- The reference's result, from its arguments. -/
theorem ref_read (A B : Vec Ideal S8x8192x704 .bf16) (W X : Vec Ideal S8x2x2048x704 .bf16) (r : Fin 8192) (d : Fin 2048) :
    (truncf .bf16 (addf (Host.dotGeneral dot_S8192x5632_S2048x5632_S8192x2048_1_1_0_0_n_n none (shapeCast _ (transpose S8192x8x704 [1, 0, 2] (extf .f32 B bitsLt_bf16_f32) transposes_S8x8192x704_S8192x8x704_1_0_2) shapeCasts_S8192x8x704_S8192x5632) (shapeCast _ (transpose S2048x8x704 [1, 0, 2] (extf .f32 (shapeCast _ (extractStridedSlice S8x1x2048x704 ![0, 1, 0, 0] X slices_S8x2x2048x704_S8x1x2048x704_0_1_0_0) shapeCasts_S8x1x2048x704_S8x2048x704) bitsLt_bf16_f32) transposes_S8x2048x704_S2048x8x704_1_0_2) shapeCasts_S2048x8x704_S2048x5632))
      (Host.dotGeneral dot_S8192x5632_S2048x5632_S8192x2048_1_1_0_0_n_n none (shapeCast _ (transpose S8192x8x704 [1, 0, 2] (extf .f32 A bitsLt_bf16_f32) transposes_S8x8192x704_S8192x8x704_1_0_2) shapeCasts_S8192x8x704_S8192x5632) (shapeCast _ (transpose S2048x8x704 [1, 0, 2] (extf .f32 (shapeCast _ (extractStridedSlice S8x1x2048x704 ![0, 1, 0, 0] W slices_S8x2x2048x704_S8x1x2048x704_0_1_0_0) shapeCasts_S8x1x2048x704_S8x2048x704) bitsLt_bf16_f32) transposes_S8x2048x704_S2048x8x704_1_0_2) shapeCasts_S2048x8x704_S2048x5632))) bitsLt_bf16_f32 : FVec Ideal S8192x2048 .bf16) (ix2 r d)
      = ∑ f, term A B W X r d f := by
  rw [Finset.sum_add_distrib, add_comm (∑ _, _)]
  pointwise
  rfl

end

/-- The program's gradient is the reference's, whatever the arguments hold. -/
theorem value_claim : Cert.algebraic_Kernel3Ideal_Reference3Ideal (hKernel3Ideal := Cert.Kernel3Ideal.Gen.facts)
    (hReference3Ideal := Cert.Reference3Ideal.Gen.facts) := by
  intro m ρ m' ρ' _ hm
  refine ⟨_, kernel_run m ρ, ?_⟩
  refine (θ_run _ _ _).mono (fun r h c => ?_) (Cert.Reference3Ideal.Value.run m' ρ')
  obtain ⟨e0, e1, e2, e3⟩ := hm c
  obtain ⟨r0, ha⟩ := h c
  refine ⟨r0.trans (funext fun z => ?_), ha⟩
  have hz : z = ix2 (z 0) (z 1) := eq_ix2 z
  rw [hz, e0, e1, e2, e3]
  exact (ref_read _ _ _ _ _ _).trans (array m c _ _).symm

end Cert.Ffn.Hidden

end
-- ==== Proof.WgradIn.lean ====
/- The call that makes the gradients of the feed-forward's two input weights: what it leaves in its results. -/
module

public import proofs.«01_k».proof.Proof.Gen.Kernel4Ideal.Frame
public import proofs.«01_k».proof.Proof.Blocks
public import Idealize.ShloMosaic.Lib.Pipeline.ValueKit
public import Idealize.ShloMosaic.Lib.Pipeline.ValueKit.Point
public import Idealize.ShloMosaic.Lib.Pipeline.ValueKit.Partial

@[expose] public section

noncomputable section

namespace Cert.Ffn.WgradIn

open Idealize.ShloMosaic Idealize.ShloMosaic.TcCoe Cert.Kernel4Ideal Cert.Kernel4Ideal.Gen Idealize.ShloMosaic.Pointwise Cert.Attn

/-- The accumulators start at zero. -/
theorem pay1 (z : S1024x704.Idx) : k0_pay1 (F := Ideal) z = 0 := by
  pointwise [k0_pay1]

/-- What a point adds to an accumulator. -/
theorem pay3 (h : Vec Ideal S1024x1024 .bf16) (v : Vec Ideal S1024x704 .f32) (x : Vec Ideal S1x1024x704 .bf16) (d : Fin 1024) (n : Fin 704) :
    k0_pay3 h v x (ix2 d n) = v (ix2 d n) + ∑ r : Fin 1024, h (ix2 r d) * x (ix3 0 r n) := by
  pointwise [k0_pay3]

/-- A result is its accumulator. -/
theorem pay5 (v : Vec Ideal S1024x704 .f32) (d : Fin 1024) (n : Fin 704) : k0_pay5 v (ix4 0 0 d n) = v (ix2 d n) := by
  pointwise [k0_pay5]

section
variable (c : Dev nD) (i : grid0.Coords) (arg3 : Memref sig .tc .vmem S1024x1024 .bf16) (harg3 : arg3.IsWhole) (arg4 : Memref sig .tc .vmem S1x1024x704 .bf16) (harg4 : arg4.IsWhole)
  (arg5 : Memref sig .tc .vmem S1x1024x704 .bf16) (harg5 : arg5.IsWhole) (arg6 : Memref sig .tc .vmem S1x1x1024x704 .bf16) (harg6 : arg6.IsWhole)
  (arg7 : Memref sig .tc .vmem S1x1x1024x704 .bf16) (harg7 : arg7.IsWhole) (arg8 : Memref sig .tc .vmem S1024x704 .f32) (harg8 : arg8.IsWhole)
  (arg9 : Memref sig .tc .vmem S1024x704 .f32) (harg9 : arg9.IsWhole)
  (x0 : Vec Ideal S1024x1024 .bf16) (x1 x2 : Vec Ideal S1x1024x704 .bf16) (xs0 xs1 : Vec Ideal S1024x704 .f32)

/-- The first accumulator after a block's first point. -/
theorem acc_A0 (hc0 : cond0_0 i) (hc1 : ¬cond0_1 i) :
    sout0_A_0 c i arg3 harg3 arg4 harg4 arg5 harg5 arg6 harg6 arg7 harg7 arg8 harg8 arg9 harg9 hc0 hc1 x0 x1 x2 = k0_pay3 x0 (k0_pay1 (F := Ideal)) x1 := by
  unfold sout0_A_0 kernelRun0_A
  refine (read_writes_whole _ _ _ (by decide) _ _).trans ?_
  unfold kernelRun0_A.sl.v4 kernelRun0_A.sl.HS0_1
  rw [readCov_whole _ _ (by decide), View.readAt_full, View.readAt_full, harg3.read_unread, harg4.read_unread]

/-- The second accumulator after a block's first point. -/
theorem acc_A1 (hc0 : cond0_0 i) (hc1 : ¬cond0_1 i) :
    sout0_A_1 c i arg3 harg3 arg4 harg4 arg5 harg5 arg6 harg6 arg7 harg7 arg8 harg8 arg9 harg9 hc0 hc1 x0 x1 x2 = k0_pay3 x0 (k0_pay1 (F := Ideal)) x2 := by
  unfold sout0_A_1 kernelRun0_A
  refine (read_writes_whole _ _ _ (by decide) _ _).trans ?_
  unfold kernelRun0_A.sl.v12 kernelRun0_A.sl.HS1_1
  rw [readCov_whole _ _ (by decide), View.readAt_full, View.readAt_full, harg3.read_unread, harg5.read_unread]
  rfl

/-- The first accumulator after a middle point. -/
theorem acc_B0 (hc0 : ¬cond0_0 i) (hc1 : ¬cond0_1 i) :
    sout0_B_0 c i arg3 harg3 arg4 harg4 arg5 harg5 arg6 harg6 arg7 harg7 arg8 harg8 arg9 harg9 hc0 hc1 x0 x1 x2 xs0 xs1 = k0_pay3 x0 xs0 x1 := by
  unfold sout0_B_0 kernelRun0_B
  refine (read_writes_whole _ _ _ (by decide) _ _).trans ?_
  rw [View.readAt_full, View.readAt_full, View.readAt_full, harg3.read_unread, harg4.read_unread, harg8.read_unread]

/-- The second accumulator after a middle point. -/
theorem acc_B1 (hc0 : ¬cond0_0 i) (hc1 : ¬cond0_1 i) :
    sout0_B_1 c i arg3 harg3 arg4 harg4 arg5 harg5 arg6 harg6 arg7 harg7 arg8 harg8 arg9 harg9 hc0 hc1 x0 x1 x2 xs0 xs1 = k0_pay3 x0 xs1 x2 := by
  unfold sout0_B_1 kernelRun0_B
  refine (read_writes_whole _ _ _ (by decide) _ _).trans ?_
  rw [View.readAt_full, View.readAt_full, View.readAt_full, harg3.read_unread, harg5.read_unread, harg9.read_unread]
  rfl

/-- The first result after a block's last point. -/
theorem out_C0 (hc0 : ¬cond0_0 i) (hc1 : cond0_1 i) :
    out0_C_3 c i arg3 harg3 arg4 harg4 arg5 harg5 arg6 harg6 arg7 harg7 arg8 harg8 arg9 harg9 hc0 hc1 x0 x1 x2 xs0 xs1 = k0_pay5 (k0_pay3 x0 xs0 x1) := by
  unfold out0_C_3 kernelRun0_C
  refine (read_writes_whole _ _ _ (by decide) _ _).trans ?_
  unfold kernelRun0_C.sl.v23 kernelRun0_C.sl.HS0_1
  rw [readCov_whole _ _ (by decide), View.readAt_full, View.readAt_full, View.readAt_full, harg3.read_unread, harg4.read_unread, harg8.read_unread]

/-- The second result after a block's last point. -/
theorem out_C1 (hc0 : ¬cond0_0 i) (hc1 : cond0_1 i) :
    out0_C_4 c i arg3 harg3 arg4 harg4 arg5 harg5 arg6 harg6 arg7 harg7 arg8 harg8 arg9 harg9 hc0 hc1 x0 x1 x2 xs0 xs1 = k0_pay5 (k0_pay3 x0 xs1 x2) := by
  unfold out0_C_4 kernelRun0_C
  refine (read_writes_whole _ _ _ (by decide) _ _).trans ?_
  unfold kernelRun0_C.sl.v28 kernelRun0_C.sl.HS1_1
  rw [readCov_whole _ _ (by decide), View.readAt_full, View.readAt_full, View.readAt_full, harg3.read_unread, harg5.read_unread, harg9.read_unread]
  rfl
end

/-- Where the windows stand at a grid point. -/
theorem idx : ∀ t : Fin cfg0.N, win0_0.index t = ![(grid0.coords t 2).val, (grid0.coords t 1).val]
    ∧ win0_1.index t = ![(grid0.coords t 0).val, (grid0.coords t 2).val, 0] ∧ win0_2.index t = ![(grid0.coords t 0).val, (grid0.coords t 2).val, 0]
    ∧ win0_3.index t = ![(grid0.coords t 0).val, 1, (grid0.coords t 1).val, 0] ∧ win0_4.index t = ![(grid0.coords t 0).val, 1, (grid0.coords t 1).val, 0] := by
  decide +kernel

variable (m : (ℓ : Loc nD τ sig) → Buf (Elt Ideal) ℓ) (ρ : Dev nD → PrngReg) (c : Dev nD)

/-- The weight block of the grid point at position `n`. -/
def blk (n : ℕ) (hn : n < cfg0.N) : Fin 8 := ⟨n / 16, by have : n < 128 := lt_of_lt_of_eq hn N_0; omega⟩
/-- The half of the weight's rows. -/
def half (n : ℕ) : Fin 2 := ⟨n / 8 % 2, by omega⟩
/-- A row of a half. -/
def row (k : Fin 2) (d : Fin 1024) : Fin 2048 := ⟨1024 * k.val + d.val, by omega⟩

theorem blk_eq (t : Fin cfg0.N) : grid0.coords t 0 = blk t.val t.isLt := by
  have ht : t.val < 128 := lt_of_lt_of_eq t.isLt N_0
  refine Fin.ext ((Pipeline.Grid.coords_val (G := grid0) (S := 16) t 0 (by decide) rfl).trans ?_)
  show t.val / 16 % 8 = t.val / 16
  omega
theorem half_eq (t : Fin cfg0.N) : grid0.coords t 1 = half t.val :=
  Fin.ext (Pipeline.Grid.coords_val (G := grid0) (S := 8) t 1 (by decide) rfl)
theorem tile_eq (t : Fin cfg0.N) : (grid0.coords t 2).val = t.val % 8 := by
  refine (Pipeline.Grid.coords_val (G := grid0) (S := 1) t 2 (by decide) rfl).trans ?_
  show t.val / 1 % 8 = t.val % 8
  omega

/-- One token's term of a product. -/
abbrev term (H : Vec Ideal S8192x2048 .bf16) (A : Vec Ideal S8x8192x704 .bf16) (j : Fin 8) (d : Fin 2048) (n : Fin 704) (r : Fin 8192) : EReal :=
  H (ix2 r d) * A (ix3 j r n)

/-- What a grid point adds, in the tokens' terms. -/
theorem added (t : Fin cfg0.N) (v : Vec Ideal S1024x704 .f32) (A : Vec Ideal S8x8192x704 .bf16) (x : Vec Ideal S1x1024x704 .bf16)
    (hx : ∀ (r : Fin 1024) (n : Fin 704) h, x (ix3 0 r n) = A (ix3 (grid0.coords t 0) ⟨1024 * (grid0.coords t 2).val + r.val, h⟩ n)) (d : Fin 1024) (n : Fin 704) :
    k0_pay3 (iblk m c 0 t) v x (ix2 d n)
      = v (ix2 d n) + ∑ r : Fin 1024, ext (term (V m c main_arg0) A (blk t.val t.isLt) (row (half t.val) d) n) (1024 * (t.val % 8) + r.val) := by
  obtain ⟨e0, -⟩ := idx t
  rw [pay3, ← tile_eq, ← blk_eq, ← half_eq]
  refine congrArg (v (ix2 d n) + ·) (Finset.sum_congr rfl fun r _ => ?_)
  have h8 : (grid0.coords t 2).val < 8 := (grid0.coords t 2).isLt
  rw [ext_eq _ _ (by omega)]
  exact congrArg₂ (· * ·) (show iblk m c 0 t (ix2 r d) = V m c main_arg0 (ix2 ⟨1024 * (grid0.coords t 2).val + r.val, by omega⟩ (row (grid0.coords t 1) d)) by blk_ext [iblk, e0, row]) (hx r n (by omega))

theorem win1 (t : Fin cfg0.N) (r : Fin 1024) (n : Fin 704) (h) :
    iblk m c 1 t (ix3 0 r n) = V m c main_arg1 (ix3 (grid0.coords t 0) ⟨1024 * (grid0.coords t 2).val + r.val, h⟩ n) := by
  obtain ⟨-, e1, -⟩ := idx t
  blk_ext [iblk, e1]
theorem win2 (t : Fin cfg0.N) (r : Fin 1024) (n : Fin 704) (h) :
    iblk m c 2 t (ix3 0 r n) = V m c main_arg2 (ix3 (grid0.coords t 0) ⟨1024 * (grid0.coords t 2).val + r.val, h⟩ n) := by
  obtain ⟨-, -, e2, -⟩ := idx t
  blk_ext [iblk, e2]

/-- What the block at position `p` (of sixteen) adds at its point `a`. -/
def gain (A : Vec Ideal S8x8192x704 .bf16) (d : Fin 1024) (n : Fin 704) (p a : ℕ) : EReal :=
  ∑ r : Fin 1024, ext (term (V m c main_arg0) A ⟨p / 2 % 8, by omega⟩ (row ⟨p % 2, by omega⟩ d) n) (1024 * a + r.val)

theorem gain_eq (A : Vec Ideal S8x8192x704 .bf16) (d : Fin 1024) (n : Fin 704) (k : ℕ) (hk : k < cfg0.N) (a : ℕ) :
    ∑ r : Fin 1024, ext (term (V m c main_arg0) A (blk k hk) (row (half k) d) n) (1024 * a + r.val) = gain m c A d n (k / 8) a := by
  have hk' : k < 128 := lt_of_lt_of_eq hk N_0
  have e : blk k hk = ⟨k / 8 / 2 % 8, by omega⟩ := Fin.ext (by show k / 16 = k / 8 / 2 % 8; omega)
  rw [e]; rfl

/-- The first accumulator after the point at position `k`. -/
theorem acc0 (d : Fin 1024) (n : Fin 704) (k : ℕ) (hk : k < cfg0.N) (h7 : ¬k % 8 = 7) :
    (outsAt0 m c k hk).2.2.1 (ix2 d n) = ∑ a ∈ Finset.range (k % 8 + 1), gain m c (V m c main_arg1) d n (k / 8) a := by
  refine grow (fun k hk => (outsAt0 m c k hk).2.2.1 (ix2 d n)) _ (fun k hk h0 => ?_) (fun k hk h0 h7 => ?_) k hk h7
  · have e := outsAt0_A m c ⟨k, hk⟩ h0 (by dsimp only; omega)
    refine (congrArg (fun p => p.2.2.1 (ix2 d n)) e).trans ?_
    dsimp only
    rw [acc_A0, added m c ⟨k, hk⟩ _ _ _ (win1 m c ⟨k, hk⟩), pay1, zero_add]
    dsimp only
    rw [gain_eq, h0]
  · have e := outsAt0_B m c ⟨k + 1, hk⟩ h0 h7
    refine (congrArg (fun p => p.2.2.1 (ix2 d n)) e).trans ?_
    dsimp only
    rw [acc_B0, added m c ⟨k + 1, hk⟩ _ _ _ (win1 m c ⟨k + 1, hk⟩)]
    dsimp only
    rw [gain_eq]
    rfl

/-- The second accumulator after the point at position `k`. -/
theorem acc1 (d : Fin 1024) (n : Fin 704) (k : ℕ) (hk : k < cfg0.N) (h7 : ¬k % 8 = 7) :
    (outsAt0 m c k hk).2.2.2 (ix2 d n) = ∑ a ∈ Finset.range (k % 8 + 1), gain m c (V m c main_arg2) d n (k / 8) a := by
  refine grow (fun k hk => (outsAt0 m c k hk).2.2.2 (ix2 d n)) _ (fun k hk h0 => ?_) (fun k hk h0 h7 => ?_) k hk h7
  · have e := outsAt0_A m c ⟨k, hk⟩ h0 (by dsimp only; omega)
    refine (congrArg (fun p => p.2.2.2 (ix2 d n)) e).trans ?_
    dsimp only
    rw [acc_A1, added m c ⟨k, hk⟩ _ _ _ (win2 m c ⟨k, hk⟩), pay1, zero_add]
    dsimp only
    rw [gain_eq, h0]
  · have e := outsAt0_B m c ⟨k + 1, hk⟩ h0 h7
    refine (congrArg (fun p => p.2.2.2 (ix2 d n)) e).trans ?_
    dsimp only
    rw [acc_B1, added m c ⟨k + 1, hk⟩ _ _ _ (win2 m c ⟨k + 1, hk⟩)]
    dsimp only
    rw [gain_eq]
    rfl

/-- Eight points' gains are the sum over all tokens. -/
theorem gains (A : Vec Ideal S8x8192x704 .bf16) (d : Fin 1024) (n : Fin 704) (k : ℕ) (hk : k < cfg0.N) :
    ∑ a ∈ Finset.range 7, gain m c A d n (k / 8) a + gain m c A d n (k / 8) 7 = ∑ r, term (V m c main_arg0) A (blk k hk) (row (half k) d) n r := by
  rw [← Finset.sum_range_succ, ← sum_cut 8 1024 rfl]
  exact Finset.sum_congr rfl fun a _ => (gain_eq m c A d n k hk a).symm

/-- The first result after a block's last point. -/
theorem last0 (t : Fin cfg0.N) (h7 : t.val % 8 = 7) (d : Fin 1024) (n : Fin 704) :
    (outsAt0 m c t.val t.isLt).1 (ix4 0 0 d n) = ∑ r, term (V m c main_arg0) (V m c main_arg1) (blk t.val t.isLt) (row (half t.val) d) n r := by
  obtain ⟨k, hk⟩ := t
  cases k with
  | zero => exact absurd h7 (by show ¬0 % 8 = 7; decide)
  | succ k =>
    dsimp only at h7
    have e := outsAt0_C m c ⟨k + 1, hk⟩ (by dsimp only; omega) h7
    refine (congrArg (fun p => p.1 (ix4 0 0 d n)) e).trans ?_
    dsimp only
    rw [out_C0, pay5, added m c ⟨k + 1, hk⟩ _ _ _ (win1 m c ⟨k + 1, hk⟩)]
    dsimp only
    rw [← gains, gain_eq, h7]
    refine congrArg (· + _) ((acc0 m c d n k (Nat.lt_of_succ_lt hk) (by omega)).trans ?_)
    rw [show k % 8 + 1 = 7 by omega, show k / 8 = (k + 1) / 8 by omega]

/-- The second result after a block's last point. -/
theorem last1 (t : Fin cfg0.N) (h7 : t.val % 8 = 7) (d : Fin 1024) (n : Fin 704) :
    (outsAt0 m c t.val t.isLt).2.1 (ix4 0 0 d n) = ∑ r, term (V m c main_arg0) (V m c main_arg2) (blk t.val t.isLt) (row (half t.val) d) n r := by
  obtain ⟨k, hk⟩ := t
  cases k with
  | zero => exact absurd h7 (by show ¬0 % 8 = 7; decide)
  | succ k =>
    dsimp only at h7
    have e := outsAt0_C m c ⟨k + 1, hk⟩ (by dsimp only; omega) h7
    refine (congrArg (fun p => p.2.1 (ix4 0 0 d n)) e).trans ?_
    dsimp only
    rw [out_C1, pay5, added m c ⟨k + 1, hk⟩ _ _ _ (win2 m c ⟨k + 1, hk⟩)]
    dsimp only
    rw [← gains, gain_eq, h7]
    refine congrArg (· + _) ((acc1 m c d n k (Nat.lt_of_succ_lt hk) (by omega)).trans ?_)
    rw [show k % 8 + 1 = 7 by omega, show k / 8 = (k + 1) / 8 by omega]

/-- The written layer of the first result array. -/
theorem array0 (j : Fin 8) (d : Fin 2048) (n : Fin 704) :
    (dats m 0 c).arrAt 3 cfg0.N (ix4 j 1 d n) = ∑ r, term (V m c main_arg0) (V m c main_arg1) j d n r := by
  refine ((dats m 0 c).arrAt_apply_of_coversWhere 3 (fun z => (∑ r, term (V m c main_arg0) (V m c main_arg1) (z 0) (z 2) (z 3) r : EReal))
    (P := fun z => (z 1).val = 1) (fun k => k 1 = 1) (by decide +kernel) (fun t hf y => ?_) (fun z => ?_) (ix4 j 1 d n)).trans (if_pos rfl)
  · have hf' := (flush0_3 t).mp hf
    obtain ⟨-, -, -, e3, -⟩ := idx t
    blk_simp [e3]
    rw [after0_3]
    have hy : y = ix4 0 0 (y 2) (y 3) := by blk_ext
    have h0 : (win0_3.blk t).view.emb y 0 = blk t.val t.isLt := by
      rw [← blk_eq]; apply Fin.ext; blk_simp [e3]
    have h2 : (win0_3.blk t).view.emb y 2 = row (half t.val) (y 2) := by
      rw [← half_eq]; apply Fin.ext; blk_simp [e3, row]; exact congrArg (· + _) (Nat.mul_comm _ _)
    have h3 : (win0_3.blk t).view.emb y 3 = y 3 := by apply Fin.ext; blk_simp [e3]
    rw [h0, h2, h3]
    exact (congrArg _ hy).trans (last0 m c t hf' (y 2) (y 3))
  · show (z 1).val = 1 ↔ (z 1).val / 1 = 1
    rw [Nat.div_one]

/-- The written layer of the second result array. -/
theorem array1 (j : Fin 8) (d : Fin 2048) (n : Fin 704) :
    (dats m 0 c).arrAt 4 cfg0.N (ix4 j 1 d n) = ∑ r, term (V m c main_arg0) (V m c main_arg2) j d n r := by
  refine ((dats m 0 c).arrAt_apply_of_coversWhere 4 (fun z => (∑ r, term (V m c main_arg0) (V m c main_arg2) (z 0) (z 2) (z 3) r : EReal))
    (P := fun z => (z 1).val = 1) (fun k => k 1 = 1) (by decide +kernel) (fun t hf y => ?_) (fun z => ?_) (ix4 j 1 d n)).trans (if_pos rfl)
  · have hf' := (flush0_4 t).mp hf
    obtain ⟨-, -, -, -, e4⟩ := idx t
    blk_simp [e4]
    rw [after0_4]
    have hy : y = ix4 0 0 (y 2) (y 3) := by blk_ext
    have h0 : (win0_4.blk t).view.emb y 0 = blk t.val t.isLt := by
      rw [← blk_eq]; apply Fin.ext; blk_simp [e4]
    have h2 : (win0_4.blk t).view.emb y 2 = row (half t.val) (y 2) := by
      rw [← half_eq]; apply Fin.ext; blk_simp [e4, row]; exact congrArg (· + _) (Nat.mul_comm _ _)
    have h3 : (win0_4.blk t).view.emb y 3 = y 3 := by apply Fin.ext; blk_simp [e4]
    rw [h0, h2, h3]
    exact (congrArg _ hy).trans (last1 m c t hf' (y 2) (y 3))
  · show (z 1).val = 1 ↔ (z 1).val / 1 = 1
    rw [Nat.div_one]

/-- The first result when the program ends. -/
theorem exit0 (j : Fin 8) (d : Fin 2048) (n : Fin 704) :
    Pipeline.afterTail₀ cfgs (dats m) 0 (V0 m) [hostOps1] c main_v2 (ix3 j d n)
      = ∑ r, term (m ((c.tc : Thread nD τ).loc main_arg0)) (m ((c.tc : Thread nD τ).loc main_arg1)) j d n r := by
  refine Eq.trans ?_ (array0 m c j d n)
  show StableHlo.after hostOps1 _ (Proc.devRef .tc main_v2) (ix3 j d n) = _
  entry_read
  pointwise
  exact congrFun (Pipeline.withArrays_arr spec0 (by decide) c (V0 m c) (fun w => (dats m 0 c).arrAt w cfg0.N) 3) (ix4 j 1 d n)

/-- The second result when the program ends. -/
theorem exit1 (j : Fin 8) (d : Fin 2048) (n : Fin 704) :
    Pipeline.afterTail₀ cfgs (dats m) 0 (V0 m) [hostOps1] c main_v4 (ix3 j d n)
      = ∑ r, term (m ((c.tc : Thread nD τ).loc main_arg0)) (m ((c.tc : Thread nD τ).loc main_arg2)) j d n r := by
  refine Eq.trans ?_ (array1 m c j d n)
  show StableHlo.after hostOps1 _ (Proc.devRef .tc main_v4) (ix3 j d n) = _
  entry_read
  pointwise
  exact congrFun (Pipeline.withArrays_arr spec0 (by decide) c (V0 m c) (fun w => (dats m 0 c).arrAt w cfg0.N) 4) (ix4 j 1 d n)

end Cert.Ffn.WgradIn

end
-- ==== Proof.WgradInValue.lean ====
/- The gradients of the feed-forward's two input weights: the program and the reference leave the same. -/
module

public import proofs.«01_k».proof.Defs
public import proofs.«01_k».proof.Proof.WgradIn
public import proofs.«01_k».proof.Proof.Gen.Reference4Ideal.Run

@[expose] public section

noncomputable section

namespace Cert.Ffn.WgradIn

open Idealize.ShloMosaic Idealize.ShloMosaic.TcCoe Idealize.ShloMosaic.Pointwise Idealize.SL.Sem

section

open Cert.Kernel4Ideal Cert.Kernel4Ideal.Gen

/-- Every run ends with the gradients at what the host lines after the call read of its results, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = Pipeline.afterTail₀ cfgs (dats m) 0 (V0 m) [hostOps1] c main_v2
      ∧ r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and (run_main m ρ) (unchanged m ρ) |> fun h =>
    (θ_run defs _ _).mono (fun _ h c => ⟨(h.1 c).2 main_v2 (by decide), (h.1 c).2 main_v4 (by decide), h.2 c⟩) h

end

section

open Cert.Reference4Ideal Cert.Reference4Ideal.Gen

/-- One of the reference's results, from the arguments it is made of. -/
theorem ref_read (H : Vec Ideal S8192x2048 .bf16) (A : Vec Ideal S8x8192x704 .bf16) (j : Fin 8) (d : Fin 2048) (n : Fin 704) :
    (truncf .bf16 (transpose S8x2048x704 [1, 0, 2] (shapeCast _ (transpose S2048x5632 [1, 0] (Host.dotGeneral dot_S8192x5632_S8192x2048_S5632x2048_0_0_1_1_n_n none (shapeCast _ (transpose S8192x8x704 [1, 0, 2] (extf .f32 A bitsLt_bf16_f32) transposes_S8x8192x704_S8192x8x704_1_0_2) shapeCasts_S8192x8x704_S8192x5632) (extf .f32 H bitsLt_bf16_f32)) transposes_S5632x2048_S2048x5632_1_0) shapeCasts_S2048x5632_S2048x8x704) transposes_S2048x8x704_S8x2048x704_1_0_2) bitsLt_bf16_f32 : FVec Ideal S8x2048x704 .bf16) (ix3 j d n)
      = ∑ r, term H A j d n r := by
  pointwise
  exact Finset.sum_congr rfl fun r _ => mul_comm _ _

end

/-- The program's gradients are the reference's, whatever the arguments hold. -/
theorem value_claim : Cert.algebraic_Kernel4Ideal_Reference4Ideal (hKernel4Ideal := Cert.Kernel4Ideal.Gen.facts)
    (hReference4Ideal := Cert.Reference4Ideal.Gen.facts) := by
  intro m ρ m' ρ' _ hm
  refine ⟨_, _, kernel_run m ρ, ?_⟩
  refine (θ_run _ _ _).mono (fun r h c => ?_) (Cert.Reference4Ideal.Value.run m' ρ')
  obtain ⟨e0, e1, e2⟩ := hm c
  obtain ⟨r0, r1, ha⟩ := h c
  refine ⟨r0.trans (funext fun z => ?_), r1.trans (funext fun z => ?_), ha⟩
  · have hz : z = ix3 (z 0) (z 1) (z 2) := eq_ix3 z
    rw [hz, e0, e1]
    exact (ref_read _ _ _ _ _).trans (exit0 m c _ _ _).symm
  · have hz : z = ix3 (z 0) (z 1) (z 2) := eq_ix3 z
    rw [hz, e0, e2]
    exact (ref_read _ _ _ _ _).trans (exit1 m c _ _ _).symm

end Cert.Ffn.WgradIn

end
-- ==== Proof.WgradOut.lean ====
/- The call that makes the gradient of the feed-forward's output weight: what it leaves in its result. -/
module

public import proofs.«01_k».proof.Proof.Gen.Kernel5Ideal.Frame
public import proofs.«01_k».proof.Proof.Blocks
public import Idealize.ShloMosaic.Lib.Pipeline.ValueKit
public import Idealize.ShloMosaic.Lib.Pipeline.ValueKit.Point
public import Idealize.ShloMosaic.Lib.Pipeline.ValueKit.Partial

@[expose] public section

noncomputable section

namespace Cert.Ffn.WgradOut

open Idealize.ShloMosaic Idealize.ShloMosaic.TcCoe Cert.Kernel5Ideal Cert.Kernel5Ideal.Gen Idealize.ShloMosaic.Pointwise Cert.Attn

/-- The accumulator starts at zero. -/
theorem pay1 (z : S704x2048.Idx) : k0_pay1 (F := Ideal) z = 0 := by
  pointwise [k0_pay1]

/-- What a point adds to the accumulator. -/
theorem pay2 (v : Vec Ideal S704x2048 .f32) (x0 : Vec Ideal S1x1024x704 .bf16) (x1 : Vec Ideal S1024x2048 .bf16) (n : Fin 704) (d : Fin 2048) :
    k0_pay2 v x0 x1 (ix2 n d) = v (ix2 n d) + ∑ r : Fin 1024, x0 (ix3 0 r n) * x1 (ix2 r d) := by
  pointwise [k0_pay2]

/-- The result is half the accumulator. -/
theorem pay3 (v : Vec Ideal S704x2048 .f32) (n : Fin 704) (d : Fin 2048) :
    k0_pay3 v (ix4 0 0 n d) = ((1 / 2 : ℝ) : EReal) * v (ix2 n d) := by
  pointwise [k0_pay3]
  rw [← ofBits_half]

section
variable (c : Dev nD) (i : grid0.Coords) (arg2 : Memref sig .tc .vmem S1x1024x704 .bf16) (harg2 : arg2.IsWhole) (arg3 : Memref sig .tc .vmem S1024x2048 .bf16) (harg3 : arg3.IsWhole)
  (arg4 : Memref sig .tc .vmem S1x1x704x2048 .bf16) (harg4 : arg4.IsWhole) (arg5 : Memref sig .tc .vmem S704x2048 .f32) (harg5 : arg5.IsWhole)
  (x0 : Vec Ideal S1x1024x704 .bf16) (x1 : Vec Ideal S1024x2048 .bf16) (xs0 : Vec Ideal S704x2048 .f32)

/-- The accumulator after a weight block's first point. -/
theorem acc_A (hc0 : cond0_0 i) (hc1 : ¬cond0_1 i) :
    sout0_A_0 c i arg2 harg2 arg3 harg3 arg4 harg4 arg5 harg5 hc0 hc1 x0 x1 = k0_pay2 k0_pay1 x0 x1 := by
  unfold sout0_A_0 kernelRun0_A
  refine (read_writes_whole _ _ _ (by decide) _ _).trans ?_
  unfold kernelRun0_A.sl.v3 kernelRun0_A.sl.HS0_1
  rw [readCov_whole _ _ (by decide), View.readAt_full, View.readAt_full, harg2.read_unread, harg3.read_unread]

/-- The accumulator after a middle point. -/
theorem acc_B (hc0 : ¬cond0_0 i) (hc1 : ¬cond0_1 i) :
    sout0_B_0 c i arg2 harg2 arg3 harg3 arg4 harg4 arg5 harg5 hc0 hc1 x0 x1 xs0 = k0_pay2 xs0 x0 x1 := by
  unfold sout0_B_0 kernelRun0_B
  refine (read_writes_whole _ _ _ (by decide) _ _).trans ?_
  rw [View.readAt_full, View.readAt_full, View.readAt_full, harg2.read_unread, harg3.read_unread, harg5.read_unread]

/-- The result after a weight block's last point. -/
theorem out_C (hc0 : ¬cond0_0 i) (hc1 : cond0_1 i) :
    out0_C_2 c i arg2 harg2 arg3 harg3 arg4 harg4 arg5 harg5 hc0 hc1 x0 x1 xs0 = k0_pay3 (k0_pay2 xs0 x0 x1) := by
  unfold out0_C_2 kernelRun0_C
  refine (read_writes_whole _ _ _ (by decide) _ _).trans ?_
  unfold kernelRun0_C.sl.v15 kernelRun0_C.sl.HS0_1
  rw [readCov_whole _ _ (by decide), View.readAt_full, View.readAt_full, View.readAt_full, harg2.read_unread, harg3.read_unread, harg5.read_unread]
end

/-- Where the windows stand at a grid point. -/
theorem idx : ∀ t : Fin cfg0.N, win0_0.index t = ![(grid0.coords t 0).val, (grid0.coords t 1).val, 0] ∧ win0_1.index t = ![(grid0.coords t 1).val, 0]
    ∧ win0_2.index t = ![(grid0.coords t 0).val, 1, 0, 0] := by
  decide +kernel

variable (m : (ℓ : Loc nD τ sig) → Buf (Elt Ideal) ℓ) (ρ : Dev nD → PrngReg) (c : Dev nD)

/-- The weight block of the grid point at position `n`. -/
def blk (n : ℕ) (hn : n < cfg0.N) : Fin 8 := ⟨n / 8, by have : n < 64 := lt_of_lt_of_eq hn N_0; omega⟩

theorem blk_eq (t : Fin cfg0.N) : grid0.coords t 0 = blk t.val t.isLt := by
  have ht : t.val < 64 := lt_of_lt_of_eq t.isLt N_0
  refine Fin.ext ((Pipeline.Grid.coords_val (G := grid0) (S := 8) t 0 (by decide) rfl).trans ?_)
  show t.val / 8 % 8 = t.val / 8
  omega
theorem tile_eq (t : Fin cfg0.N) : (grid0.coords t 1).val = t.val % 8 := by
  refine (Pipeline.Grid.coords_val (G := grid0) (S := 1) t 1 (by decide) rfl).trans ?_
  show t.val / 1 % 8 = t.val % 8
  omega

/-- One token's term of the product. -/
abbrev term (A : Vec Ideal S8x8192x704 .bf16) (B : Vec Ideal S8192x2048 .bf16) (j : Fin 8) (n : Fin 704) (d : Fin 2048) (r : Fin 8192) : EReal :=
  A (ix3 j r n) * B (ix2 r d)

/-- What a grid point adds, in the tokens' terms. -/
theorem added (t : Fin cfg0.N) (v : Vec Ideal S704x2048 .f32) (n : Fin 704) (d : Fin 2048) :
    k0_pay2 v (iblk m c 0 t) (iblk m c 1 t) (ix2 n d)
      = v (ix2 n d) + ∑ x : Fin 1024, ext (term (V m c main_arg0) (V m c main_arg1) (blk t.val t.isLt) n d) (1024 * (t.val % 8) + x.val) := by
  obtain ⟨e0, e1, -⟩ := idx t
  rw [pay2, ← tile_eq, ← blk_eq]
  refine congrArg (v (ix2 n d) + ·) (Finset.sum_congr rfl fun x _ => ?_)
  have h8 : (grid0.coords t 1).val < 8 := (grid0.coords t 1).isLt
  rw [ext_eq _ _ (by omega)]
  exact congrArg₂ (· * ·) (show iblk m c 0 t (ix3 0 x n) = V m c main_arg0 (ix3 (grid0.coords t 0) ⟨1024 * (grid0.coords t 1).val + x.val, by omega⟩ n) by blk_ext [iblk, e0])
    (show iblk m c 1 t (ix2 x d) = V m c main_arg1 (ix2 ⟨1024 * (grid0.coords t 1).val + x.val, by omega⟩ d) by blk_ext [iblk, e1])

/-- The accumulator after the point at position `n`: the terms of the tokens seen so far. -/
theorem acc (n : ℕ) (hn : n < cfg0.N) (h7 : ¬n % 8 = 7) (u : Fin 704) (d : Fin 2048) :
    (outsAt0 m c n hn).2 (ix2 u d)
      = ∑ a ∈ Finset.range (n % 8 + 1), ∑ x : Fin 1024, ext (term (V m c main_arg0) (V m c main_arg1) (blk n hn) u d) (1024 * a + x.val) := by
  have first (t : Fin cfg0.N) (h0 : t.val % 8 = 0) : (outsAt0 m c t.val t.isLt).2 (ix2 u d)
      = ∑ a ∈ Finset.range (t.val % 8 + 1), ∑ x : Fin 1024, ext (term (V m c main_arg0) (V m c main_arg1) (blk t.val t.isLt) u d) (1024 * a + x.val) := by
    rw [outsAt0_A m c t h0 (by omega)]
    dsimp only
    rw [acc_A, added, pay1, zero_add, h0, zero_add, Finset.sum_range_one]
  induction n with
  | zero => exact first ⟨0, hn⟩ rfl
  | succ n ih =>
    by_cases h0 : (n + 1) % 8 = 0
    · exact first ⟨n + 1, hn⟩ h0
    · have e1 : (n + 1) % 8 = n % 8 + 1 := by omega
      have e2 : blk (n + 1) hn = blk n (Nat.lt_of_succ_lt hn) := Fin.ext (by show (n + 1) / 8 = n / 8; omega)
      have e := outsAt0_B m c ⟨n + 1, hn⟩ h0 h7
      refine (congrArg (fun p => p.2 (ix2 u d)) e).trans ?_
      dsimp only
      rw [acc_B, added]
      dsimp only
      rw [e1, e2, Finset.sum_range_succ _ (n % 8 + 1)]
      exact congrArg (· + _) (ih (Nat.lt_of_succ_lt hn) (by omega))

/-- The result after a weight block's last point: half the sum over all tokens. -/
theorem last (t : Fin cfg0.N) (h7 : t.val % 8 = 7) (u : Fin 704) (d : Fin 2048) :
    (outsAt0 m c t.val t.isLt).1 (ix4 0 0 u d) = ((1 / 2 : ℝ) : EReal) * ∑ r, term (V m c main_arg0) (V m c main_arg1) (blk t.val t.isLt) u d r := by
  obtain ⟨n, hn⟩ := t
  cases n with
  | zero => exact absurd h7 (by show ¬0 % 8 = 7; decide)
  | succ n =>
    dsimp only at h7
    have e2 : blk (n + 1) hn = blk n (Nat.lt_of_succ_lt hn) := Fin.ext (by show (n + 1) / 8 = n / 8; omega)
    have e := outsAt0_C m c ⟨n + 1, hn⟩ (by dsimp only; omega) h7
    refine (congrArg (fun p => p.1 (ix4 0 0 u d)) e).trans ?_
    dsimp only
    rw [out_C, pay3, added]
    dsimp only
    refine congrArg (((1 / 2 : ℝ) : EReal) * ·) ?_
    rw [← sum_cut 8 1024 rfl, Finset.sum_range_succ _ 7, h7, e2]
    refine congrArg (· + _) ((acc m c n (Nat.lt_of_succ_lt hn) (by omega) u d).trans ?_)
    rw [show n % 8 + 1 = 7 by omega]

/-- The written layer of the result array. -/
theorem array (j : Fin 8) (u : Fin 704) (d : Fin 2048) :
    (dats m 0 c).arrAt 2 cfg0.N (ix4 j 1 u d) = ((1 / 2 : ℝ) : EReal) * ∑ r, term (V m c main_arg0) (V m c main_arg1) j u d r := by
  refine ((dats m 0 c).arrAt_apply_of_coversWhere 2 (fun z => ((1 / 2 : ℝ) : EReal) * ∑ r, term (V m c main_arg0) (V m c main_arg1) (z 0) (z 2) (z 3) r)
    (P := fun z => (z 1).val = 1) (fun k => k 1 = 1) (by decide +kernel) (fun t hf y => ?_) (fun z => ?_) (ix4 j 1 u d)).trans (if_pos rfl)
  · have hf' := (flush0_2 t).mp hf
    obtain ⟨-, -, e2⟩ := idx t
    blk_simp [e2]
    rw [after0_2]
    have hy : y = ix4 0 0 (y 2) (y 3) := by blk_ext
    have h0 : (win0_2.blk t).view.emb y 0 = blk t.val t.isLt := by
      rw [← blk_eq]; apply Fin.ext; blk_simp [e2]
    have h2 : (win0_2.blk t).view.emb y 2 = y 2 := by apply Fin.ext; blk_simp [e2]
    have h3 : (win0_2.blk t).view.emb y 3 = y 3 := by apply Fin.ext; blk_simp [e2]
    rw [h0, h2, h3]
    exact (congrArg _ hy).trans (last m c t hf' (y 2) (y 3))
  · show (z 1).val = 1 ↔ (z 1).val / 1 = 1
    rw [Nat.div_one]

/-- The result when the program ends. -/
theorem exit (j : Fin 8) (u : Fin 704) (d : Fin 2048) :
    Pipeline.afterTail₀ cfgs (dats m) 0 (V0 m) [hostOps1] c main_v2 (ix3 j u d)
      = ((1 / 2 : ℝ) : EReal) * ∑ r, term (m ((c.tc : Thread nD τ).loc main_arg0)) (m ((c.tc : Thread nD τ).loc main_arg1)) j u d r := by
  refine Eq.trans ?_ (array m c j u d)
  show StableHlo.after hostOps1 _ (Proc.devRef .tc main_v2) (ix3 j u d) = _
  entry_read
  pointwise
  exact congrFun (Pipeline.withArrays_arr spec0 (by decide) c (V0 m c) (fun w => (dats m 0 c).arrAt w cfg0.N) 2) (ix4 j 1 u d)

end Cert.Ffn.WgradOut

end
-- ==== Proof.WgradOutValue.lean ====
/- The gradient of the feed-forward's output weight: the program and the reference leave the same. -/
module

public import proofs.«01_k».proof.Defs
public import proofs.«01_k».proof.Proof.WgradOut
public import proofs.«01_k».proof.Proof.Gen.Reference5Ideal.Run

@[expose] public section

noncomputable section

namespace Cert.Ffn.WgradOut

open Idealize.ShloMosaic Idealize.ShloMosaic.TcCoe Idealize.ShloMosaic.Pointwise Idealize.SL.Sem

section

open Cert.Kernel5Ideal Cert.Kernel5Ideal.Gen

/-- Every run ends with the gradient at what the host lines after the call read of its result, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_and ((θ_run defs _ _).mono (fun _ h c => (h c).2 main_v2 (by decide)) (run_main m ρ)) (unchanged m ρ) |> fun h =>
    (θ_run defs _ _).mono (fun _ h c => ⟨h.1 c, h.2 c⟩) h

end

section

open Cert.Reference5Ideal Cert.Reference5Ideal.Gen

/-- The reference's result, from its two arguments. -/
theorem ref_read (A : Vec Ideal S8x8192x704 .bf16) (B : Vec Ideal S8192x2048 .bf16) (j : Fin 8) (u : Fin 704) (d : Fin 2048) :
    (truncf .bf16 (shapeCast S8x704x2048 (transpose S5632x2048 [1, 0] (Host.dotGeneral dot_S8192x2048_S8192x5632_S2048x5632_0_0_1_1_n_n none
      (mulf (broadcastInDim S8192x2048 ![] bcast_S_S8192x2048 (constant S_ .f32 0x3F000000#32)) (extf .f32 B bitsLt_bf16_f32))
      (shapeCast S8192x5632 (transpose S8192x8x704 [1, 0, 2] (extf .f32 A bitsLt_bf16_f32) transposes_S8x8192x704_S8192x8x704_1_0_2) shapeCasts_S8192x8x704_S8192x5632))
      transposes_S2048x5632_S5632x2048_1_0) shapeCasts_S5632x2048_S8x704x2048) bitsLt_bf16_f32 : FVec Ideal S8x704x2048 .bf16) (ix3 j u d)
      = ((1 / 2 : ℝ) : EReal) * ∑ r, term A B j u d r := by
  pointwise
  rw [ofBits_half, mul_sum _ (by norm_num)]
  refine Finset.sum_congr rfl fun r _ => ?_
  rw [mul_assoc, mul_comm (B _)]

end

/-- The program's gradient is the reference's, whatever the arguments hold. -/
theorem value_claim : Cert.algebraic_Kernel5Ideal_Reference5Ideal (hKernel5Ideal := Cert.Kernel5Ideal.Gen.facts)
    (hReference5Ideal := Cert.Reference5Ideal.Gen.facts) := by
  intro m ρ m' ρ' _ hm
  refine ⟨_, kernel_run m ρ, ?_⟩
  refine (θ_run _ _ _).mono (fun r h c => ?_) (Cert.Reference5Ideal.Value.run m' ρ')
  obtain ⟨e0, e1⟩ := hm c
  obtain ⟨r0, ha⟩ := h c
  refine ⟨r0.trans (funext fun z => ?_), ha⟩
  have hz : z = ix3 (z 0) (z 1) (z 2) := eq_ix3 z
  rw [hz, e0, e1]
  exact (ref_read _ _ _ _ _).trans (exit m c _ _ _).symm

end Cert.Ffn.WgradOut

end
-- ==== Proof.Down.lean ====
/- The call that makes the feed-forward's output and adds half of it to the residual: what it leaves in its result. -/
module

public import proofs.«01_k».proof.Proof.Gen.Kernel6Ideal.Frame
public import proofs.«01_k».proof.Proof.Blocks
public import Idealize.ShloMosaic.Lib.Pipeline.ValueKit
public import Idealize.ShloMosaic.Lib.Pipeline.ValueKit.Point
public import Idealize.ShloMosaic.Lib.Pipeline.ValueKit.Partial

@[expose] public section

noncomputable section

namespace Cert.Ffn.Down

open Idealize.ShloMosaic Idealize.ShloMosaic.TcCoe Cert.Kernel6Ideal Cert.Kernel6Ideal.Gen Idealize.ShloMosaic.Pointwise Cert.Attn

/-- The accumulator starts at zero. -/
theorem pay1 (z : S1024x1024.Idx) : k0_pay1 (F := Ideal) z = 0 := by
  pointwise [k0_pay1]

/-- What a point adds to the accumulator. -/
theorem pay2 (v : Vec Ideal S1024x1024 .f32) (x0 : Vec Ideal S1x1024x704 .bf16) (x1 : Vec Ideal S1x1x704x1024 .bf16) (r d : Fin 1024) :
    k0_pay2 v x0 x1 (ix2 r d) = v (ix2 r d) + ∑ n : Fin 704, x0 (ix3 0 r n) * x1 (ix4 0 0 n d) := by
  pointwise [k0_pay2]

/-- The result is the residual and half the accumulator. -/
theorem pay3 (x v : Vec Ideal S1024x1024 .f32) (z : S1024x1024.Idx) : k0_pay3 x v z = x z + ((1 / 2 : ℝ) : EReal) * v z := by
  rw [← ofBits_half]
  pointwise [k0_pay3]

section
variable (c : Dev nD) (i : grid0.Coords) (arg3 : Memref sig .tc .vmem S1x1024x704 .bf16) (harg3 : arg3.IsWhole) (arg4 : Memref sig .tc .vmem S1x1x704x1024 .bf16) (harg4 : arg4.IsWhole)
  (arg5 : Memref sig .tc .vmem S1024x1024 .f32) (harg5 : arg5.IsWhole) (arg6 : Memref sig .tc .vmem S1024x1024 .f32) (harg6 : arg6.IsWhole)
  (arg7 : Memref sig .tc .vmem S1024x1024 .f32) (harg7 : arg7.IsWhole)
  (x0 : Vec Ideal S1x1024x704 .bf16) (x1 : Vec Ideal S1x1x704x1024 .bf16) (x2 xs0 : Vec Ideal S1024x1024 .f32)

/-- The accumulator after a block's first point. -/
theorem acc_A (hc0 : cond0_0 i) (hc1 : ¬cond0_1 i) :
    sout0_A_0 c i arg3 harg3 arg4 harg4 arg5 harg5 arg6 harg6 arg7 harg7 hc0 hc1 x0 x1 x2 = k0_pay2 k0_pay1 x0 x1 := by
  unfold sout0_A_0 kernelRun0_A
  refine (read_writes_whole _ _ _ (by decide) _ _).trans ?_
  unfold kernelRun0_A.sl.v3 kernelRun0_A.sl.HS0_1
  rw [readCov_whole _ _ (by decide), View.readAt_full, View.readAt_full, harg3.read_unread, harg4.read_unread]

/-- The accumulator after a middle point. -/
theorem acc_B (hc0 : ¬cond0_0 i) (hc1 : ¬cond0_1 i) :
    sout0_B_0 c i arg3 harg3 arg4 harg4 arg5 harg5 arg6 harg6 arg7 harg7 hc0 hc1 x0 x1 x2 xs0 = k0_pay2 xs0 x0 x1 := by
  unfold sout0_B_0 kernelRun0_B
  refine (read_writes_whole _ _ _ (by decide) _ _).trans ?_
  rw [View.readAt_full, View.readAt_full, View.readAt_full, harg3.read_unread, harg4.read_unread, harg7.read_unread]

/-- The result after a block's last point. -/
theorem out_C (hc0 : ¬cond0_0 i) (hc1 : cond0_1 i) :
    out0_C_3 c i arg3 harg3 arg4 harg4 arg5 harg5 arg6 harg6 arg7 harg7 hc0 hc1 x0 x1 x2 xs0 = k0_pay3 x2 (k0_pay2 xs0 x0 x1) := by
  unfold out0_C_3 kernelRun0_C
  refine (read_writes_whole _ _ _ (by decide) _ _).trans ?_
  unfold kernelRun0_C.sl.v17 kernelRun0_C.sl.HS0_1
  rw [readCov_whole _ _ (by decide), View.readAt_full, View.readAt_full, View.readAt_full, View.readAt_full,
    harg3.read_unread, harg4.read_unread, harg5.read_unread, harg7.read_unread]
end

/-- Where the windows stand at a grid point. -/
theorem idx : ∀ t : Fin cfg0.N, win0_0.index t = ![(grid0.coords t 2).val, (grid0.coords t 0).val, 0]
    ∧ win0_1.index t = ![(grid0.coords t 2).val, 1, 0, (grid0.coords t 1).val] ∧ win0_2.index t = ![(grid0.coords t 0).val, (grid0.coords t 1).val]
    ∧ win0_3.index t = ![(grid0.coords t 0).val, (grid0.coords t 1).val] := by
  decide +kernel

variable (m : (ℓ : Loc nD τ sig) → Buf (Elt Ideal) ℓ) (ρ : Dev nD → PrngReg) (c : Dev nD)

/-- The token tile of the grid point at position `n`. -/
def tile (n : ℕ) (hn : n < cfg0.N) : Fin 8 := ⟨n / 16, by have : n < 128 := lt_of_lt_of_eq hn N_0; omega⟩
/-- The half of the output's columns. -/
def half (n : ℕ) : Fin 2 := ⟨n / 8 % 2, by omega⟩
/-- A token of a tile. -/
def tok (i : Fin 8) (r : Fin 1024) : Fin 8192 := ⟨1024 * i.val + r.val, by omega⟩
/-- A column of a half. -/
def col (k : Fin 2) (d : Fin 1024) : Fin 2048 := ⟨1024 * k.val + d.val, by omega⟩

theorem tile_eq (t : Fin cfg0.N) : grid0.coords t 0 = tile t.val t.isLt := by
  have ht : t.val < 128 := lt_of_lt_of_eq t.isLt N_0
  refine Fin.ext ((Pipeline.Grid.coords_val (G := grid0) (S := 16) t 0 (by decide) rfl).trans ?_)
  show t.val / 16 % 8 = t.val / 16
  omega
theorem half_eq (t : Fin cfg0.N) : grid0.coords t 1 = half t.val :=
  Fin.ext (Pipeline.Grid.coords_val (G := grid0) (S := 8) t 1 (by decide) rfl)
theorem blk_eq (t : Fin cfg0.N) : (grid0.coords t 2).val = t.val % 8 := by
  refine (Pipeline.Grid.coords_val (G := grid0) (S := 1) t 2 (by decide) rfl).trans ?_
  show t.val / 1 % 8 = t.val % 8
  omega

/-- One hidden unit's term of the product. -/
abbrev term (A : Vec Ideal S8x8192x704 .bf16) (W : Vec Ideal S8x2x704x2048 .bf16) (r : Fin 8192) (d : Fin 2048) (f : Fin 5632) : EReal :=
  A (ix3 (f.divNat (m := 8) (n := 704)) r (f.modNat (m := 8) (n := 704))) * W (ix4 (f.divNat (m := 8) (n := 704)) 1 (f.modNat (m := 8) (n := 704)) d)

/-- The residual and half the product. -/
abbrev total (A : Vec Ideal S8x8192x704 .bf16) (W : Vec Ideal S8x2x704x2048 .bf16) (X : Vec Ideal S8192x2048 .f32) (r : Fin 8192) (d : Fin 2048) : EReal :=
  X (ix2 r d) + ((1 / 2 : ℝ) : EReal) * ∑ f, term A W r d f

/-- The terms of one device's arguments. -/
abbrev terms (r : Fin 8192) (d : Fin 2048) : Fin 5632 → EReal := term (V m c main_arg0) (V m c main_arg1) r d

/-- What a grid point adds, in the hidden units' terms. -/
theorem added (t : Fin cfg0.N) (v : Vec Ideal S1024x1024 .f32) (r d : Fin 1024) :
    k0_pay2 v (iblk m c 0 t) (iblk m c 1 t) (ix2 r d)
      = v (ix2 r d) + ∑ x : Fin 704, ext (terms m c (tok (tile t.val t.isLt) r) (col (half t.val) d)) (704 * (t.val % 8) + x.val) := by
  obtain ⟨e0, e1, -⟩ := idx t
  rw [pay2, ← blk_eq, ← tile_eq, ← half_eq]
  refine congrArg (v (ix2 r d) + ·) (Finset.sum_congr rfl fun x _ => ?_)
  have h8 : (grid0.coords t 2).val < 8 := (grid0.coords t 2).isLt
  rw [ext_eq _ _ (by omega)]
  have ed : Fin.divNat (m := 8) (n := 704) ⟨704 * (grid0.coords t 2).val + x.val, by omega⟩ = grid0.coords t 2 := Fin.ext (by simp only [Fin.coe_divNat]; omega)
  have em : Fin.modNat (m := 8) (n := 704) ⟨704 * (grid0.coords t 2).val + x.val, by omega⟩ = x := Fin.ext (by simp only [Fin.coe_modNat]; omega)
  simp only [terms, term]
  rw [ed, em]
  exact congrArg₂ (· * ·) (show iblk m c 0 t (ix3 0 r x) = V m c main_arg0 (ix3 (grid0.coords t 2) (tok (grid0.coords t 0) r) x) by blk_ext [iblk, e0, tok])
    (show iblk m c 1 t (ix4 0 0 x d) = V m c main_arg1 (ix4 (grid0.coords t 2) 1 x (col (grid0.coords t 1) d)) by blk_ext [iblk, e1, col])

/-- What the block at position `p` (of sixteen) adds at its point `a`. -/
def gain (r d : Fin 1024) (p a : ℕ) : EReal :=
  ∑ x : Fin 704, ext (terms m c (tok ⟨p / 2 % 8, by omega⟩ r) (col ⟨p % 2, by omega⟩ d)) (704 * a + x.val)

theorem gain_eq (r d : Fin 1024) (k : ℕ) (hk : k < cfg0.N) (a : ℕ) :
    ∑ x : Fin 704, ext (terms m c (tok (tile k hk) r) (col (half k) d)) (704 * a + x.val) = gain m c r d (k / 8) a := by
  have hk' : k < 128 := lt_of_lt_of_eq hk N_0
  have e : tile k hk = ⟨k / 8 / 2 % 8, by omega⟩ := Fin.ext (by show k / 16 = k / 8 / 2 % 8; omega)
  rw [e]; rfl

/-- The accumulator after the point at position `k`. -/
theorem acc (r d : Fin 1024) (k : ℕ) (hk : k < cfg0.N) (h7 : ¬k % 8 = 7) :
    (outsAt0 m c k hk).2 (ix2 r d) = ∑ a ∈ Finset.range (k % 8 + 1), gain m c r d (k / 8) a := by
  refine grow (fun k hk => (outsAt0 m c k hk).2 (ix2 r d)) _ (fun k hk h0 => ?_) (fun k hk h0 h7 => ?_) k hk h7
  · have e := outsAt0_A m c ⟨k, hk⟩ h0 (by dsimp only; omega)
    refine (congrArg (fun p => p.2 (ix2 r d)) e).trans ?_
    dsimp only
    rw [acc_A, added m c ⟨k, hk⟩, pay1, zero_add]
    dsimp only
    rw [gain_eq, h0]
  · have e := outsAt0_B m c ⟨k + 1, hk⟩ h0 h7
    refine (congrArg (fun p => p.2 (ix2 r d)) e).trans ?_
    dsimp only
    rw [acc_B, added m c ⟨k + 1, hk⟩]
    dsimp only
    rw [gain_eq]
    rfl

/-- Eight points' gains are the sum over all hidden units. -/
theorem gains (r d : Fin 1024) (k : ℕ) (hk : k < cfg0.N) :
    ∑ a ∈ Finset.range 7, gain m c r d (k / 8) a + gain m c r d (k / 8) 7 = ∑ f, terms m c (tok (tile k hk) r) (col (half k) d) f := by
  rw [← Finset.sum_range_succ, ← sum_cut 8 704 rfl]
  exact Finset.sum_congr rfl fun a _ => (gain_eq m c r d k hk a).symm

/-- The result after a block's last point. -/
theorem last (t : Fin cfg0.N) (h7 : t.val % 8 = 7) (r d : Fin 1024) :
    (outsAt0 m c t.val t.isLt).1 (ix2 r d) =
      total (V m c main_arg0) (V m c main_arg1) (V m c main_arg2) (tok (tile t.val t.isLt) r) (col (half t.val) d) := by
  have er : iblk m c 2 t (ix2 r d) = V m c main_arg2 (ix2 (tok (tile t.val t.isLt) r) (col (half t.val) d)) := by
    obtain ⟨-, -, e2, -⟩ := idx t
    rw [← tile_eq, ← half_eq]
    blk_ext [iblk, e2, tok, col]
  unfold total
  rw [← er]
  obtain ⟨k, hk⟩ := t
  cases k with
  | zero => exact absurd h7 (by show ¬0 % 8 = 7; decide)
  | succ k =>
    dsimp only at h7
    have e := outsAt0_C m c ⟨k + 1, hk⟩ (by dsimp only; omega) h7
    refine (congrArg (fun p => p.1 (ix2 r d)) e).trans ?_
    dsimp only
    rw [out_C, pay3, added m c ⟨k + 1, hk⟩]
    dsimp only
    rw [← gains, gain_eq, h7]
    refine congrArg (fun s : EReal => (_ : EReal) + (_ : EReal) * (s + (_ : EReal))) ((acc m c r d k (Nat.lt_of_succ_lt hk) (by omega)).trans ?_)
    rw [show k % 8 + 1 = 7 by omega, show k / 8 = (k + 1) / 8 by omega]

/-- The result array. -/
theorem array (r : Fin 8192) (d : Fin 2048) :
    (dats m 0 c).arrAt 3 cfg0.N (ix2 r d) = total (V m c main_arg0) (V m c main_arg1) (V m c main_arg2) r d := by
  refine congrFun ((dats m 0 c).arrAt_eq_of_covers 3 (fun z => total (V m c main_arg0) (V m c main_arg1) (V m c main_arg2) (z 0) (z 1))
    (by decide +kernel) fun t hf y => ?_) (ix2 r d)
  have hf' := (flush0_3 t).mp hf
  obtain ⟨-, -, -, e3⟩ := idx t
  blk_simp [e3]
  rw [after0_3]
  have hy : y = ix2 (y 0) (y 1) := eq_ix2 y
  have h0 : (win0_3.blk t).view.emb y 0 = tok (tile t.val t.isLt) (y 0) := by
    rw [← tile_eq]; apply Fin.ext; blk_simp [e3, tok]; exact congrArg (· + _) (Nat.mul_comm _ _)
  have h1 : (win0_3.blk t).view.emb y 1 = col (half t.val) (y 1) := by
    rw [← half_eq]; apply Fin.ext; blk_simp [e3, col]; exact congrArg (· + _) (Nat.mul_comm _ _)
  rw [h0, h1]
  exact (congrArg _ hy).trans (last m c t hf' (y 0) (y 1))

end Cert.Ffn.Down

end
-- ==== Proof.DownValue.lean ====
/- The feed-forward's output added to the residual: the program and the reference leave the same. -/
module

public import proofs.«01_k».proof.Defs
public import proofs.«01_k».proof.Proof.Down
public import proofs.«01_k».proof.Proof.Gen.Reference6Ideal.Run

@[expose] public section

noncomputable section

namespace Cert.Ffn.Down

open Idealize.ShloMosaic Idealize.ShloMosaic.TcCoe Idealize.ShloMosaic.Pointwise Idealize.SL.Sem

section

open Cert.Kernel6Ideal Cert.Kernel6Ideal.Gen

/-- Every run ends with the call's result array and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun _ h c => (h c).1 3) (run_main m ρ)) (unchanged m ρ) |> fun h =>
    (θ_run defs _ _).mono (fun _ h c => ⟨h.1 c, h.2 c⟩) h

end

section

open Cert.Reference6Ideal Cert.Reference6Ideal.Gen

/-- The reference's result, from its arguments. -/
theorem ref_read (A : Vec Ideal S8x8192x704 .bf16) (W : Vec Ideal S8x2x704x2048 .bf16) (X : Vec Ideal S8192x2048 .f32) (r : Fin 8192) (d : Fin 2048) :
    (addf X (mulf (broadcastInDim S8192x2048 ![] bcast_S_S8192x2048 (constant S_ .f32 0x3F000000#32)) (Host.dotGeneral dot_S8192x5632_S5632x2048_S8192x2048_1_0_0_1_n_n none
      (shapeCast _ (transpose S8192x8x704 [1, 0, 2] (extf .f32 A bitsLt_bf16_f32) transposes_S8x8192x704_S8192x8x704_1_0_2) shapeCasts_S8192x8x704_S8192x5632)
      (shapeCast _ (extf .f32 (shapeCast _ (extractStridedSlice S8x1x704x2048 ![0, 1, 0, 0] W slices_S8x2x704x2048_S8x1x704x2048_0_1_0_0) shapeCasts_S8x1x704x2048_S8x704x2048) bitsLt_bf16_f32)
        shapeCasts_S8x704x2048_S5632x2048))) : FVec Ideal S8192x2048 .f32) (ix2 r d)
      = total A W X r d := by
  unfold total
  rw [← ofBits_half]
  pointwise
  rfl

end

/-- The program's result is the reference's, whatever the arguments hold. -/
theorem value_claim : Cert.algebraic_Kernel6Ideal_Reference6Ideal (hKernel6Ideal := Cert.Kernel6Ideal.Gen.facts)
    (hReference6Ideal := Cert.Reference6Ideal.Gen.facts) := by
  intro m ρ m' ρ' _ hm
  refine ⟨_, kernel_run m ρ, ?_⟩
  refine (θ_run _ _ _).mono (fun r h c => ?_) (Cert.Reference6Ideal.Value.run m' ρ')
  obtain ⟨e0, e1, e2⟩ := hm c
  obtain ⟨r0, ha⟩ := h c
  refine ⟨r0.trans (funext fun z => ?_), ha⟩
  have hz : z = ix2 (z 0) (z 1) := eq_ix2 z
  rw [hz, e0, e1, e2]
  exact (ref_read _ _ _ _ _).trans (array m c _ _).symm

end Cert.Ffn.Down

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Value
public import proofs.«01_k».proof.Proof.GateValue
public import proofs.«01_k».proof.Proof.HiddenValue
public import proofs.«01_k».proof.Proof.WgradInValue
public import proofs.«01_k».proof.Proof.WgradOutValue
public import proofs.«01_k».proof.Proof.DownValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Each reference runs to the end, leaves its arguments unchanged and its counters at zero. -/
theorem reference_frame : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)
theorem reference2_frame : Cert.quiescent_Reference2Ideal (hReference2Ideal := Cert.Reference2Ideal.Gen.facts) := fun m ρ _ =>
  (θ_run _ _ _).mono (fun r h => ⟨fun c => (h c).2.2.2.2.2, sem_eq_zero_of_no_sems (by decide) r.2⟩) (Cert.Reference2Ideal.Value.run m ρ)
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)
theorem reference4_frame : Cert.quiescent_Reference4Ideal (hReference4Ideal := Cert.Reference4Ideal.Gen.facts) := fun m ρ _ =>
  (θ_run _ _ _).mono (fun r h => ⟨fun c => (h c).2.2, sem_eq_zero_of_no_sems (by decide) r.2⟩) (Cert.Reference4Ideal.Value.run m ρ)
theorem reference5_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)
theorem reference6_frame : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- All claims of the certificate: the programs and the references run to the end, leave their arguments unchanged and
    their counters at zero; each named constant is the constant that the idealized program names; and over the extended
    reals each program's results are its reference's, for the attention and for the gated unit where every entry of the
    arguments is finite. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Attn.finite_facts, Cert.Ffn.Gate.finite_facts,
    fun m ρ _ => Cert.Kernel.Gen.frame m ρ, fun m ρ _ => Cert.KernelIdeal.Gen.frame m ρ, fun m ρ _ => Cert.KernelIdeal.Gen.frame m ρ,
    fun m ρ _ => reference_frame m ρ trivial, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    fun m ρ _ => reference2_frame m ρ trivial, fun m ρ _ => reference2_frame m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "scale" .f32 0x3D93CD3A#32 (((Real.sqrt 192)⁻¹ : ℝ) : EReal) rfl⟩,
    Cert.Attn.value_claim, trivial, Cert.Ffn.Gate.value_claim, trivial, Cert.Ffn.Hidden.value_claim, trivial, Cert.Ffn.WgradIn.value_claim,
    trivial, Cert.Ffn.WgradOut.value_claim, trivial, Cert.Ffn.Down.value_claim⟩

end Cert.Proof

end
